-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_temp" .f32 0x3FB6DB6E#32 ((16777216 / 11744051 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x64 : Shape := ⟨2, ![1024, 64]⟩
abbrev S1024 : Shape := ⟨1, ![1024]⟩
abbrev S1024x100000 : Shape := ⟨2, ![1024, 100000]⟩
abbrev S64x100000 : Shape := ⟨2, ![64, 100000]⟩
abbrev S32x64 : Shape := ⟨2, ![32, 64]⟩
abbrev S_ : Shape := ⟨0, ![]⟩

class Facts : Prop where
  bcast_S_S1024x64 : S_.BroadcastsInDim S1024x64 (![] : Fin 0 → Fin S1024x64.rank)
  bcast_S_S1024 : S_.BroadcastsInDim S1024 (![] : Fin 0 → Fin S1024.rank)
  bcast_S_S64x100000 : S_.BroadcastsInDim S64x100000 (![] : Fin 0 → Fin S64x100000.rank)
  bcast_S_S32x64 : S_.BroadcastsInDim S32x64 (![] : Fin 0 → Fin S32x64.rank)

variable [Facts]

def fn {F : FTy → Type} [FloatOps F] (main_arg0 : FVec F S1024x64 .f32) (main_arg1 : IVec S1024 32) (main_arg2 : IVec S1024x100000 1) (main_arg3 : FVec F S64x100000 .f32) (main_arg4 : FVec F S32x64 .f32) : IVec S1024x64 1 × IVec S1024 1 × IVec S64x100000 1 × IVec S32x64 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 32 := constantI S_ 32 0#32
  let main_v3 : IVec S1024 32 := broadcastInDim S1024 ![] bcast_S_S1024 main_c
  let main_v4 : IVec S1024 1 := cmpi .sge main_arg1 main_v3
  let main_c_0 : IVec S_ 32 := constantI S_ 32 32#32
  let main_v5 : IVec S1024 32 := broadcastInDim S1024 ![] bcast_S_S1024 main_c_0
  let main_v6 : IVec S1024 1 := cmpi .slt main_arg1 main_v5
  let main_v7 : IVec S1024 1 := andi main_v4 main_v6
  let main_v8 : FVec F S64x100000 .f32 := Host.absf main_arg3
  let main_cst_1 : FVec F S_ .f32 := constant S_ .f32 0x7F800000#32
  let main_v9 : FVec F S64x100000 .f32 := broadcastInDim S64x100000 ![] bcast_S_S64x100000 main_cst_1
  let main_v10 : IVec S64x100000 1 := cmpf .olt main_v8 main_v9
  let main_v11 : FVec F S32x64 .f32 := Host.absf main_arg4
  let main_cst_2 : FVec F S_ .f32 := constant S_ .f32 0x7F800000#32
  let main_v12 : FVec F S32x64 .f32 := broadcastInDim S32x64 ![] bcast_S_S32x64 main_cst_2
  let main_v13 : IVec S32x64 1 := cmpf .olt main_v11 main_v12
  (main_v2, main_v7, main_v10, main_v13)
-- ==== Kernel.lean ====
abbrev S1024x64 : Shape := ⟨2, ![1024, 64]⟩
abbrev S1024 : Shape := ⟨1, ![1024]⟩
abbrev S1024x100000 : Shape := ⟨2, ![1024, 100000]⟩
abbrev S64x100000 : Shape := ⟨2, ![64, 100000]⟩
abbrev S32x64 : Shape := ⟨2, ![32, 64]⟩
abbrev S1024x1 : Shape := ⟨2, ![1024, 1]⟩
abbrev S_ : Shape := ⟨0, ![]⟩
abbrev S1 : Shape := ⟨1, ![1]⟩
abbrev S2 : Shape := ⟨1, ![2]⟩
abbrev S1x1 : Shape := ⟨2, ![1, 1]⟩
abbrev S1024x2048 : Shape := ⟨2, ![1024, 2048]⟩
abbrev S64x2048 : Shape := ⟨2, ![64, 2048]⟩
abbrev S1024x32 : Shape := ⟨2, ![1024, 32]⟩

abbrev nBuf : Space → Nat
  | .hbm => 291
  | .vmem => 30
  | .smem => 0
  | _ => 0

abbrev hbmTy0_0 (i : Nat) : BufTy := match i % 128 with
  | 0 => ⟨S1024x64, .f32⟩
  | 1 => ⟨S1024, .i32⟩
  | 2 => ⟨S1024x100000, .i1⟩
  | 3 => ⟨S64x100000, .f32⟩
  | 4 => ⟨S32x64, .f32⟩
  | 5 => ⟨S1024x1, .i32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S1024x100000, .i64⟩
  | 27 => ⟨S1024x100000, .i64⟩
  | 28 => ⟨S_, .i64⟩
  | 29 => ⟨S1024x100000, .i64⟩
  | 30 => ⟨S1024x100000, .i64⟩
  | 31 => ⟨S_, .i64⟩
  | 32 => ⟨S1024x100000, .i64⟩
  | 33 => ⟨S1024x100000, .i64⟩
  | 34 => ⟨S1024x100000, .i64⟩
  | 35 => ⟨S_, .i64⟩
  | 36 => ⟨S1024x100000, .i64⟩
  | 37 => ⟨S1024x100000, .i64⟩
  | 38 => ⟨S1024x100000, .i32⟩
  | 39 => ⟨S1024x100000, .i32⟩
  | 40 => ⟨S_, .i32⟩
  | 41 => ⟨S_, .i32⟩
  | 42 => ⟨S_, .i32⟩
  | 43 => ⟨S1024x100000, .i32⟩
  | 44 => ⟨S1024x100000, .i32⟩
  | 45 => ⟨S1024x100000, .i32⟩
  | 46 => ⟨S1024x100000, .i32⟩
  | 47 => ⟨S1024x100000, .i32⟩
  | 48 => ⟨S_, .i32⟩
  | 49 => ⟨S1024x100000, .i32⟩
  | 50 => ⟨S1024x100000, .i32⟩
  | 51 => ⟨S_, .i32⟩
  | 52 => ⟨S1024x100000, .i32⟩
  | 53 => ⟨S1024x100000, .i32⟩
  | 54 => ⟨S1024x100000, .i32⟩
  | 55 => ⟨S1024x100000, .i32⟩
  | 56 => ⟨S1024x100000, .i32⟩
  | 57 => ⟨S_, .i32⟩
  | 58 => ⟨S1024x100000, .i32⟩
  | 59 => ⟨S1024x100000, .i32⟩
  | 60 => ⟨S_, .i32⟩
  | 61 => ⟨S1024x100000, .i32⟩
  | 62 => ⟨S1024x100000, .i32⟩
  | 63 => ⟨S1024x100000, .i32⟩
  | 64 => ⟨S1024x100000, .i32⟩
  | 65 => ⟨S1024x100000, .i32⟩
  | 66 => ⟨S_, .i32⟩
  | 67 => ⟨S1024x100000, .i32⟩
  | 68 => ⟨S1024x100000, .i32⟩
  | 69 => ⟨S_, .i32⟩
  | 70 => ⟨S1024x100000, .i32⟩
  | 71 => ⟨S1024x100000, .i32⟩
  | 72 => ⟨S1024x100000, .i32⟩
  | 73 => ⟨S1024x100000, .i32⟩
  | 74 => ⟨S1024x100000, .i32⟩
  | 75 => ⟨S_, .i32⟩
  | 76 => ⟨S1024x100000, .i32⟩
  | 77 => ⟨S1024x100000, .i32⟩
  | 78 => ⟨S_, .i32⟩
  | 79 => ⟨S1024x100000, .i32⟩
  | 80 => ⟨S1024x100000, .i32⟩
  | 81 => ⟨S1024x100000, .i32⟩
  | 82 => ⟨S1024x100000, .i32⟩
  | 83 => ⟨S1024x100000, .i32⟩
  | 84 => ⟨S1024x100000, .i32⟩
  | 85 => ⟨S1024x100000, .i32⟩
  | 86 => ⟨S1024x100000, .i32⟩
  | 87 => ⟨S_, .i32⟩
  | 88 => ⟨S1024x100000, .i32⟩
  | 89 => ⟨S1024x100000, .i32⟩
  | 90 => ⟨S1024x100000, .i32⟩
  | 91 => ⟨S_, .i32⟩
  | 92 => ⟨S1024x100000, .i32⟩
  | 93 => ⟨S1024x100000, .i32⟩
  | 94 => ⟨S_, .i32⟩
  | 95 => ⟨S1024x100000, .i32⟩
  | 96 => ⟨S1024x100000, .i32⟩
  | 97 => ⟨S1024x100000, .i32⟩
  | 98 => ⟨S1024x100000, .i32⟩
  | 99 => ⟨S1024x100000, .i32⟩
  | 100 => ⟨S_, .i32⟩
  | 101 => ⟨S1024x100000, .i32⟩
  | 102 => ⟨S1024x100000, .i32⟩
  | 103 => ⟨S_, .i32⟩
  | 104 => ⟨S1024x100000, .i32⟩
  | 105 => ⟨S1024x100000, .i32⟩
  | 106 => ⟨S1024x100000, .i32⟩
  | 107 => ⟨S1024x100000, .i32⟩
  | 108 => ⟨S1024x100000, .i32⟩
  | 109 => ⟨S_, .i32⟩
  | 110 => ⟨S1024x100000, .i32⟩
  | 111 => ⟨S1024x100000, .i32⟩
  | 112 => ⟨S_, .i32⟩
  | 113 => ⟨S1024x100000, .i32⟩
  | 114 => ⟨S1024x100000, .i32⟩
  | 115 => ⟨S1024x100000, .i32⟩
  | 116 => ⟨S1024x100000, .i32⟩
  | 117 => ⟨S1024x100000, .i32⟩
  | 118 => ⟨S_, .i32⟩
  | 119 => ⟨S1024x100000, .i32⟩
  | 120 => ⟨S1024x100000, .i32⟩
  | 121 => ⟨S_, .i32⟩
  | 122 => ⟨S1024x100000, .i32⟩
  | 123 => ⟨S1024x100000, .i32⟩
  | 124 => ⟨S1024x100000, .i32⟩
  | 125 => ⟨S1024x100000, .i32⟩
  | 126 => ⟨S1024x100000, .i32⟩
  | 127 => ⟨S1024x100000, .i32⟩
  | _ => ⟨S1024x64, .f32⟩

abbrev hbmTy0_1 (i : Nat) : BufTy := match i % 128 with
  | 0 => ⟨S1024x100000, .i32⟩
  | 1 => ⟨S1024x100000, .i32⟩
  | 2 => ⟨S_, .i32⟩
  | 3 => ⟨S1024x100000, .i32⟩
  | 4 => ⟨S1024x100000, .i32⟩
  | 5 => ⟨S1024x100000, .i32⟩
  | 6 => ⟨S_, .i32⟩
  | 7 => ⟨S1024x100000, .i32⟩
  | 8 => ⟨S1024x100000, .i32⟩
  | 9 => ⟨S_, .i32⟩
  | 10 => ⟨S1024x100000, .i32⟩
  | 11 => ⟨S1024x100000, .i32⟩
  | 12 => ⟨S1024x100000, .i32⟩
  | 13 => ⟨S1024x100000, .i32⟩
  | 14 => ⟨S1024x100000, .i32⟩
  | 15 => ⟨S_, .i32⟩
  | 16 => ⟨S1024x100000, .i32⟩
  | 17 => ⟨S1024x100000, .i32⟩
  | 18 => ⟨S_, .i32⟩
  | 19 => ⟨S1024x100000, .i32⟩
  | 20 => ⟨S1024x100000, .i32⟩
  | 21 => ⟨S1024x100000, .i32⟩
  | 22 => ⟨S1024x100000, .i32⟩
  | 23 => ⟨S1024x100000, .i32⟩
  | 24 => ⟨S_, .i32⟩
  | 25 => ⟨S1024x100000, .i32⟩
  | 26 => ⟨S1024x100000, .i32⟩
  | 27 => ⟨S_, .i32⟩
  | 28 => ⟨S1024x100000, .i32⟩
  | 29 => ⟨S1024x100000, .i32⟩
  | 30 => ⟨S1024x100000, .i32⟩
  | 31 => ⟨S1024x100000, .i32⟩
  | 32 => ⟨S1024x100000, .i32⟩
  | 33 => ⟨S_, .i32⟩
  | 34 => ⟨S1024x100000, .i32⟩
  | 35 => ⟨S1024x100000, .i32⟩
  | 36 => ⟨S_, .i32⟩
  | 37 => ⟨S1024x100000, .i32⟩
  | 38 => ⟨S1024x100000, .i32⟩
  | 39 => ⟨S1024x100000, .i32⟩
  | 40 => ⟨S1024x100000, .i32⟩
  | 41 => ⟨S1024x100000, .i32⟩
  | 42 => ⟨S1024x100000, .i32⟩
  | 43 => ⟨S1024x100000, .i32⟩
  | 44 => ⟨S1024x100000, .i32⟩
  | 45 => ⟨S_, .i32⟩
  | 46 => ⟨S1024x100000, .i32⟩
  | 47 => ⟨S1024x100000, .i32⟩
  | 48 => ⟨S1024x100000, .i32⟩
  | 49 => ⟨S_, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S1024x100000, .i32⟩
  | 56 => ⟨S1024x100000, .i32⟩
  | 57 => ⟨S1024x100000, .i32⟩
  | 58 => ⟨S_, .i32⟩
  | 59 => ⟨S1024x100000, .i32⟩
  | 60 => ⟨S1024x100000, .i32⟩
  | 61 => ⟨S_, .i32⟩
  | 62 => ⟨S1024x100000, .i32⟩
  | 63 => ⟨S1024x100000, .i32⟩
  | 64 => ⟨S1024x100000, .i32⟩
  | 65 => ⟨S1024x100000, .i32⟩
  | 66 => ⟨S1024x100000, .i32⟩
  | 67 => ⟨S_, .i32⟩
  | 68 => ⟨S1024x100000, .i32⟩
  | 69 => ⟨S1024x100000, .i32⟩
  | 70 => ⟨S_, .i32⟩
  | 71 => ⟨S1024x100000, .i32⟩
  | 72 => ⟨S1024x100000, .i32⟩
  | 73 => ⟨S1024x100000, .i32⟩
  | 74 => ⟨S1024x100000, .i32⟩
  | 75 => ⟨S1024x100000, .i32⟩
  | 76 => ⟨S_, .i32⟩
  | 77 => ⟨S1024x100000, .i32⟩
  | 78 => ⟨S1024x100000, .i32⟩
  | 79 => ⟨S_, .i32⟩
  | 80 => ⟨S1024x100000, .i32⟩
  | 81 => ⟨S1024x100000, .i32⟩
  | 82 => ⟨S1024x100000, .i32⟩
  | 83 => ⟨S1024x100000, .i32⟩
  | 84 => ⟨S1024x100000, .i32⟩
  | 85 => ⟨S1024x100000, .i32⟩
  | 86 => ⟨S1024x100000, .i32⟩
  | 87 => ⟨S1024x100000, .i32⟩
  | 88 => ⟨S_, .i32⟩
  | 89 => ⟨S1024x100000, .i32⟩
  | 90 => ⟨S1024x100000, .i32⟩
  | 91 => ⟨S1024x100000, .i32⟩
  | 92 => ⟨S_, .i32⟩
  | 93 => ⟨S1024x100000, .i32⟩
  | 94 => ⟨S1024x100000, .i32⟩
  | 95 => ⟨S_, .i32⟩
  | 96 => ⟨S1024x100000, .i32⟩
  | 97 => ⟨S1024x100000, .i32⟩
  | 98 => ⟨S1024x100000, .i32⟩
  | 99 => ⟨S1024x100000, .i32⟩
  | 100 => ⟨S1024x100000, .i32⟩
  | 101 => ⟨S_, .i32⟩
  | 102 => ⟨S1024x100000, .i32⟩
  | 103 => ⟨S1024x100000, .i32⟩
  | 104 => ⟨S_, .i32⟩
  | 105 => ⟨S1024x100000, .i32⟩
  | 106 => ⟨S1024x100000, .i32⟩
  | 107 => ⟨S1024x100000, .i32⟩
  | 108 => ⟨S1024x100000, .i32⟩
  | 109 => ⟨S1024x100000, .i32⟩
  | 110 => ⟨S_, .i32⟩
  | 111 => ⟨S1024x100000, .i32⟩
  | 112 => ⟨S1024x100000, .i32⟩
  | 113 => ⟨S_, .i32⟩
  | 114 => ⟨S1024x100000, .i32⟩
  | 115 => ⟨S1024x100000, .i32⟩
  | 116 => ⟨S1024x100000, .i32⟩
  | 117 => ⟨S1024x100000, .i32⟩
  | 118 => ⟨S1024x100000, .i32⟩
  | 119 => ⟨S_, .i32⟩
  | 120 => ⟨S1024x100000, .i32⟩
  | 121 => ⟨S1024x100000, .i32⟩
  | 122 => ⟨S_, .i32⟩
  | 123 => ⟨S1024x100000, .i32⟩
  | 124 => ⟨S1024x100000, .i32⟩
  | 125 => ⟨S1024x100000, .i32⟩
  | 126 => ⟨S1024x100000, .i32⟩
  | 127 => ⟨S1024x100000, .i32⟩
  | _ => ⟨S1024x64, .f32⟩

abbrev hbmTy0_2 (i : Nat) : BufTy := match i % 128 with
  | 0 => ⟨S1024x100000, .i32⟩
  | 1 => ⟨S1024x100000, .i32⟩
  | 2 => ⟨S1024x100000, .i32⟩
  | 3 => ⟨S_, .i32⟩
  | 4 => ⟨S1024x100000, .i32⟩
  | 5 => ⟨S1024x100000, .i32⟩
  | 6 => ⟨S1024x100000, .i32⟩
  | 7 => ⟨S_, .i32⟩
  | 8 => ⟨S1024x100000, .i32⟩
  | 9 => ⟨S1024x100000, .i32⟩
  | 10 => ⟨S_, .i32⟩
  | 11 => ⟨S1024x100000, .i32⟩
  | 12 => ⟨S1024x100000, .i32⟩
  | 13 => ⟨S1024x100000, .f32⟩
  | 14 => ⟨S_, .f32⟩
  | 15 => ⟨S1024x100000, .f32⟩
  | 16 => ⟨S1024x100000, .f32⟩
  | 17 => ⟨S1x1, .f32⟩
  | 18 => ⟨S1024x100000, .f32⟩
  | 19 => ⟨S1024x100000, .f32⟩
  | 20 => ⟨S1024x100000, .f32⟩
  | 21 => ⟨S1024x100000, .f32⟩
  | 22 => ⟨S1024x100000, .f32⟩
  | 23 => ⟨S1024x100000, .f32⟩
  | 24 => ⟨S1024x100000, .f32⟩
  | 25 => ⟨S1024x100000, .f32⟩
  | 26 => ⟨S1024x100000, .f32⟩
  | 27 => ⟨S1024x100000, .f32⟩
  | 28 => ⟨S1024x100000, .i32⟩
  | 29 => ⟨S1024x1, .f32⟩
  | 30 => ⟨S1024x1, .f32⟩
  | 31 => ⟨S1024x1, .i32⟩
  | 32 => ⟨S1024x100000, .i32⟩
  | 33 => ⟨S1024x100000, .f32⟩
  | 34 => ⟨S1024, .i32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | .local _ .vmem, ⟨0, _⟩ => ⟨S1024x64, .f32⟩
  | .local _ .vmem, ⟨1, _⟩ => ⟨S1024x1, .i32⟩
  | .local _ .vmem, ⟨2, _⟩ => ⟨S32x64, .f32⟩
  | .local _ .vmem, ⟨3, _⟩ => ⟨S1024x2048, .i32⟩
  | .local _ .vmem, ⟨4, _⟩ => ⟨S1024x2048, .i32⟩
  | .local _ .vmem, ⟨5, _⟩ => ⟨S64x2048, .f32⟩
  | .local _ .vmem, ⟨6, _⟩ => ⟨S64x2048, .f32⟩
  | .local _ .vmem, ⟨7, _⟩ => ⟨S1024x2048, .f32⟩
  | .local _ .vmem, ⟨8, _⟩ => ⟨S1024x2048, .f32⟩
  | .local _ .vmem, ⟨9, _⟩ => ⟨S1024x1, .f32⟩
  | .local _ .vmem, ⟨10, _⟩ => ⟨S1024x1, .f32⟩
  | .local _ .vmem, ⟨11, _⟩ => ⟨S1024x1, .i32⟩
  | .local _ .vmem, ⟨12, _⟩ => ⟨S1024x64, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x64, .f32⟩
  | .local _ .vmem, ⟨18, _⟩ => ⟨S1024x1, .i32⟩
  | .local _ .vmem, ⟨19, _⟩ => ⟨S32x64, .f32⟩
  | .local _ .vmem, ⟨20, _⟩ => ⟨S1024x2048, .i32⟩
  | .local _ .vmem, ⟨21, _⟩ => ⟨S1024x2048, .i32⟩
  | .local _ .vmem, ⟨22, _⟩ => ⟨S64x2048, .f32⟩
  | .local _ .vmem, ⟨23, _⟩ => ⟨S64x2048, .f32⟩
  | .local _ .vmem, ⟨24, _⟩ => ⟨S1024x1, .f32⟩
  | .local _ .vmem, ⟨25, _⟩ => ⟨S1024x1, .f32⟩
  | .local _ .vmem, ⟨26, _⟩ => ⟨S1024x2048, .f32⟩
  | .local _ .vmem, ⟨27, _⟩ => ⟨S1024x2048, .f32⟩
  | .local _ .vmem, ⟨28, _⟩ => ⟨S1024x64, .f32⟩
  | .local _ .vmem, ⟨29, _⟩ => ⟨S1024x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_c : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_c_1 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v19_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v19_1 : Ref sig .tc := ⟨.hbm, 261, rfl⟩
abbrev main_call0_v20 : Ref sig .tc := ⟨.hbm, 262, rfl⟩
abbrev main_call0_c_2 : Ref sig .tc := ⟨.hbm, 263, rfl⟩
abbrev main_call0_v21 : Ref sig .tc := ⟨.hbm, 264, rfl⟩
abbrev main_call0_v22 : Ref sig .tc := ⟨.hbm, 265, rfl⟩
abbrev main_call0_c_3 : Ref sig .tc := ⟨.hbm, 266, rfl⟩
abbrev main_call0_v23 : Ref sig .tc := ⟨.hbm, 267, rfl⟩
abbrev main_call0_v24 : Ref sig .tc := ⟨.hbm, 268, rfl⟩
abbrev main_call0_v25 : Ref sig .tc := ⟨.hbm, 269, rfl⟩
abbrev main_call0_cst : Ref sig .tc := ⟨.hbm, 270, rfl⟩
abbrev main_call0_v26 : Ref sig .tc := ⟨.hbm, 271, rfl⟩
abbrev main_call0_v27 : Ref sig .tc := ⟨.hbm, 272, rfl⟩
abbrev main_call0_v28 : Ref sig .tc := ⟨.hbm, 273, rfl⟩
abbrev main_call0_v29 : Ref sig .tc := ⟨.hbm, 274, rfl⟩
abbrev main_call0_v30 : Ref sig .tc := ⟨.hbm, 275, rfl⟩
abbrev main_call0_v31 : Ref sig .tc := ⟨.hbm, 276, rfl⟩
abbrev main_call0_v32 : Ref sig .tc := ⟨.hbm, 277, rfl⟩
abbrev main_call0_v33 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev main_v14_0 : Ref sig .tc := ⟨.hbm, 285, rfl⟩
abbrev main_v14_1 : Ref sig .tc := ⟨.hbm, 286, rfl⟩
abbrev main_v14_2 : Ref sig .tc := ⟨.hbm, 287, rfl⟩
abbrev main_v15 : Ref sig .tc := ⟨.hbm, 288, rfl⟩
abbrev main_v16 : Ref sig .tc := ⟨.hbm, 289, rfl⟩
abbrev main_v17 : Ref sig .tc := ⟨.hbm, 290, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v68 : BitVec 1 := Scalar.cmpi .eq arg0 c48_i32
  let v69 : BitVec 32 := Scalar.extui v68
  let c0_i32_37 : BitVec 32 := 0#32
  let v70 : BitVec 1 := Scalar.cmpi .ne v69 c0_i32_37
  v70

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "inv_temp" => some ((16777216 / 11744051 : ℝ) : EReal)
  | _ => none
-- ==== ReferenceIdeal.lean ====
abbrev S1024x64 : Shape := ⟨2, ![1024, 64]⟩
abbrev S1024 : Shape := ⟨1, ![1024]⟩
abbrev S1024x100000 : Shape := ⟨2, ![1024, 100000]⟩
abbrev S64x100000 : Shape := ⟨2, ![64, 100000]⟩
abbrev S32x64 : Shape := ⟨2, ![32, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S2 : Shape := ⟨1, ![2]⟩

abbrev nBuf : Space → Nat
  | .hbm => 335
  | .vmem => 0
  | .smem => 0
  | _ => 0

abbrev hbmTy0_0 (i : Nat) : BufTy := match i % 128 with
  | 0 => ⟨S1024x64, .f32⟩
  | 1 => ⟨S1024, .i32⟩
  | 2 => ⟨S1024x100000, .i1⟩
  | 3 => ⟨S64x100000, .f32⟩
  | 4 => ⟨S32x64, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S1, .i32⟩
  | 14 => ⟨S_, .i32⟩
  | 15 => ⟨S1024x1, .i32⟩
  | 16 => ⟨S1024x1, .i1⟩
  | 17 => ⟨S1x1, .i32⟩
  | 18 => ⟨S1024x1, .i32⟩
  | 19 => ⟨S1024x1, .i1⟩
  | 20 => ⟨S1024x1, .i1⟩
  | 21 => ⟨S_, .i1⟩
  | 22 => ⟨S1024, .i1⟩
  | 23 => ⟨S1024x64, .f32⟩
  | 24 => ⟨S1024x64, .i1⟩
  | 25 => ⟨S_, .f32⟩
  | 26 => ⟨S1024x64, .f32⟩
  | 27 => ⟨S1024x64, .f32⟩
  | 28 => ⟨S1024x64, .f32⟩
  | 29 => ⟨S1024x100000, .f32⟩
  | 30 => ⟨S_, .f32⟩
  | 31 => ⟨S1024x100000, .f32⟩
  | 32 => ⟨S1024x100000, .f32⟩
  | 33 => ⟨S_, .f32⟩
  | 34 => ⟨S1024, .f32⟩
  | 35 => ⟨S_, .f32⟩
  | 36 => ⟨S1024, .f32⟩
  | 37 => ⟨S1024, .f32⟩
  | 38 => ⟨S1024x1, .f32⟩
  | 39 => ⟨S1024x100000, .f32⟩
  | 40 => ⟨S1024x100000, .f32⟩
  | 41 => ⟨S1024x100000, .f32⟩
  | 42 => ⟨S_, .f32⟩
  | 43 => ⟨S1024, .f32⟩
  | 44 => ⟨S1024x1, .f32⟩
  | 45 => ⟨S1024x1, .f32⟩
  | 46 => ⟨S1024x100000, .f32⟩
  | 47 => ⟨S1024x100000, .f32⟩
  | 48 => ⟨S_, .f32⟩
  | 49 => ⟨S1024x100000, .f32⟩
  | 50 => ⟨S1024x100000, .f32⟩
  | 51 => ⟨S_, .i32⟩
  | 52 => ⟨S_, .i32⟩
  | 53 => ⟨S_, .i32⟩
  | 54 => ⟨S_, .i32⟩
  | 55 => ⟨S1, .i32⟩
  | 56 => ⟨S_, .i32⟩
  | 57 => ⟨S_, .i32⟩
  | 58 => ⟨S_, .i32⟩
  | 59 => ⟨S1, .i32⟩
  | 60 => ⟨S2, .i32⟩
  | 61 => ⟨S_, .f32⟩
  | 62 => ⟨S_, .f32⟩
  | 63 => ⟨S_, .f32⟩
  | 64 => ⟨S_, .f32⟩
  | 65 => ⟨S1x1, .f32⟩
  | 66 => ⟨S1x1, .f32⟩
  | 67 => ⟨S1, .i32⟩
  | 68 => ⟨S_, .i32⟩
  | 69 => ⟨S1, .i32⟩
  | 70 => ⟨S_, .i32⟩
  | 71 => ⟨S1024x100000, .i64⟩
  | 72 => ⟨S1024x100000, .i64⟩
  | 73 => ⟨S_, .i64⟩
  | 74 => ⟨S1024x100000, .i64⟩
  | 75 => ⟨S1024x100000, .i64⟩
  | 76 => ⟨S_, .i64⟩
  | 77 => ⟨S1024x100000, .i64⟩
  | 78 => ⟨S1024x100000, .i64⟩
  | 79 => ⟨S1024x100000, .i64⟩
  | 80 => ⟨S_, .i64⟩
  | 81 => ⟨S1024x100000, .i64⟩
  | 82 => ⟨S1024x100000, .i64⟩
  | 83 => ⟨S1024x100000, .i32⟩
  | 84 => ⟨S1024x100000, .i32⟩
  | 85 => ⟨S_, .i32⟩
  | 86 => ⟨S_, .i32⟩
  | 87 => ⟨S_, .i32⟩
  | 88 => ⟨S1024x100000, .i32⟩
  | 89 => ⟨S1024x100000, .i32⟩
  | 90 => ⟨S1024x100000, .i32⟩
  | 91 => ⟨S1024x100000, .i32⟩
  | 92 => ⟨S1024x100000, .i32⟩
  | 93 => ⟨S_, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S1024x100000, .i32⟩
  | 100 => ⟨S1024x100000, .i32⟩
  | 101 => ⟨S1024x100000, .i32⟩
  | 102 => ⟨S_, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S1024x100000, .i32⟩
  | 109 => ⟨S1024x100000, .i32⟩
  | 110 => ⟨S1024x100000, .i32⟩
  | 111 => ⟨S_, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S1024x100000, .i32⟩
  | 118 => ⟨S1024x100000, .i32⟩
  | 119 => ⟨S1024x100000, .i32⟩
  | 120 => ⟨S_, .i32⟩
  | 121 => ⟨S1024x100000, .i32⟩
  | 122 => ⟨S1024x100000, .i32⟩
  | 123 => ⟨S_, .i32⟩
  | 124 => ⟨S1024x100000, .i32⟩
  | 125 => ⟨S1024x100000, .i32⟩
  | 126 => ⟨S1024x100000, .i32⟩
  | 127 => ⟨S1024x100000, .i32⟩
  | _ => ⟨S1024x64, .f32⟩

abbrev hbmTy0_1 (i : Nat) : BufTy := match i % 128 with
  | 0 => ⟨S1024x100000, .i32⟩
  | 1 => ⟨S1024x100000, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S1024x100000, .i32⟩
  | 8 => ⟨S_, .i32⟩
  | 9 => ⟨S1024x100000, .i32⟩
  | 10 => ⟨S1024x100000, .i32⟩
  | 11 => ⟨S_, .i32⟩
  | 12 => ⟨S1024x100000, .i32⟩
  | 13 => ⟨S1024x100000, .i32⟩
  | 14 => ⟨S1024x100000, .i32⟩
  | 15 => ⟨S1024x100000, .i32⟩
  | 16 => ⟨S1024x100000, .i32⟩
  | 17 => ⟨S_, .i32⟩
  | 18 => ⟨S1024x100000, .i32⟩
  | 19 => ⟨S1024x100000, .i32⟩
  | 20 => ⟨S_, .i32⟩
  | 21 => ⟨S1024x100000, .i32⟩
  | 22 => ⟨S1024x100000, .i32⟩
  | 23 => ⟨S1024x100000, .i32⟩
  | 24 => ⟨S1024x100000, .i32⟩
  | 25 => ⟨S1024x100000, .i32⟩
  | 26 => ⟨S_, .i32⟩
  | 27 => ⟨S1024x100000, .i32⟩
  | 28 => ⟨S1024x100000, .i32⟩
  | 29 => ⟨S_, .i32⟩
  | 30 => ⟨S1024x100000, .i32⟩
  | 31 => ⟨S1024x100000, .i32⟩
  | 32 => ⟨S1024x100000, .i32⟩
  | 33 => ⟨S1024x100000, .i32⟩
  | 34 => ⟨S1024x100000, .i32⟩
  | 35 => ⟨S_, .i32⟩
  | 36 => ⟨S1024x100000, .i32⟩
  | 37 => ⟨S1024x100000, .i32⟩
  | 38 => ⟨S_, .i32⟩
  | 39 => ⟨S1024x100000, .i32⟩
  | 40 => ⟨S1024x100000, .i32⟩
  | 41 => ⟨S1024x100000, .i32⟩
  | 42 => ⟨S1024x100000, .i32⟩
  | 43 => ⟨S1024x100000, .i32⟩
  | 44 => ⟨S1024x100000, .i32⟩
  | 45 => ⟨S1024x100000, .i32⟩
  | 46 => ⟨S1024x100000, .i32⟩
  | 47 => ⟨S_, .i32⟩
  | 48 => ⟨S1024x100000, .i32⟩
  | 49 => ⟨S1024x100000, .i32⟩
  | 50 => ⟨S1024x100000, .i32⟩
  | 51 => ⟨S_, .i32⟩
  | 52 => ⟨S1024x100000, .i32⟩
  | 53 => ⟨S1024x100000, .i32⟩
  | 54 => ⟨S_, .i32⟩
  | 55 => ⟨S1024x100000, .i32⟩
  | 56 => ⟨S1024x100000, .i32⟩
  | 57 => ⟨S1024x100000, .i32⟩
  | 58 => ⟨S1024x100000, .i32⟩
  | 59 => ⟨S1024x100000, .i32⟩
  | 60 => ⟨S_, .i32⟩
  | 61 => ⟨S1024x100000, .i32⟩
  | 62 => ⟨S1024x100000, .i32⟩
  | 63 => ⟨S_, .i32⟩
  | 64 => ⟨S1024x100000, .i32⟩
  | 65 => ⟨S1024x100000, .i32⟩
  | 66 => ⟨S1024x100000, .i32⟩
  | 67 => ⟨S1024x100000, .i32⟩
  | 68 => ⟨S1024x100000, .i32⟩
  | 69 => ⟨S_, .i32⟩
  | 70 => ⟨S1024x100000, .i32⟩
  | 71 => ⟨S1024x100000, .i32⟩
  | 72 => ⟨S_, .i32⟩
  | 73 => ⟨S1024x100000, .i32⟩
  | 74 => ⟨S1024x100000, .i32⟩
  | 75 => ⟨S1024x100000, .i32⟩
  | 76 => ⟨S1024x100000, .i32⟩
  | 77 => ⟨S1024x100000, .i32⟩
  | 78 => ⟨S_, .i32⟩
  | 79 => ⟨S1024x100000, .i32⟩
  | 80 => ⟨S1024x100000, .i32⟩
  | 81 => ⟨S_, .i32⟩
  | 82 => ⟨S1024x100000, .i32⟩
  | 83 => ⟨S1024x100000, .i32⟩
  | 84 => ⟨S1024x100000, .i32⟩
  | 85 => ⟨S1024x100000, .i32⟩
  | 86 => ⟨S1024x100000, .i32⟩
  | 87 => ⟨S1024x100000, .i32⟩
  | 88 => ⟨S1024x100000, .i32⟩
  | 89 => ⟨S1024x100000, .i32⟩
  | 90 => ⟨S_, .i32⟩
  | 91 => ⟨S1024x100000, .i32⟩
  | 92 => ⟨S1024x100000, .i32⟩
  | 93 => ⟨S1024x100000, .i32⟩
  | 94 => ⟨S_, .i32⟩
  | 95 => ⟨S1024x100000, .i32⟩
  | 96 => ⟨S1024x100000, .i32⟩
  | 97 => ⟨S_, .i32⟩
  | 98 => ⟨S1024x100000, .i32⟩
  | 99 => ⟨S1024x100000, .i32⟩
  | 100 => ⟨S1024x100000, .i32⟩
  | 101 => ⟨S1024x100000, .i32⟩
  | 102 => ⟨S1024x100000, .i32⟩
  | 103 => ⟨S_, .i32⟩
  | 104 => ⟨S1024x100000, .i32⟩
  | 105 => ⟨S1024x100000, .i32⟩
  | 106 => ⟨S_, .i32⟩
  | 107 => ⟨S1024x100000, .i32⟩
  | 108 => ⟨S1024x100000, .i32⟩
  | 109 => ⟨S1024x100000, .i32⟩
  | 110 => ⟨S1024x100000, .i32⟩
  | 111 => ⟨S1024x100000, .i32⟩
  | 112 => ⟨S_, .i32⟩
  | 113 => ⟨S1024x100000, .i32⟩
  | 114 => ⟨S1024x100000, .i32⟩
  | 115 => ⟨S_, .i32⟩
  | 116 => ⟨S1024x100000, .i32⟩
  | 117 => ⟨S1024x100000, .i32⟩
  | 118 => ⟨S1024x100000, .i32⟩
  | 119 => ⟨S1024x100000, .i32⟩
  | 120 => ⟨S1024x100000, .i32⟩
  | 121 => ⟨S_, .i32⟩
  | 122 => ⟨S1024x100000, .i32⟩
  | 123 => ⟨S1024x100000, .i32⟩
  | 124 => ⟨S_, .i32⟩
  | 125 => ⟨S1024x100000, .i32⟩
  | 126 => ⟨S1024x100000, .i32⟩
  | 127 => ⟨S1024x100000, .i32⟩
  | _ => ⟨S1024x64, .f32⟩

abbrev hbmTy0_2 (i : Nat) : BufTy := match i % 128 with
  | 0 => ⟨S1024x100000, .i32⟩
  | 1 => ⟨S1024x100000, .i32⟩
  | 2 => ⟨S1024x100000, .i32⟩
  | 3 => ⟨S1024x100000, .i32⟩
  | 4 => ⟨S1024x100000, .i32⟩
  | 5 => ⟨S_, .i32⟩
  | 6 => ⟨S1024x100000, .i32⟩
  | 7 => ⟨S1024x100000, .i32⟩
  | 8 => ⟨S1024x100000, .i32⟩
  | 9 => ⟨S_, .i32⟩
  | 10 => ⟨S1024x100000, .i32⟩
  | 11 => ⟨S1024x100000, .i32⟩
  | 12 => ⟨S_, .i32⟩
  | 13 => ⟨S1024x100000, .i32⟩
  | 14 => ⟨S1024x100000, .i32⟩
  | 15 => ⟨S1024x100000, .i32⟩
  | 16 => ⟨S1024x100000, .i32⟩
  | 17 => ⟨S1024x100000, .i32⟩
  | 18 => ⟨S_, .i32⟩
  | 19 => ⟨S1024x100000, .i32⟩
  | 20 => ⟨S1024x100000, .i32⟩
  | 21 => ⟨S_, .i32⟩
  | 22 => ⟨S1024x100000, .i32⟩
  | 23 => ⟨S1024x100000, .i32⟩
  | 24 => ⟨S1024x100000, .i32⟩
  | 25 => ⟨S1024x100000, .i32⟩
  | 26 => ⟨S1024x100000, .i32⟩
  | 27 => ⟨S_, .i32⟩
  | 28 => ⟨S1024x100000, .i32⟩
  | 29 => ⟨S1024x100000, .i32⟩
  | 30 => ⟨S_, .i32⟩
  | 31 => ⟨S1024x100000, .i32⟩
  | 32 => ⟨S1024x100000, .i32⟩
  | 33 => ⟨S1024x100000, .i32⟩
  | 34 => ⟨S1024x100000, .i32⟩
  | 35 => ⟨S1024x100000, .i32⟩
  | 36 => ⟨S_, .i32⟩
  | 37 => ⟨S1024x100000, .i32⟩
  | 38 => ⟨S1024x100000, .i32⟩
  | 39 => ⟨S_, .i32⟩
  | 40 => ⟨S1024x100000, .i32⟩
  | 41 => ⟨S1024x100000, .i32⟩
  | 42 => ⟨S1024x100000, .i32⟩
  | 43 => ⟨S1024x100000, .i32⟩
  | 44 => ⟨S1024x100000, .i32⟩
  | 45 => ⟨S1024x100000, .i32⟩
  | 46 => ⟨S1024x100000, .i32⟩
  | 47 => ⟨S1024x100000, .i32⟩
  | 48 => ⟨S_, .i32⟩
  | 49 => ⟨S1024x100000, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S_, .i32⟩
  | 56 => ⟨S1024x100000, .i32⟩
  | 57 => ⟨S1024x100000, .i32⟩
  | 58 => ⟨S1024x100000, .f32⟩
  | 59 => ⟨S_, .f32⟩
  | 60 => ⟨S1024x100000, .f32⟩
  | 61 => ⟨S1024x100000, .f32⟩
  | 62 => ⟨S1x1, .f32⟩
  | 63 => ⟨S1024x100000, .f32⟩
  | 64 => ⟨S1024x100000, .f32⟩
  | 65 => ⟨S1024x100000, .f32⟩
  | 66 => ⟨S1024x100000, .f32⟩
  | 67 => ⟨S1024x100000, .f32⟩
  | 68 => ⟨S1024x100000, .f32⟩
  | 69 => ⟨S1024x100000, .f32⟩
  | 70 => ⟨S1024x100000, .f32⟩
  | 71 => ⟨S1024x100000, .f32⟩
  | 72 => ⟨S1024x100000, .f32⟩
  | 73 => ⟨S1024x100000, .f32⟩
  | 74 => ⟨S1024x100000, .i32⟩
  | 75 => ⟨S_, .f32⟩
  | 76 => ⟨S_, .i32⟩
  | 77 => ⟨S1024, .f32⟩
  | 78 => ⟨S1024, .i32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_call1_v0 : Ref sig .tc := ⟨.hbm, 31, rfl⟩
abbrev main_v3 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v4 : Ref sig .tc := ⟨.hbm, 47, rfl⟩
abbrev main_cst_0 : Ref sig .tc := ⟨.hbm, 48, rfl⟩
abbrev main_v5 : Ref sig .tc := ⟨.hbm, 49, rfl⟩
abbrev main_v6 : Ref sig .tc := ⟨.hbm, 50, rfl⟩
abbrev main_c : Ref sig .tc := ⟨.hbm, 51, rfl⟩
abbrev main_c_1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_c_2 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst_3 : Ref sig .tc := ⟨.hbm, 61, rfl⟩
abbrev main_cst_4 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_c : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_call3_c_1 : Ref sig .tc := ⟨.hbm, 80, rfl⟩
abbrev main_call3_v15 : Ref sig .tc := ⟨.hbm, 81, rfl⟩
abbrev main_call3_v16 : Ref sig .tc := ⟨.hbm, 82, rfl⟩
abbrev main_call3_v17 : Ref sig .tc := ⟨.hbm, 83, rfl⟩
abbrev main_call3_v18 : Ref sig .tc := ⟨.hbm, 84, rfl⟩
abbrev main_call3_call0_v0 : Ref sig .tc := ⟨.hbm, 85, rfl⟩
abbrev main_call3_call0_c : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_c_0 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_c_1 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_call0_v12 : Ref sig .tc := ⟨.hbm, 100, rfl⟩
abbrev main_call3_call0_v13 : Ref sig .tc := ⟨.hbm, 101, rfl⟩
abbrev main_call3_call0_c_2 : Ref sig .tc := ⟨.hbm, 102, rfl⟩
abbrev main_call3_call0_v14 : Ref sig .tc := ⟨.hbm, 103, rfl⟩
abbrev main_call3_call0_v15 : Ref sig .tc := ⟨.hbm, 104, rfl⟩
abbrev main_call3_call0_c_3 : Ref sig .tc := ⟨.hbm, 105, rfl⟩
abbrev main_call3_call0_v16 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_c_4 : Ref sig .tc := ⟨.hbm, 111, rfl⟩
abbrev main_call3_call0_v21 : Ref sig .tc := ⟨.hbm, 112, rfl⟩
abbrev main_call3_call0_v22 : Ref sig .tc := ⟨.hbm, 113, rfl⟩
abbrev main_call3_call0_c_5 : Ref sig .tc := ⟨.hbm, 114, rfl⟩
abbrev main_call3_call0_v23 : Ref sig .tc := ⟨.hbm, 115, rfl⟩
abbrev main_call3_call0_v24 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_v27 : Ref sig .tc := ⟨.hbm, 119, rfl⟩
abbrev main_call3_call0_c_6 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_c_7 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_v32 : Ref sig .tc := ⟨.hbm, 126, rfl⟩
abbrev main_call3_call0_v33 : Ref sig .tc := ⟨.hbm, 127, rfl⟩
abbrev main_call3_call0_v34 : Ref sig .tc := ⟨.hbm, 128, rfl⟩
abbrev main_call3_call0_v35 : Ref sig .tc := ⟨.hbm, 129, rfl⟩
abbrev main_call3_call0_v36 : Ref sig .tc := ⟨.hbm, 130, rfl⟩
abbrev main_call3_call0_v37 : Ref sig .tc := ⟨.hbm, 131, rfl⟩
abbrev main_call3_call0_c_8 : Ref sig .tc := ⟨.hbm, 132, rfl⟩
abbrev main_call3_call0_v38 : Ref sig .tc := ⟨.hbm, 133, rfl⟩
abbrev main_call3_call0_v39 : Ref sig .tc := ⟨.hbm, 134, rfl⟩
abbrev main_call3_call0_v40 : Ref sig .tc := ⟨.hbm, 135, rfl⟩
abbrev main_call3_call0_c_9 : Ref sig .tc := ⟨.hbm, 136, rfl⟩
abbrev main_call3_call0_v41 : Ref sig .tc := ⟨.hbm, 137, rfl⟩
abbrev main_call3_call0_v42 : Ref sig .tc := ⟨.hbm, 138, rfl⟩
abbrev main_call3_call0_c_10 : Ref sig .tc := ⟨.hbm, 139, rfl⟩
abbrev main_call3_call0_v43 : Ref sig .tc := ⟨.hbm, 140, rfl⟩
abbrev main_call3_call0_v44 : Ref sig .tc := ⟨.hbm, 141, rfl⟩
abbrev main_call3_call0_v45 : Ref sig .tc := ⟨.hbm, 142, rfl⟩
abbrev main_call3_call0_v46 : Ref sig .tc := ⟨.hbm, 143, rfl⟩
abbrev main_call3_call0_v47 : Ref sig .tc := ⟨.hbm, 144, rfl⟩
abbrev main_call3_call0_c_11 : Ref sig .tc := ⟨.hbm, 145, rfl⟩
abbrev main_call3_call0_v48 : Ref sig .tc := ⟨.hbm, 146, rfl⟩
abbrev main_call3_call0_v49 : Ref sig .tc := ⟨.hbm, 147, rfl⟩
abbrev main_call3_call0_c_12 : Ref sig .tc := ⟨.hbm, 148, rfl⟩
abbrev main_call3_call0_v50 : Ref sig .tc := ⟨.hbm, 149, rfl⟩
abbrev main_call3_call0_v51 : Ref sig .tc := ⟨.hbm, 150, rfl⟩
abbrev main_call3_call0_v52 : Ref sig .tc := ⟨.hbm, 151, rfl⟩
abbrev main_call3_call0_v53 : Ref sig .tc := ⟨.hbm, 152, rfl⟩
abbrev main_call3_call0_v54 : Ref sig .tc := ⟨.hbm, 153, rfl⟩
abbrev main_call3_call0_c_13 : Ref sig .tc := ⟨.hbm, 154, rfl⟩
abbrev main_call3_call0_v55 : Ref sig .tc := ⟨.hbm, 155, rfl⟩
abbrev main_call3_call0_v56 : Ref sig .tc := ⟨.hbm, 156, rfl⟩
abbrev main_call3_call0_c_14 : Ref sig .tc := ⟨.hbm, 157, rfl⟩
abbrev main_call3_call0_v57 : Ref sig .tc := ⟨.hbm, 158, rfl⟩
abbrev main_call3_call0_v58 : Ref sig .tc := ⟨.hbm, 159, rfl⟩
abbrev main_call3_call0_v59 : Ref sig .tc := ⟨.hbm, 160, rfl⟩
abbrev main_call3_call0_v60 : Ref sig .tc := ⟨.hbm, 161, rfl⟩
abbrev main_call3_call0_v61 : Ref sig .tc := ⟨.hbm, 162, rfl⟩
abbrev main_call3_call0_c_15 : Ref sig .tc := ⟨.hbm, 163, rfl⟩
abbrev main_call3_call0_v62 : Ref sig .tc := ⟨.hbm, 164, rfl⟩
abbrev main_call3_call0_v63 : Ref sig .tc := ⟨.hbm, 165, rfl⟩
abbrev main_call3_call0_c_16 : Ref sig .tc := ⟨.hbm, 166, rfl⟩
abbrev main_call3_call0_v64 : Ref sig .tc := ⟨.hbm, 167, rfl⟩
abbrev main_call3_call0_v65 : Ref sig .tc := ⟨.hbm, 168, rfl⟩
abbrev main_call3_call0_v66 : Ref sig .tc := ⟨.hbm, 169, rfl⟩
abbrev main_call3_call0_v67 : Ref sig .tc := ⟨.hbm, 170, rfl⟩
abbrev main_call3_call0_v68 : Ref sig .tc := ⟨.hbm, 171, rfl⟩
abbrev main_call3_call0_v69 : Ref sig .tc := ⟨.hbm, 172, rfl⟩
abbrev main_call3_call0_v70 : Ref sig .tc := ⟨.hbm, 173, rfl⟩
abbrev main_call3_call0_v71 : Ref sig .tc := ⟨.hbm, 174, rfl⟩
abbrev main_call3_call0_c_17 : Ref sig .tc := ⟨.hbm, 175, rfl⟩
abbrev main_call3_call0_v72 : Ref sig .tc := ⟨.hbm, 176, rfl⟩
abbrev main_call3_call0_v73 : Ref sig .tc := ⟨.hbm, 177, rfl⟩
abbrev main_call3_call0_v74 : Ref sig .tc := ⟨.hbm, 178, rfl⟩
abbrev main_call3_call0_c_18 : Ref sig .tc := ⟨.hbm, 179, rfl⟩
abbrev main_call3_call0_v75 : Ref sig .tc := ⟨.hbm, 180, rfl⟩
abbrev main_call3_call0_v76 : Ref sig .tc := ⟨.hbm, 181, rfl⟩
abbrev main_call3_call0_c_19 : Ref sig .tc := ⟨.hbm, 182, rfl⟩
abbrev main_call3_call0_v77 : Ref sig .tc := ⟨.hbm, 183, rfl⟩
abbrev main_call3_call0_v78 : Ref sig .tc := ⟨.hbm, 184, rfl⟩
abbrev main_call3_call0_v79 : Ref sig .tc := ⟨.hbm, 185, rfl⟩
abbrev main_call3_call0_v80 : Ref sig .tc := ⟨.hbm, 186, rfl⟩
abbrev main_call3_call0_v81 : Ref sig .tc := ⟨.hbm, 187, rfl⟩
abbrev main_call3_call0_c_20 : Ref sig .tc := ⟨.hbm, 188, rfl⟩
abbrev main_call3_call0_v82 : Ref sig .tc := ⟨.hbm, 189, rfl⟩
abbrev main_call3_call0_v83 : Ref sig .tc := ⟨.hbm, 190, rfl⟩
abbrev main_call3_call0_c_21 : Ref sig .tc := ⟨.hbm, 191, rfl⟩
abbrev main_call3_call0_v84 : Ref sig .tc := ⟨.hbm, 192, rfl⟩
abbrev main_call3_call0_v85 : Ref sig .tc := ⟨.hbm, 193, rfl⟩
abbrev main_call3_call0_v86 : Ref sig .tc := ⟨.hbm, 194, rfl⟩
abbrev main_call3_call0_v87 : Ref sig .tc := ⟨.hbm, 195, rfl⟩
abbrev main_call3_call0_v88 : Ref sig .tc := ⟨.hbm, 196, rfl⟩
abbrev main_call3_call0_c_22 : Ref sig .tc := ⟨.hbm, 197, rfl⟩
abbrev main_call3_call0_v89 : Ref sig .tc := ⟨.hbm, 198, rfl⟩
abbrev main_call3_call0_v90 : Ref sig .tc := ⟨.hbm, 199, rfl⟩
abbrev main_call3_call0_c_23 : Ref sig .tc := ⟨.hbm, 200, rfl⟩
abbrev main_call3_call0_v91 : Ref sig .tc := ⟨.hbm, 201, rfl⟩
abbrev main_call3_call0_v92 : Ref sig .tc := ⟨.hbm, 202, rfl⟩
abbrev main_call3_call0_v93 : Ref sig .tc := ⟨.hbm, 203, rfl⟩
abbrev main_call3_call0_v94 : Ref sig .tc := ⟨.hbm, 204, rfl⟩
abbrev main_call3_call0_v95 : Ref sig .tc := ⟨.hbm, 205, rfl⟩
abbrev main_call3_call0_c_24 : Ref sig .tc := ⟨.hbm, 206, rfl⟩
abbrev main_call3_call0_v96 : Ref sig .tc := ⟨.hbm, 207, rfl⟩
abbrev main_call3_call0_v97 : Ref sig .tc := ⟨.hbm, 208, rfl⟩
abbrev main_call3_call0_c_25 : Ref sig .tc := ⟨.hbm, 209, rfl⟩
abbrev main_call3_call0_v98 : Ref sig .tc := ⟨.hbm, 210, rfl⟩
abbrev main_call3_call0_v99 : Ref sig .tc := ⟨.hbm, 211, rfl⟩
abbrev main_call3_call0_v100 : Ref sig .tc := ⟨.hbm, 212, rfl⟩
abbrev main_call3_call0_v101 : Ref sig .tc := ⟨.hbm, 213, rfl⟩
abbrev main_call3_call0_v102 : Ref sig .tc := ⟨.hbm, 214, rfl⟩
abbrev main_call3_call0_v103 : Ref sig .tc := ⟨.hbm, 215, rfl⟩
abbrev main_call3_call0_v104 : Ref sig .tc := ⟨.hbm, 216, rfl⟩
abbrev main_call3_call0_v105 : Ref sig .tc := ⟨.hbm, 217, rfl⟩
abbrev main_call3_call0_c_26 : Ref sig .tc := ⟨.hbm, 218, rfl⟩
abbrev main_call3_call0_v106 : Ref sig .tc := ⟨.hbm, 219, rfl⟩
abbrev main_call3_call0_v107 : Ref sig .tc := ⟨.hbm, 220, rfl⟩
abbrev main_call3_call0_v108 : Ref sig .tc := ⟨.hbm, 221, rfl⟩
abbrev main_call3_call0_c_27 : Ref sig .tc := ⟨.hbm, 222, rfl⟩
abbrev main_call3_call0_v109 : Ref sig .tc := ⟨.hbm, 223, rfl⟩
abbrev main_call3_call0_v110 : Ref sig .tc := ⟨.hbm, 224, rfl⟩
abbrev main_call3_call0_c_28 : Ref sig .tc := ⟨.hbm, 225, rfl⟩
abbrev main_call3_call0_v111 : Ref sig .tc := ⟨.hbm, 226, rfl⟩
abbrev main_call3_call0_v112 : Ref sig .tc := ⟨.hbm, 227, rfl⟩
abbrev main_call3_call0_v113 : Ref sig .tc := ⟨.hbm, 228, rfl⟩
abbrev main_call3_call0_v114 : Ref sig .tc := ⟨.hbm, 229, rfl⟩
abbrev main_call3_call0_v115 : Ref sig .tc := ⟨.hbm, 230, rfl⟩
abbrev main_call3_call0_c_29 : Ref sig .tc := ⟨.hbm, 231, rfl⟩
abbrev main_call3_call0_v116 : Ref sig .tc := ⟨.hbm, 232, rfl⟩
abbrev main_call3_call0_v117 : Ref sig .tc := ⟨.hbm, 233, rfl⟩
abbrev main_call3_call0_c_30 : Ref sig .tc := ⟨.hbm, 234, rfl⟩
abbrev main_call3_call0_v118 : Ref sig .tc := ⟨.hbm, 235, rfl⟩
abbrev main_call3_call0_v119 : Ref sig .tc := ⟨.hbm, 236, rfl⟩
abbrev main_call3_call0_v120 : Ref sig .tc := ⟨.hbm, 237, rfl⟩
abbrev main_call3_call0_v121 : Ref sig .tc := ⟨.hbm, 238, rfl⟩
abbrev main_call3_call0_v122 : Ref sig .tc := ⟨.hbm, 239, rfl⟩
abbrev main_call3_call0_c_31 : Ref sig .tc := ⟨.hbm, 240, rfl⟩
abbrev main_call3_call0_v123 : Ref sig .tc := ⟨.hbm, 241, rfl⟩
abbrev main_call3_call0_v124 : Ref sig .tc := ⟨.hbm, 242, rfl⟩
abbrev main_call3_call0_c_32 : Ref sig .tc := ⟨.hbm, 243, rfl⟩
abbrev main_call3_call0_v125 : Ref sig .tc := ⟨.hbm, 244, rfl⟩
abbrev main_call3_call0_v126 : Ref sig .tc := ⟨.hbm, 245, rfl⟩
abbrev main_call3_call0_v127 : Ref sig .tc := ⟨.hbm, 246, rfl⟩
abbrev main_call3_call0_v128 : Ref sig .tc := ⟨.hbm, 247, rfl⟩
abbrev main_call3_call0_v129 : Ref sig .tc := ⟨.hbm, 248, rfl⟩
abbrev main_call3_call0_c_33 : Ref sig .tc := ⟨.hbm, 249, rfl⟩
abbrev main_call3_call0_v130 : Ref sig .tc := ⟨.hbm, 250, rfl⟩
abbrev main_call3_call0_v131 : Ref sig .tc := ⟨.hbm, 251, rfl⟩
abbrev main_call3_call0_c_34 : Ref sig .tc := ⟨.hbm, 252, rfl⟩
abbrev main_call3_call0_v132 : Ref sig .tc := ⟨.hbm, 253, rfl⟩
abbrev main_call3_call0_v133 : Ref sig .tc := ⟨.hbm, 254, rfl⟩
abbrev main_call3_call0_v134 : Ref sig .tc := ⟨.hbm, 255, rfl⟩
abbrev main_call3_call0_v135 : Ref sig .tc := ⟨.hbm, 256, rfl⟩
abbrev main_call3_call0_v136 : Ref sig .tc := ⟨.hbm, 257, rfl⟩
abbrev main_call3_call0_v137 : Ref sig .tc := ⟨.hbm, 258, rfl⟩
abbrev main_call3_call0_v138 : Ref sig .tc := ⟨.hbm, 259, rfl⟩
abbrev main_call3_call0_v139 : Ref sig .tc := ⟨.hbm, 260, rfl⟩
abbrev main_call3_call0_c_35 : Ref sig .tc := ⟨.hbm, 261, rfl⟩
abbrev main_call3_call0_v140 : Ref sig .tc := ⟨.hbm, 262, rfl⟩
abbrev main_call3_call0_v141 : Ref sig .tc := ⟨.hbm, 263, rfl⟩
abbrev main_call3_call0_v142 : Ref sig .tc := ⟨.hbm, 264, rfl⟩
abbrev main_call3_call0_c_36 : Ref sig .tc := ⟨.hbm, 265, rfl⟩
abbrev main_call3_call0_v143 : Ref sig .tc := ⟨.hbm, 266, rfl⟩
abbrev main_call3_call0_v144 : Ref sig .tc := ⟨.hbm, 267, rfl⟩
abbrev main_call3_call0_c_37 : Ref sig .tc := ⟨.hbm, 268, rfl⟩
abbrev main_call3_call0_v145 : Ref sig .tc := ⟨.hbm, 269, rfl⟩
abbrev main_call3_call0_v146 : Ref sig .tc := ⟨.hbm, 270, rfl⟩
abbrev main_call3_call0_v147 : Ref sig .tc := ⟨.hbm, 271, rfl⟩
abbrev main_call3_call0_v148 : Ref sig .tc := ⟨.hbm, 272, rfl⟩
abbrev main_call3_call0_v149 : Ref sig .tc := ⟨.hbm, 273, rfl⟩
abbrev main_call3_call0_c_38 : Ref sig .tc := ⟨.hbm, 274, rfl⟩
abbrev main_call3_call0_v150 : Ref sig .tc := ⟨.hbm, 275, rfl⟩
abbrev main_call3_call0_v151 : Ref sig .tc := ⟨.hbm, 276, rfl⟩
abbrev main_call3_call0_c_39 : Ref sig .tc := ⟨.hbm, 277, rfl⟩
abbrev main_call3_call0_v152 : Ref sig .tc := ⟨.hbm, 278, rfl⟩
abbrev main_call3_call0_v153 : Ref sig .tc := ⟨.hbm, 279, rfl⟩
abbrev main_call3_call0_v154 : Ref sig .tc := ⟨.hbm, 280, rfl⟩
abbrev main_call3_call0_v155 : Ref sig .tc := ⟨.hbm, 281, rfl⟩
abbrev main_call3_call0_v156 : Ref sig .tc := ⟨.hbm, 282, rfl⟩
abbrev main_call3_call0_c_40 : Ref sig .tc := ⟨.hbm, 283, rfl⟩
abbrev main_call3_call0_v157 : Ref sig .tc := ⟨.hbm, 284, rfl⟩
abbrev main_call3_call0_v158 : Ref sig .tc := ⟨.hbm, 285, rfl⟩
abbrev main_call3_call0_c_41 : Ref sig .tc := ⟨.hbm, 286, rfl⟩
abbrev main_call3_call0_v159 : Ref sig .tc := ⟨.hbm, 287, rfl⟩
abbrev main_call3_call0_v160 : Ref sig .tc := ⟨.hbm, 288, rfl⟩
abbrev main_call3_call0_v161 : Ref sig .tc := ⟨.hbm, 289, rfl⟩
abbrev main_call3_call0_v162 : Ref sig .tc := ⟨.hbm, 290, rfl⟩
abbrev main_call3_call0_v163 : Ref sig .tc := ⟨.hbm, 291, rfl⟩
abbrev main_call3_call0_c_42 : Ref sig .tc := ⟨.hbm, 292, rfl⟩
abbrev main_call3_call0_v164 : Ref sig .tc := ⟨.hbm, 293, rfl⟩
abbrev main_call3_call0_v165 : Ref sig .tc := ⟨.hbm, 294, rfl⟩
abbrev main_call3_call0_c_43 : Ref sig .tc := ⟨.hbm, 295, rfl⟩
abbrev main_call3_call0_v166 : Ref sig .tc := ⟨.hbm, 296, rfl⟩
abbrev main_call3_call0_v167 : Ref sig .tc := ⟨.hbm, 297, rfl⟩
abbrev main_call3_call0_v168 : Ref sig .tc := ⟨.hbm, 298, rfl⟩
abbrev main_call3_call0_v169 : Ref sig .tc := ⟨.hbm, 299, rfl⟩
abbrev main_call3_call0_v170 : Ref sig .tc := ⟨.hbm, 300, rfl⟩
abbrev main_call3_v19_0 : Ref sig .tc := ⟨.hbm, 301, rfl⟩
abbrev main_call3_call0_v172 : Ref sig .tc := ⟨.hbm, 302, rfl⟩
abbrev main_call3_call0_v173 : Ref sig .tc := ⟨.hbm, 303, rfl⟩
abbrev main_call3_call0_c_44 : Ref sig .tc := ⟨.hbm, 304, rfl⟩
abbrev main_call3_call0_v174 : Ref sig .tc := ⟨.hbm, 305, rfl⟩
abbrev main_call3_v19_1 : Ref sig .tc := ⟨.hbm, 306, rfl⟩
abbrev main_call3_v20 : Ref sig .tc := ⟨.hbm, 307, rfl⟩
abbrev main_call3_c_2 : Ref sig .tc := ⟨.hbm, 308, rfl⟩
abbrev main_call3_v21 : Ref sig .tc := ⟨.hbm, 309, rfl⟩
abbrev main_call3_v22 : Ref sig .tc := ⟨.hbm, 310, rfl⟩
abbrev main_call3_c_3 : Ref sig .tc := ⟨.hbm, 311, rfl⟩
abbrev main_call3_v23 : Ref sig .tc := ⟨.hbm, 312, rfl⟩
abbrev main_call3_v24 : Ref sig .tc := ⟨.hbm, 313, rfl⟩
abbrev main_call3_v25 : Ref sig .tc := ⟨.hbm, 314, rfl⟩
abbrev main_call3_cst : Ref sig .tc := ⟨.hbm, 315, rfl⟩
abbrev main_call3_v26 : Ref sig .tc := ⟨.hbm, 316, rfl⟩
abbrev main_call3_v27 : Ref sig .tc := ⟨.hbm, 317, rfl⟩
abbrev main_call3_v28 : Ref sig .tc := ⟨.hbm, 318, rfl⟩
abbrev main_call3_v29 : Ref sig .tc := ⟨.hbm, 319, rfl⟩
abbrev main_call3_v30 : Ref sig .tc := ⟨.hbm, 320, rfl⟩
abbrev main_call3_v31 : Ref sig .tc := ⟨.hbm, 321, rfl⟩
abbrev main_call3_v32 : Ref sig .tc := ⟨.hbm, 322, rfl⟩
abbrev main_call3_v33 : Ref sig .tc := ⟨.hbm, 323, rfl⟩
abbrev main_v14 : Ref sig .tc := ⟨.hbm, 324, rfl⟩
abbrev main_v15 : Ref sig .tc := ⟨.hbm, 325, rfl⟩
abbrev main_v16 : Ref sig .tc := ⟨.hbm, 326, rfl⟩
abbrev main_v17 : Ref sig .tc := ⟨.hbm, 327, rfl⟩
abbrev main_v18 : Ref sig .tc := ⟨.hbm, 328, rfl⟩
abbrev main_v19 : Ref sig .tc := ⟨.hbm, 329, rfl⟩
abbrev main_call4_v0 : Ref sig .tc := ⟨.hbm, 330, rfl⟩
abbrev main_call4_cst : Ref sig .tc := ⟨.hbm, 331, rfl⟩
abbrev main_call4_c : Ref sig .tc := ⟨.hbm, 332, rfl⟩
abbrev main_call4_v1_0 : Ref sig .tc := ⟨.hbm, 333, rfl⟩
abbrev main_v20 : Ref sig .tc := ⟨.hbm, 334, rfl⟩

abbrev nD : Nat := 1
abbrev τ : Topo := Topo.v7x

variable {F : FTy → Type} [FloatOps F]
-- ==== Proof.KI.Body.lean ====
/-
  The two kernel bodies run once, on arbitrary staging and scratch memrefs held at arbitrary contents: what each leaves in
  every buffer, as a function of what it found. Nothing here depends on the float instance.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Kit
public import Idealize.ShloMosaic.Lib.Tactic
public import Idealize.ShloMosaic.Lib.VecWindow
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]
variable {U : Type} [URA U]

local notation "𝕄" => MT nD τ sig Unit (Elt F) ℕ U ℕ

/-- A staging or scratch memref of core `c`, held whole at contents `X`. -/
abbrev own (c : Dev nD) {sp : Space} {S : Shape} {e : EltTy} (M : Memref sig .tc sp S e) (X : S.Idx → Elt F e) : sProp 𝕄 :=
  owns (c : Thread nD τ) M fullShare X

/-- The bodies' first guard, on the grid coordinate: it holds at coordinate 0 alone. -/
abbrev first (n : ℕ) : Prop := Scalar.cmpi .ne (Scalar.extui (Scalar.cmpi .eq (BitVec.ofNat 32 n) 0#32) : BitVec 32) 0#32 = 1#1

/-- The offset of a whole-buffer access. -/
theorem hz : (![0, 0] : Fin 2 → Nat) = fun _ => 0 := funext fun a => by fin_cases a <;> rfl

/-! ## The statistics kernel -/

/-- The first part of the statistics body at the first point: the running statistics and the state of every row are set, and the
    values handed to the second part are computed from them. -/
theorem part1_first (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (hc : first (i 0).val) (X1 : Vec F S1024x64 .f32) (X2 : Vec F S1024x1 .i32) (X3 : Vec F S32x64 .f32) (X4 : Vec F S1024x2048 .i32) (X5 : Vec F S64x2048 .f32) (X10 : Vec F S1024x64 .f32) (X11 : Vec F S1024x1 .f32) (X12 : Vec F S1024x1 .f32) (X13 : Vec F S1024x1 .f32) (X14 : Vec F S1024x1 .f32)
    {β : Type} (k : _ → Prog (TpuEff nD τ sig (Elt F) Λ₀ .tc) β) (K : β → sProp 𝕄) :
    iprop(own c a1 X1 ∗ own c a2 X2 ∗ own c a3 X3 ∗ own c a4 X4 ∗ own c a5 X5 ∗ own c a10 X10 ∗ own c a11 X11 ∗ own c a12 X12 ∗ own c a13 X13 ∗ own c a14 X14
        ∗ (iprop(own c a1 X1 ∗ own c a2 X2 ∗ own c a3 X3 ∗ own c a4 X4 ∗ own c a5 X5 ∗ own c a10 (k0_pay2 X2 X3 X1) ∗ own c a11 (k0_pay3 (F := F)) ∗ own c a12 (k0_pay4 (F := F)) ∗ own c a13 (k0_pay5 (F := F)) ∗ own c a14 (k0_pay6 (F := F)))
            -∗ wp frame (wpE (defs₀ (F := F)) Variants.none c none) Set.univ (k ⟨BitVec.ofNat 32 (i 0).val, k0_pay7 (F := F) i, k0_pay8 (F := F) i, k0_pay9 i (k0_pay2 X2 X3 X1) X5 X4,
                k0_pay10 i (k0_pay2 X2 X3 X1) X5 X4 (k0_pay3 (F := F)), k0_pay11 i (k0_pay2 X2 X3 X1) X5 X4 (k0_pay3 (F := F)) (k0_pay4 (F := F)), (k0_pay4 (F := F))⟩) K))
      ⊢ wp frame (wpE (defs₀ (F := F)) Variants.none c none) Set.univ (k0_part1 (F := F) i a1 h1 a2 h2 a3 h3 a4 h4 a5 h5 a6 h6 a7 h7 a8 h8 a9 h9 a10 h10 a11 h11 a12 h12 a13 h13 a14 h14 >>= k) K := by
  simp only [k0_part1_eq_skeleton]; unfold k0_part1_skel
  unfold own owns
  iintro ⟨⟨%f1, %e1, H1⟩, ⟨%f2, %e2, H2⟩, ⟨%f3, %e3, H3⟩, ⟨%f4, %e4, H4⟩, ⟨%f5, %e5, H5⟩, ⟨%f10, %e10, H10⟩, ⟨%f11, %e11, H11⟩, ⟨%f12, %e12, H12⟩, ⟨%f13, %e13, H13⟩, ⟨%f14, %e14, H14⟩, Hk⟩
  subst e1 e2 e3 e4 e5 e10 e11 e12 e13 e14
  sl_exec
  sl_unfold_words
  simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]
  iapply Hk
  isplitl [H1]
  · iexists _; isplitr; swap; · iexact H1
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H2]
  · iexists _; isplitr; swap; · iexact H2
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H3]
  · iexists _; isplitr; swap; · iexact H3
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H4]
  · iexists _; isplitr; swap; · iexact H4
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H5]
  · iexists _; isplitr; swap; · iexact H5
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H10]
  · iexists _; isplitr; swap; · iexact H10
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H11]
  · iexists _; isplitr; swap; · iexact H11
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H12]
  · iexists _; isplitr; swap; · iexact H12
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H13]
  · iexists _; isplitr; swap; · iexact H13
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  · iexists _; isplitr; swap; · iexact H14
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)

/-- The first part of the statistics body at a later point: nothing is stored, the values handed to the second part are computed from
    what the scratch holds. -/
theorem part1_rest (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (hc : ¬ first (i 0).val) (X4 : Vec F S1024x2048 .i32) (X5 : Vec F S64x2048 .f32) (X10 : Vec F S1024x64 .f32) (X11 : Vec F S1024x1 .f32) (X12 : Vec F S1024x1 .f32)
    {β : Type} (k : _ → Prog (TpuEff nD τ sig (Elt F) Λ₀ .tc) β) (K : β → sProp 𝕄) :
    iprop(own c a4 X4 ∗ own c a5 X5 ∗ own c a10 X10 ∗ own c a11 X11 ∗ own c a12 X12
        ∗ (iprop(own c a4 X4 ∗ own c a5 X5 ∗ own c a10 X10 ∗ own c a11 X11 ∗ own c a12 X12)
            -∗ wp frame (wpE (defs₀ (F := F)) Variants.none c none) Set.univ (k ⟨BitVec.ofNat 32 (i 0).val, k0_pay7 (F := F) i, k0_pay8 (F := F) i, k0_pay9 i X10 X5 X4,
                k0_pay10 i X10 X5 X4 X11, k0_pay11 i X10 X5 X4 X11 X12, X12⟩) K))
      ⊢ wp frame (wpE (defs₀ (F := F)) Variants.none c none) Set.univ (k0_part1 (F := F) i a1 h1 a2 h2 a3 h3 a4 h4 a5 h5 a6 h6 a7 h7 a8 h8 a9 h9 a10 h10 a11 h11 a12 h12 a13 h13 a14 h14 >>= k) K := by
  simp only [k0_part1_eq_skeleton]; unfold k0_part1_skel
  unfold own owns
  iintro ⟨⟨%f4, %e4, H4⟩, ⟨%f5, %e5, H5⟩, ⟨%f10, %e10, H10⟩, ⟨%f11, %e11, H11⟩, ⟨%f12, %e12, H12⟩, Hk⟩
  subst e4 e5 e10 e11 e12
  sl_exec
  sl_unfold_words
  simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]
  iapply Hk
  isplitl [H4]
  · iexists _; isplitr; swap; · iexact H4
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H5]
  · iexists _; isplitr; swap; · iexact H5
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H10]
  · iexists _; isplitr; swap; · iexact H10
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H11]
  · iexists _; isplitr; swap; · iexact H11
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  · iexists _; isplitr; swap; · iexact H12
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)

/-- The second part of the statistics body: the four running statistics are stored. -/
theorem part2_run (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (u0 : BitVec 32) (v11 : FVec F S1024x2048 .f32) (v13 : IVec S1024x2048 1) (v20 : FVec F S1024x2048 .f32)
    (v24 : FVec F S1024x1 .f32) (v34 : FVec F S1024x1 .f32) (v35 : Vec F S1024x1 .f32)
    (X6 : Vec F S1024x2048 .f32) (X11 : Vec F S1024x1 .f32) (X12 : Vec F S1024x1 .f32) (X13 : Vec F S1024x1 .f32) (X14 : Vec F S1024x1 .f32)
    {β : Type} (k : _ → Prog (TpuEff nD τ sig (Elt F) Λ₀ .tc) β) (K : β → sProp 𝕄) :
    iprop(own c a6 X6 ∗ own c a11 X11 ∗ own c a12 X12 ∗ own c a13 X13 ∗ own c a14 X14
        ∗ (iprop(own c a6 X6 ∗ own c a11 (k0_pay13 v24) ∗ own c a12 (k0_pay12 v34) ∗ own c a13 (k0_pay17 v13 v20 X6 X13 X13) ∗ own c a14 (k0_pay18 v11 v13 v20 X6 X13 X14)) -∗ wp frame (wpE (defs₀ (F := F)) Variants.none c none) Set.univ (k ⟨⟩) K))
      ⊢ wp frame (wpE (defs₀ (F := F)) Variants.none c none) Set.univ (k0_part2 (F := F) i a1 h1 a2 h2 a3 h3 a4 h4 a5 h5 a6 h6 a7 h7 a8 h8 a9 h9 a10 h10 a11 h11 a12 h12 a13 h13 a14 h14 u0 v11 v13 v20 v24 v34 v35 >>= k) K := by
  simp only [k0_part2_eq_skeleton]; unfold k0_part2_skel
  unfold own owns
  iintro ⟨⟨%f6, %e6, H6⟩, ⟨%f11, %e11, H11⟩, ⟨%f12, %e12, H12⟩, ⟨%f13, %e13, H13⟩, ⟨%f14, %e14, H14⟩, Hk⟩
  subst e6 e11 e12 e13 e14
  sl_exec
  iapply Hk
  isplitl [H6]
  · iexists _; isplitr; swap; · iexact H6
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H11]
  · iexists _; isplitr; swap; · iexact H11
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H12]
  · iexists _; isplitr; swap; · iexact H12
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  isplitl [H13]
  · iexists _; isplitr; swap; · iexact H13
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)
  · iexists _; isplitr; swap; · iexact H14
    ipureintro
    first | rfl | (sl_unfold_words; (try simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]); exact View.read_writes_full _ _ _ _ _)

/-- The statistics body's last guarded region: at the last point the results are written. -/
def tailProg (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole) :
    Prog (TpuEff nD τ sig (Elt F) Λ₀ .tc) PUnit := do
  if k0_h2 : k0_cond2 i = 1#1 then do
    let v71 : Vec F S1024x1 .f32 ← Prog.lift (.load a11 (Rect.unit (s := S1024x1) ![0, 0] S1024x1.size inb_S1024x1_S1024x1_0_0).toLoadRect (View.loadsAt_vmem h_S1024x1))
    let v72 : Vec F S1024x1 .f32 ← Prog.lift (.load a7 (Rect.unit (s := S1024x1) ![0, 0] S1024x1.size inb_S1024x1_S1024x1_0_0).toLoadRect (View.loadsAt_vmem h_S1024x1))
    Prog.lift (.store a7 (Rect.unit (s := S1024x1) ![0, 0] S1024x1.size inb_S1024x1_S1024x1_0_0) v71 Finset.univ (View.stores_vmem_bits_univ h_S1024x1 rfl) (.inl rfl))
    let v73 : Vec F S1024x1 .f32 ← Prog.lift (.load a12 (Rect.unit (s := S1024x1) ![0, 0] S1024x1.size inb_S1024x1_S1024x1_0_0).toLoadRect (View.loadsAt_vmem h_S1024x1))
    let v74 : Vec F S1024x1 .f32 ← Prog.lift (.load a8 (Rect.unit (s := S1024x1) ![0, 0] S1024x1.size inb_S1024x1_S1024x1_0_0).toLoadRect (View.loadsAt_vmem h_S1024x1))
    Prog.lift (.store a8 (Rect.unit (s := S1024x1) ![0, 0] S1024x1.size inb_S1024x1_S1024x1_0_0) v73 Finset.univ (View.stores_vmem_bits_univ h_S1024x1 rfl) (.inl rfl))
    let v75 : Vec F S1024x1 .f32 ← Prog.lift (.load a14 (Rect.unit (s := S1024x1) ![0, 0] S1024x1.size inb_S1024x1_S1024x1_0_0).toLoadRect (View.loadsAt_vmem h_S1024x1))
    let v77 : Vec F S1024x1 .i32 ← Prog.lift (.load a9 (Rect.unit (s := S1024x1) ![0, 0] S1024x1.size inb_S1024x1_S1024x1_0_0).toLoadRect (View.loadsAt_vmem h_S1024x1))
    Prog.lift (.store a9 (Rect.unit (s := S1024x1) ![0, 0] S1024x1.size inb_S1024x1_S1024x1_0_0) (k0_pay1 v75) Finset.univ (View.stores_vmem_bits_univ h_S1024x1 rfl) (.inl rfl))
    pure ⟨⟩
  else do
    pure ⟨⟩
  pure ⟨⟩

/-- The statistics body is its two parts and that region. -/
theorem stats_parts (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole) :
    cc0__stats_body (F := F) i a1 h1 a2 h2 a3 h3 a4 h4 a5 h5 a6 h6 a7 h7 a8 h8 a9 h9 a10 h10 a11 h11 a12 h12 a13 h13 a14 h14
      = k0_part1 (F := F) i a1 h1 a2 h2 a3 h3 a4 h4 a5 h5 a6 h6 a7 h7 a8 h8 a9 h9 a10 h10 a11 h11 a12 h12 a13 h13 a14 h14 >>= fun r => k0_part2 (F := F) i a1 h1 a2 h2 a3 h3 a4 h4 a5 h5 a6 h6 a7 h7 a8 h8 a9 h9 a10 h10 a11 h11 a12 h12 a13 h13 a14 h14 r.1 r.2.1 r.2.2.1 r.2.2.2.1 r.2.2.2.2.1 r.2.2.2.2.2.1 r.2.2.2.2.2.2
          >>= fun _ => tailProg (F := F) i a1 h1 a2 h2 a3 h3 a4 h4 a5 h5 a6 h6 a7 h7 a8 h8 a9 h9 a10 h10 a11 h11 a12 h12 a13 h13 a14 h14 := rfl

/-- The end of the statistics body at the last point: the maximum, the sum and the column go to the three results. -/
theorem tail_last (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (hc : k0_cond2 i = 1#1) (X7 : Vec F S1024x1 .f32) (X8 : Vec F S1024x1 .f32) (X9 : Vec F S1024x1 .i32) (X11 : Vec F S1024x1 .f32) (X12 : Vec F S1024x1 .f32) (X14 : Vec F S1024x1 .f32) (K : PUnit → sProp 𝕄) :
    iprop(own c a7 X7 ∗ own c a8 X8 ∗ own c a9 X9 ∗ own c a11 X11 ∗ own c a12 X12 ∗ own c a14 X14
        ∗ (iprop(own c a7 X11 ∗ own c a8 X12 ∗ own c a9 (k0_pay1 X14) ∗ own c a11 X11 ∗ own c a12 X12 ∗ own c a14 X14) -∗ K ⟨⟩))
      ⊢ wp frame (wpE (defs₀ (F := F)) Variants.none c none) Set.univ (tailProg (F := F) i a1 h1 a2 h2 a3 h3 a4 h4 a5 h5 a6 h6 a7 h7 a8 h8 a9 h9 a10 h10 a11 h11 a12 h12 a13 h13 a14 h14) K := by
  unfold tailProg own owns
  iintro ⟨⟨%f7, %e7, H7⟩, ⟨%f8, %e8, H8⟩, ⟨%f9, %e9, H9⟩, ⟨%f11, %e11, H11⟩, ⟨%f12, %e12, H12⟩, ⟨%f14, %e14, H14⟩, Hk⟩
  subst e7 e8 e9 e11 e12 e14
  sl_exec
  sl_step
  sl_unfold_words
  simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]
  iapply Hk
  isplitl [H7]
  · iexists _; isplitr; swap; · iexact H7
    ipureintro
    exact View.read_writes_full _ _ _ _ _
  isplitl [H8]
  · iexists _; isplitr; swap; · iexact H8
    ipureintro
    exact View.read_writes_full _ _ _ _ _
  isplitl [H9]
  · iexists _; isplitr; swap; · iexact H9
    ipureintro
    exact View.read_writes_full _ _ _ _ _
  isplitl [H11]
  · iexists _; isplitr; swap; · iexact H11
    ipureintro
    rfl
  isplitl [H12]
  · iexists _; isplitr; swap; · iexact H12
    ipureintro
    rfl
  · iexists _; isplitr; swap; · iexact H14
    ipureintro
    rfl

/-- The end of the statistics body at every other point: nothing. -/
theorem tail_rest (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (hc : ¬ k0_cond2 i = 1#1) (K : PUnit → sProp 𝕄) :
    iprop(K ⟨⟩) ⊢ wp frame (wpE (defs₀ (F := F)) Variants.none c none) Set.univ (tailProg (F := F) i a1 h1 a2 h2 a3 h3 a4 h4 a5 h5 a6 h6 a7 h7 a8 h8 a9 h9 a10 h10 a11 h11 a12 h12 a13 h13 a14 h14) K := by
  unfold tailProg
  iintro Hk
  sl_exec
  sl_step
  iexact Hk

/-- What the statistics kernel carries from block to block: the state of every row (the observation with its piece's embedding added),
    the running maximum, the running sum, the best sampling score and its column. -/
structure Scr (F : FTy → Type) [FloatOps F] where
  /-- the state of every row -/
  x : Vec F S1024x64 .f32
  /-- the running maximum -/
  m : Vec F S1024x1 .f32
  /-- the running sum -/
  s : Vec F S1024x1 .f32
  /-- the best score -/
  b : Vec F S1024x1 .f32
  /-- its column -/
  k : Vec F S1024x1 .f32

/-- What the first point sets, from the observations, the piece numbers and the embedding table. -/
def Scr.init (X1 : Vec F S1024x64 .f32) (X2 : Vec F S1024x1 .i32) (X3 : Vec F S32x64 .f32) : Scr F :=
  ⟨k0_pay2 X2 X3 X1, k0_pay3, k0_pay4, k0_pay5, k0_pay6⟩

/-- One block of columns folded in: the legal mask, the weights and the noise of the block. -/
def Scr.step (i : grid0.Coords) (σ : Scr F) (X4 : Vec F S1024x2048 .i32) (X5 : Vec F S64x2048 .f32) (X6 : Vec F S1024x2048 .f32) : Scr F :=
  ⟨σ.x, k0_pay13 (k0_pay10 i σ.x X5 X4 σ.m), k0_pay12 (k0_pay11 i σ.x X5 X4 σ.m σ.s),
    k0_pay17 (k0_pay8 (F := F) i) (k0_pay9 i σ.x X5 X4) X6 σ.b σ.b,
    k0_pay18 (k0_pay7 i) (k0_pay8 (F := F) i) (k0_pay9 i σ.x X5 X4) X6 σ.b σ.k⟩

open Classical in
/-- What a point starts from: the first point sets the scratch, a later one finds it. -/
def Scr.entry (i : grid0.Coords) (X1 : Vec F S1024x64 .f32) (X2 : Vec F S1024x1 .i32) (X3 : Vec F S32x64 .f32) (σ : Scr F) : Scr F :=
  if first (i 0).val then Scr.init X1 X2 X3 else σ

/-- The five scratch buffers held at a state. -/
def heldScr (c : Dev nD) (a10 : Memref sig .tc .vmem S1024x64 .f32) (a11 a12 a13 a14 : Memref sig .tc .vmem S1024x1 .f32) (σ : Scr F) : sProp 𝕄 :=
  iprop(own c a10 σ.x ∗ own c a11 σ.m ∗ own c a12 σ.s ∗ own c a13 σ.b ∗ own c a14 σ.k)

/-- One point of the statistics kernel, from every buffer held at known contents: the inputs are left as they were, the scratch moves
    by `Scr.step` from what the point starts from, and at the last point the three results are the maximum, the sum and the column. -/
theorem stats_run (c : Dev nD) (i : grid0.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x2048 .f32) (h6 : a6.IsWhole)
    (a7 : Memref sig .tc .vmem S1024x1 .f32) (h7 : a7.IsWhole)
    (a8 : Memref sig .tc .vmem S1024x1 .f32) (h8 : a8.IsWhole)
    (a9 : Memref sig .tc .vmem S1024x1 .i32) (h9 : a9.IsWhole)
    (a10 : Memref sig .tc .vmem S1024x64 .f32) (h10 : a10.IsWhole)
    (a11 : Memref sig .tc .vmem S1024x1 .f32) (h11 : a11.IsWhole)
    (a12 : Memref sig .tc .vmem S1024x1 .f32) (h12 : a12.IsWhole)
    (a13 : Memref sig .tc .vmem S1024x1 .f32) (h13 : a13.IsWhole)
    (a14 : Memref sig .tc .vmem S1024x1 .f32) (h14 : a14.IsWhole)
    (X1 : Vec F S1024x64 .f32) (X2 : Vec F S1024x1 .i32) (X3 : Vec F S32x64 .f32) (X4 : Vec F S1024x2048 .i32) (X5 : Vec F S64x2048 .f32) (X6 : Vec F S1024x2048 .f32) (X7 : Vec F S1024x1 .f32) (X8 : Vec F S1024x1 .f32) (X9 : Vec F S1024x1 .i32) (σ : Scr F) (K : PUnit → sProp 𝕄) :
    iprop(own c a1 X1 ∗ own c a2 X2 ∗ own c a3 X3 ∗ own c a4 X4 ∗ own c a5 X5 ∗ own c a6 X6 ∗ own c a7 X7 ∗ own c a8 X8 ∗ own c a9 X9 ∗ heldScr c a10 a11 a12 a13 a14 σ
        ∗ (iprop(own c a1 X1 ∗ own c a2 X2 ∗ own c a3 X3 ∗ own c a4 X4 ∗ own c a5 X5 ∗ own c a6 X6
            ∗ (∃ Y7 Y8 Y9, ⌜k0_cond2 i = 1#1 → Y7 = ((Scr.entry i X1 X2 X3 σ).step i X4 X5 X6).m ∧ Y8 = ((Scr.entry i X1 X2 X3 σ).step i X4 X5 X6).s
                ∧ Y9 = k0_pay1 ((Scr.entry i X1 X2 X3 σ).step i X4 X5 X6).k⌝ ∗ own c a7 Y7 ∗ own c a8 Y8 ∗ own c a9 Y9)
            ∗ heldScr c a10 a11 a12 a13 a14 ((Scr.entry i X1 X2 X3 σ).step i X4 X5 X6)) -∗ K ⟨⟩))
      ⊢ wp frame (wpE (defs₀ (F := F)) Variants.none c none) Set.univ (cc0__stats_body (F := F) i a1 h1 a2 h2 a3 h3 a4 h4 a5 h5 a6 h6 a7 h7 a8 h8 a9 h9 a10 h10 a11 h11 a12 h12 a13 h13 a14 h14) K := by
  rw [stats_parts]
  unfold heldScr
  generalize hσ' : (Scr.entry i X1 X2 X3 σ).step i X4 X5 X6 = σ'
  iintro ⟨H1, H2, H3, H4, H5, H6, H7, H8, H9, ⟨H10, H11, H12, H13, H14⟩, Hk⟩
  -- the parts, from the statistics the point starts from
  have hmid : ∀ σ₁ : Scr F, σ₁.step i X4 X5 X6 = σ' →
      iprop(own c a6 X6 ∗ own c a7 X7 ∗ own c a8 X8 ∗ own c a9 X9 ∗ own c a10 σ₁.x ∗ own c a11 σ₁.m ∗ own c a12 σ₁.s ∗ own c a13 σ₁.b ∗ own c a14 σ₁.k
        ∗ (iprop(own c a6 X6 ∗ (∃ Y7 Y8 Y9, ⌜k0_cond2 i = 1#1 → Y7 = σ'.m ∧ Y8 = σ'.s ∧ Y9 = k0_pay1 σ'.k⌝ ∗ own c a7 Y7 ∗ own c a8 Y8 ∗ own c a9 Y9)
            ∗ own c a10 σ'.x ∗ own c a11 σ'.m ∗ own c a12 σ'.s ∗ own c a13 σ'.b ∗ own c a14 σ'.k) -∗ K ⟨⟩))
      ⊢ wp frame (wpE (defs₀ (F := F)) Variants.none c none) Set.univ (k0_part2 (F := F) i a1 h1 a2 h2 a3 h3 a4 h4 a5 h5 a6 h6 a7 h7 a8 h8 a9 h9 a10 h10 a11 h11 a12 h12 a13 h13 a14 h14 (BitVec.ofNat 32 (i 0).val) (k0_pay7 (F := F) i) (k0_pay8 (F := F) i) (k0_pay9 i σ₁.x X5 X4)
              (k0_pay10 i σ₁.x X5 X4 σ₁.m) (k0_pay11 i σ₁.x X5 X4 σ₁.m σ₁.s) σ₁.s >>= fun _ => tailProg (F := F) i a1 h1 a2 h2 a3 h3 a4 h4 a5 h5 a6 h6 a7 h7 a8 h8 a9 h9 a10 h10 a11 h11 a12 h12 a13 h13 a14 h14) K := by
    rintro σ₁ rfl
    iintro ⟨H6, H7, H8, H9, H10, H11, H12, H13, H14, Hk⟩
    iapply (part2_run (F := F) c i a1 h1 a2 h2 a3 h3 a4 h4 a5 h5 a6 h6 a7 h7 a8 h8 a9 h9 a10 h10 a11 h11 a12 h12 a13 h13 a14 h14 _ _ _ _ _ _ _ X6 σ₁.m σ₁.s σ₁.b σ₁.k _ K)
    isplitl [H6]; · iexact H6
    isplitl [H11]; · iexact H11
    isplitl [H12]; · iexact H12
    isplitl [H13]; · iexact H13
    isplitl [H14]; · iexact H14
    iintro ⟨H6, H11, H12, H13, H14⟩
    by_cases hl : k0_cond2 i = 1#1
    · iapply (tail_last (F := F) c i a1 h1 a2 h2 a3 h3 a4 h4 a5 h5 a6 h6 a7 h7 a8 h8 a9 h9 a10 h10 a11 h11 a12 h12 a13 h13 a14 h14 hl X7 X8 X9 _ _ _ K)
      isplitl [H7]; · iexact H7
      isplitl [H8]; · iexact H8
      isplitl [H9]; · iexact H9
      isplitl [H11]; · iexact H11
      isplitl [H12]; · iexact H12
      isplitl [H14]; · iexact H14
      iintro ⟨H7, H8, H9, H11, H12, H14⟩
      iapply Hk
      isplitl [H6]; · iexact H6
      isplitl [H7 H8 H9]
      · iexists _, _, _
        isplitr; swap
        · isplitl [H7]; · iexact H7
          isplitl [H8]; · iexact H8
          iexact H9
        ipureintro; exact fun _ => ⟨rfl, rfl, rfl⟩
      isplitl [H10]; · iexact H10
      isplitl [H11]; · iexact H11
      isplitl [H12]; · iexact H12
      isplitl [H13]; · iexact H13
      iexact H14
    · iapply (tail_rest (F := F) c i a1 h1 a2 h2 a3 h3 a4 h4 a5 h5 a6 h6 a7 h7 a8 h8 a9 h9 a10 h10 a11 h11 a12 h12 a13 h13 a14 h14 hl K)
      iapply Hk
      isplitl [H6]; · iexact H6
      isplitl [H7 H8 H9]
      · iexists X7, X8, X9
        isplitr; · ipureintro; exact fun h => absurd h hl
        isplitl [H7]; · iexact H7
        isplitl [H8]; · iexact H8
        iexact H9
      isplitl [H10]; · iexact H10
      isplitl [H11]; · iexact H11
      isplitl [H12]; · iexact H12
      isplitl [H13]; · iexact H13
      iexact H14
  by_cases hf : first (i 0).val
  · have hm := hmid (Scr.init X1 X2 X3) (by rw [← hσ', Scr.entry, if_pos hf])
    iapply (part1_first (F := F) c i a1 h1 a2 h2 a3 h3 a4 h4 a5 h5 a6 h6 a7 h7 a8 h8 a9 h9 a10 h10 a11 h11 a12 h12 a13 h13 a14 h14 hf X1 X2 X3 X4 X5 σ.x σ.m σ.s σ.b σ.k _ K)
    isplitl [H1]; · iexact H1
    isplitl [H2]; · iexact H2
    isplitl [H3]; · iexact H3
    isplitl [H4]; · iexact H4
    isplitl [H5]; · iexact H5
    isplitl [H10]; · iexact H10
    isplitl [H11]; · iexact H11
    isplitl [H12]; · iexact H12
    isplitl [H13]; · iexact H13
    isplitl [H14]; · iexact H14
    iintro ⟨H1, H2, H3, H4, H5, H10, H11, H12, H13, H14⟩
    iapply hm
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H6, H7, Hs⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs
  · have hm := hmid σ (by rw [← hσ', Scr.entry, if_neg hf])
    iapply (part1_rest (F := F) c i a1 h1 a2 h2 a3 h3 a4 h4 a5 h5 a6 h6 a7 h7 a8 h8 a9 h9 a10 h10 a11 h11 a12 h12 a13 h13 a14 h14 hf X4 X5 σ.x σ.m σ.s _ K)
    isplitl [H4]; · iexact H4
    isplitl [H5]; · iexact H5
    isplitl [H10]; · iexact H10
    isplitl [H11]; · iexact H11
    isplitl [H12]; · iexact H12
    iintro ⟨H4, H5, H10, H11, H12⟩
    iapply hm
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H6, H7, Hs⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs

/-! ## The output kernel -/

/-- The output body at the first point: the state and the logarithm of the sum are set, then the block is written. -/
theorem out_first (c : Dev nD) (i : grid1.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x2048 .f32) (h8 : a8.IsWhole)
    (a9 : Memref sig .tc .vmem S1024x64 .f32) (h9 : a9.IsWhole)
    (a10 : Memref sig .tc .vmem S1024x1 .f32) (h10 : a10.IsWhole)
    (hc : first (i 0).val) (X1 : Vec F S1024x64 .f32) (X2 : Vec F S1024x1 .i32) (X3 : Vec F S32x64 .f32) (X4 : Vec F S1024x2048 .i32) (X5 : Vec F S64x2048 .f32) (X6 : Vec F S1024x1 .f32) (X7 : Vec F S1024x1 .f32) (X8 : Vec F S1024x2048 .f32) (X9 : Vec F S1024x64 .f32) (X10 : Vec F S1024x1 .f32) (K : PUnit → sProp 𝕄) :
    iprop(own c a1 X1 ∗ own c a2 X2 ∗ own c a3 X3 ∗ own c a4 X4 ∗ own c a5 X5 ∗ own c a6 X6 ∗ own c a7 X7 ∗ own c a8 X8 ∗ own c a9 X9 ∗ own c a10 X10
        ∗ (iprop(own c a1 X1 ∗ own c a2 X2 ∗ own c a3 X3 ∗ own c a4 X4 ∗ own c a5 X5 ∗ own c a6 X6 ∗ own c a7 X7 ∗ own c a8 (k1_pay3 (k1_pay1 X2 X3 X1) X5 X4 X6 (k1_pay2 X7)) ∗ own c a9 (k1_pay1 X2 X3 X1) ∗ own c a10 (k1_pay2 X7)) -∗ K ⟨⟩))
      ⊢ wp frame (wpE (defs₀ (F := F)) Variants.none c none) Set.univ (cc1__out_body (F := F) i a1 h1 a2 h2 a3 h3 a4 h4 a5 h5 a6 h6 a7 h7 a8 h8 a9 h9 a10 h10) K := by
  simp only [cc1__out_body_eq_skeleton]; unfold cc1__out_body_skel
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  subst e1 e2 e3 e4 e5 e6 e7 e8 e9 e10
  sl_exec
  sl_step
  sl_unfold_words
  simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    exact View.read_writes_full _ _ _ _ _
  isplitl [H9]
  · iexists _; isplitr; swap; · iexact H9
    ipureintro
    exact View.read_writes_full _ _ _ _ _
  · iexists _; isplitr; swap; · iexact H10
    ipureintro
    exact View.read_writes_full _ _ _ _ _

/-- The output body at a later point: the block is written from what the scratch holds. -/
theorem out_rest (c : Dev nD) (i : grid1.Coords)
    (a1 : Memref sig .tc .vmem S1024x64 .f32) (h1 : a1.IsWhole)
    (a2 : Memref sig .tc .vmem S1024x1 .i32) (h2 : a2.IsWhole)
    (a3 : Memref sig .tc .vmem S32x64 .f32) (h3 : a3.IsWhole)
    (a4 : Memref sig .tc .vmem S1024x2048 .i32) (h4 : a4.IsWhole)
    (a5 : Memref sig .tc .vmem S64x2048 .f32) (h5 : a5.IsWhole)
    (a6 : Memref sig .tc .vmem S1024x1 .f32) (h6 : a6.IsWhole)
    (a7 : Memref sig .tc .vmem S1024x1 .f32) (h7 : a7.IsWhole)
    (a8 : Memref sig .tc .vmem S1024x2048 .f32) (h8 : a8.IsWhole)
    (a9 : Memref sig .tc .vmem S1024x64 .f32) (h9 : a9.IsWhole)
    (a10 : Memref sig .tc .vmem S1024x1 .f32) (h10 : a10.IsWhole)
    (hc : ¬ first (i 0).val) (X1 : Vec F S1024x64 .f32) (X2 : Vec F S1024x1 .i32) (X3 : Vec F S32x64 .f32) (X4 : Vec F S1024x2048 .i32) (X5 : Vec F S64x2048 .f32) (X6 : Vec F S1024x1 .f32) (X7 : Vec F S1024x1 .f32) (X8 : Vec F S1024x2048 .f32) (X9 : Vec F S1024x64 .f32) (X10 : Vec F S1024x1 .f32) (K : PUnit → sProp 𝕄) :
    iprop(own c a1 X1 ∗ own c a2 X2 ∗ own c a3 X3 ∗ own c a4 X4 ∗ own c a5 X5 ∗ own c a6 X6 ∗ own c a7 X7 ∗ own c a8 X8 ∗ own c a9 X9 ∗ own c a10 X10
        ∗ (iprop(own c a1 X1 ∗ own c a2 X2 ∗ own c a3 X3 ∗ own c a4 X4 ∗ own c a5 X5 ∗ own c a6 X6 ∗ own c a7 X7 ∗ own c a8 (k1_pay3 X9 X5 X4 X6 X10) ∗ own c a9 X9 ∗ own c a10 X10) -∗ K ⟨⟩))
      ⊢ wp frame (wpE (defs₀ (F := F)) Variants.none c none) Set.univ (cc1__out_body (F := F) i a1 h1 a2 h2 a3 h3 a4 h4 a5 h5 a6 h6 a7 h7 a8 h8 a9 h9 a10 h10) K := by
  simp only [cc1__out_body_eq_skeleton]; unfold cc1__out_body_skel
  unfold own owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  subst e1 e2 e3 e4 e5 e6 e7 e8 e9 e10
  sl_exec
  sl_step
  sl_unfold_words
  simp only [View.readAt_eq_ld, View.ld_unit_zero (S := S1024x64) hz, View.ld_unit_zero (S := S1024x1) hz, View.ld_unit_zero (S := S32x64) hz, View.ld_unit_zero (S := S1024x2048) hz, View.ld_unit_zero (S := S64x2048) hz,
    View.readCov_unit_zero (S := S1024x64) _ hz, View.readCov_unit_zero (S := S1024x1) _ hz]
  iapply Hk
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    rfl
  isplitl [H8]
  · iexists _; isplitr; swap; · iexact H8
    ipureintro
    exact View.read_writes_full _ _ _ _ _
  isplitl [H9]
  · iexists _; isplitr; swap; · iexact H9
    ipureintro
    rfl
  · iexists _; isplitr; swap; · iexact H10
    ipureintro
    rfl

end Cert.KernelIdeal.Hand

end
-- ==== Proof.KI.Region0.lean ====
/-
  The first call's region: what its staging buffers and scratch hold from point to point. The inputs are their blocks; the scratch
  holds something reachable from anything by folding the blocks in one after another, whatever lies past the arrays' end in the
  staging buffers; the three results, written at the last point alone, are read off such a scratch.
-/
module

public import proofs.«01_k».proof.Proof.KI.Body
public import Idealize.ShloMosaic.Lib.Pipeline.FrameBody
public import Idealize.ShloMosaic.Lib.Pipeline.DatRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]
variable {U : Type} [URA U]

local notation "𝕄" => MT nD τ sig Unit (Elt F) ℕ U ℕ

variable (V : (c : Dev nD) → (b : Ref sig .tc) → Buf (Elt F) ((c : Thread nD τ).loc b)) (c : Dev nD)

/-- Input window `w`'s block at point `t`, as its transfer moves it: the part of the array inside its bounds. -/
abbrev blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The observations, the piece numbers and the embedding table, whole. -/
abbrev in0 (t : Fin cfg0.N) : Vec F S1024x64 .f32 := blk0 V c 0 t
/-- The piece numbers. -/
abbrev in1 (t : Fin cfg0.N) : Vec F S1024x1 .i32 := blk0 V c 1 t
/-- The embedding table. -/
abbrev in2 (t : Fin cfg0.N) : Vec F S32x64 .f32 := blk0 V c 2 t

/-- What the scratch may hold after `n` points. -/
def Reach : ℕ → Scr F → Prop
  | 0, _ => True
  | n + 1, σ' => ∃ σ, Reach n σ ∧ ∃ (h : n < cfg0.N) (d3 : Vec F S1024x2048 .i32) (d4 : Vec F S64x2048 .f32) (d5 : Vec F S1024x2048 .f32),
      σ' = (Scr.entry (grid0.coords ⟨n, h⟩) (in0 V c ⟨n, h⟩) (in1 V c ⟨n, h⟩) (in2 V c ⟨n, h⟩) σ).step (grid0.coords ⟨n, h⟩)
        ((cfg0.win 3).fill (grid0.coords ⟨n, h⟩) d3 (blk0 V c 3 ⟨n, h⟩)) ((cfg0.win 4).fill (grid0.coords ⟨n, h⟩) d4 (blk0 V c 4 ⟨n, h⟩))
        ((cfg0.win 5).fill (grid0.coords ⟨n, h⟩) d5 (blk0 V c 5 ⟨n, h⟩))

/-- The scoped buffers the region neither stages nor uses: the second call's. -/
def others0 : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The invariant before point `n`: the scratch at something reachable, the other call's buffers at something. -/
def Phi0 (n : ℕ) : sProp 𝕄 :=
  iprop((∃ σ, ⌜Reach V c n σ⌝ ∗ heldScr c (Memref.whole cc0_scratch0) (Memref.whole cc0_scratch1) (Memref.whole cc0_scratch2)
    (Memref.whole cc0_scratch3) (Memref.whole cc0_scratch4) σ) ∗ others0 c)

/-- The region's proof data: the arrays at the entry contents, each input's buffer at its block, nothing owed. -/
def dat0 : Dat τ (Elt F) Unit ℕ U ℕ cfg0 c where
  A w := V c (Pipeline.arrRef spec0 w)
  after w t := (cfg0.win w).fill (cfg0.grid.coords t) (fun _ => Classical.arbitrary _) (blk0 V c w t)
  Φ t := Phi0 V c t.val
  q _ := fullShare
  owed _ := 0

/-- The three results' windows: what they hold is said by a predicate. -/
def fgt0 : Fin cfg0.W → Bool
  | 6 => true
  | 7 => true
  | 8 => true
  | _ => false

/-- At the last point the results are the maximum, the sum and the column of a scratch reachable there. -/
def Rl0 : (w : Fin cfg0.W) → Fin cfg0.N → ((cfg0.win w).block.Idx → Elt F (cfg0.win w).elt) → Prop
  | 6 => fun t X => t.val = 48 → ∃ σ : Scr F, Reach V c 49 σ ∧ X = σ.m
  | 7 => fun t X => t.val = 48 → ∃ σ : Scr F, Reach V c 49 σ ∧ X = σ.s
  | 8 => fun t X => t.val = 48 → ∃ σ : Scr F, Reach V c 49 σ ∧ X = k0_pay1 σ.k
  | _ => fun _ _ => True

/-- The region's relational data. -/
abbrev rdat0 : Pipeline.RDat τ (Elt F) Unit ℕ U ℕ cfg0 c := (dat0 V c).toRRel fgt0 (Rl0 V c)

theorem before0_0 (t : Fin cfg0.N) (d) : (dat0 (U := U) V c).before 0 t d = in0 V c t :=
  ((dat0 (U := U) V c).before_in_eq_fetched 0 rfl (fun _ => rfl) (fun _ _ _ => rfl) (fun t => rfl) t d).trans rfl
theorem before0_1 (t : Fin cfg0.N) (d) : (dat0 (U := U) V c).before 1 t d = in1 V c t :=
  ((dat0 (U := U) V c).before_in_eq_fetched 1 rfl (fun _ => rfl) (fun _ _ _ => rfl) (fun t => rfl) t d).trans rfl
theorem before0_2 (t : Fin cfg0.N) (d) : (dat0 (U := U) V c).before 2 t d = in2 V c t :=
  ((dat0 (U := U) V c).before_in_eq_fetched 2 rfl (fun _ => rfl) (fun _ _ _ => rfl) (fun t => rfl) t d).trans rfl
theorem before0_3 (t : Fin cfg0.N) (d) : (dat0 (U := U) V c).before 3 t d = (cfg0.win 3).fill (grid0.coords t) d (blk0 V c 3 t) := by
  unfold Dat.before; rw [if_pos (fetch0_3 t)]; rfl
theorem before0_4 (t : Fin cfg0.N) (d) : (dat0 (U := U) V c).before 4 t d = (cfg0.win 4).fill (grid0.coords t) d (blk0 V c 4 t) := by
  unfold Dat.before; rw [if_pos (fetch0_4 t)]; rfl
theorem before0_5 (t : Fin cfg0.N) (d) : (dat0 (U := U) V c).before 5 t d = (cfg0.win 5).fill (grid0.coords t) d (blk0 V c 5 t) := by
  unfold Dat.before; rw [if_pos (fetch0_5 t)]; rfl

/-- The region's body is run from the tables' row. -/
theorem defs₀_row0 (t : Fin cfg0.N) : defs₀ (F := F) .tc cfg0.body (cfg0.bodyArgs t (cfg0.slots t)) = bodyAt0 t := by
  unfold defs₀; rw [Defs.onTc_tc]

/-- The last guard holds at the last point. -/
theorem cond2_last (t : Fin cfg0.N) (h : t.val = 48) : k0_cond2 (grid0.coords t) = 1#1 := by
  have ht : t = ⟨48, by decide⟩ := Fin.ext h
  subst ht; decide +kernel

/-- The body obligation. -/
theorem obligation0 : BodyObligationRel (dat0 (U := U) V c) (defs₀ (F := F)) Variants.none () Set.univ fgt0 (Rl0 V c) := fun t => by
  rw [bigSep_W0, bigSep_W0, defs₀_row0]
  rw [show (dat0 (U := U) V c).Φ t.castSucc = Phi0 V c t.val from rfl, show (dat0 (U := U) V c).Φ t.succ = Phi0 V c (t.val + 1) from rfl,
    show (dat0 (U := U) V c).owesAt () t.succ = (dat0 (U := U) V c).owesAt () t.castSucc from rfl]
  simp only [fgt0]
  unfold Phi0
  iintro ⟨⟨⟨%σ, %hσ, Hs⟩, Hoth⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩⟩
  rw [before0_0, before0_1, before0_2, before0_3, before0_4, before0_5]
  iapply (stats_run (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7)) (win0_8.stage (cfg0.slots t 8)) (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (in0 V c t) (in1 V c t) (in2 V c t) ((cfg0.win 3).fill (grid0.coords t) d3 (blk0 V c 3 t)) ((cfg0.win 4).fill (grid0.coords t) d4 (blk0 V c 4 t))
    ((cfg0.win 5).fill (grid0.coords t) d5 (blk0 V c 5 t)) Y6 Y7 Y8 σ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]; · iexact Hs
  have hr : Reach V c (t.val + 1) ((Scr.entry (grid0.coords t) (in0 V c t) (in1 V c t) (in2 V c t) σ).step (grid0.coords t)
      ((cfg0.win 3).fill (grid0.coords t) d3 (blk0 V c 3 t)) ((cfg0.win 4).fill (grid0.coords t) d4 (blk0 V c 4 t))
      ((cfg0.win 5).fill (grid0.coords t) d5 (blk0 V c 5 t))) := ⟨σ, hσ, t.isLt, d3, d4, d5, rfl⟩
  iintro ⟨H0, H1, H2, H3, H4, H5, ⟨%Z6, %Z7, %Z8, %hZ, H6, H7, H8⟩, Hs⟩
  isplitl [Hs Hoth]
  · isplitl [Hs]
    · iexists _; isplitr; swap; (· iexact Hs); ipureintro; exact hr
    · iexact Hoth
  isplitl [Ho]; · iexact Ho
  isplitl [H0]; · iexact H0
  isplitl [H1]; · iexact H1
  isplitl [H2]; · iexact H2
  isplitl [H3]; · iexists d3; rw [show (dat0 (U := U) V c).after 3 t = (cfg0.win 3).fill (cfg0.grid.coords t) (fun _ => Classical.arbitrary _) (blk0 V c 3 t) from rfl, Pipeline.Window.cut_fill]; iexact H3
  isplitl [H4]; · iexists d4; rw [show (dat0 (U := U) V c).after 4 t = (cfg0.win 4).fill (cfg0.grid.coords t) (fun _ => Classical.arbitrary _) (blk0 V c 4 t) from rfl, Pipeline.Window.cut_fill]; iexact H4
  isplitl [H5]; · iexists d5; rw [show (dat0 (U := U) V c).after 5 t = (cfg0.win 5).fill (cfg0.grid.coords t) (fun _ => Classical.arbitrary _) (blk0 V c 5 t) from rfl, Pipeline.Window.cut_fill]; iexact H5
  have h49 : ∀ h : t.val = 48, Reach V c 49 ((Scr.entry (grid0.coords t) (in0 V c t) (in1 V c t) (in2 V c t) σ).step (grid0.coords t)
      ((cfg0.win 3).fill (grid0.coords t) d3 (blk0 V c 3 t)) ((cfg0.win 4).fill (grid0.coords t) d4 (blk0 V c 4 t))
      ((cfg0.win 5).fill (grid0.coords t) d5 (blk0 V c 5 t))) := fun h => by rw [show (49 : ℕ) = t.val + 1 by omega]; exact hr
  isplitl [H6]
  · iexists Z6; isplitr; swap; (· iexact H6); ipureintro; exact fun h => ⟨_, h49 h, (hZ (cond2_last t h)).1⟩
  isplitl [H7]
  · iexists Z7; isplitr; swap; (· iexact H7); ipureintro; exact fun h => ⟨_, h49 h, (hZ (cond2_last t h)).2.1⟩
  · iexists Z8; isplitr; swap; (· iexact H8); ipureintro; exact fun h => ⟨_, h49 h, (hZ (cond2_last t h)).2.2⟩

/-- The invariant at the start, from the scoped buffers at anything. -/
theorem enter0 : (Pipeline.scopedRest (Ix := Unit) (Name := ℕ) (U := U) (Lvl := ℕ) (Val := Elt F) spec0 c : sProp 𝕄) ⊢ Phi0 V c 0 := by
  rw [scopedRest0_eq]
  unfold Phi0 heldScr others0 own
  simp only [owns_whole_eq]
  iintro ⟨⟨%f0, H0⟩, ⟨%f1, H1⟩, ⟨%f2, H2⟩, ⟨%f3, H3⟩, ⟨%f4, H4⟩, Hr⟩
  isplitr [Hr]; swap; · iexact Hr
  iexists (⟨f0, f1, f2, f3, f4⟩ : Scr F)
  isplitr; · ipureintro; exact trivial
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  iexists f4; isplitr; swap; (· iexact H4); ipureintro; rfl

/-- The invariant at any point gives the scoped buffers back. -/
theorem leave0 (n : ℕ) : Phi0 V c n ⊢ (Pipeline.scopedRest (Ix := Unit) (Name := ℕ) (U := U) (Lvl := ℕ) (Val := Elt F) spec0 c : sProp 𝕄) := by
  rw [scopedRest0_eq]
  unfold Phi0 heldScr others0 own
  simp only [owns_whole_eq]
  iintro ⟨⟨%σ, -, ⟨%f0, -, H0⟩, ⟨%f1, -, H1⟩, ⟨%f2, -, H2⟩, ⟨%f3, -, H3⟩, ⟨%f4, -, H4⟩⟩, Hr⟩
  isplitl [H0]; · iexists f0; iexact H0
  isplitl [H1]; · iexists f1; iexact H1
  isplitl [H2]; · iexists f2; iexact H2
  isplitl [H3]; · iexists f3; iexact H3
  isplitl [H4]; · iexists f4; iexact H4
  iexact Hr

end Cert.KernelIdeal.Hand

end
-- ==== Proof.KI.Region1.lean ====
/-
  The second call's region: its scratch is set at the first point, to the state of every row and the logarithm of the row's sum,
  and stays; each point writes its block of the log-probabilities from them, the block's weights and the block's legal mask.
-/
module

public import proofs.«01_k».proof.Proof.KI.Region0
public import Idealize.ShloMosaic.Lib.Pipeline.FrameBody
public import Idealize.ShloMosaic.Lib.Pipeline.DatRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]
variable {U : Type} [URA U]

local notation "𝕄" => MT nD τ sig Unit (Elt F) ℕ U ℕ

variable (V : (c : Dev nD) → (b : Ref sig .tc) → Buf (Elt F) ((c : Thread nD τ).loc b)) (c : Dev nD)

/-- Input window `w`'s block at point `t`, as its transfer moves it: the part of the array inside its bounds. -/
abbrev blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point. -/
abbrev z1 : Fin cfg1.N := ⟨0, by decide⟩
/-- The observations, whole. -/
abbrev out0 : Vec F S1024x64 .f32 := blk1 V c 0 z1
/-- The piece numbers. -/
abbrev out1 : Vec F S1024x1 .i32 := blk1 V c 1 z1
/-- The embedding table. -/
abbrev out2 : Vec F S32x64 .f32 := blk1 V c 2 z1
/-- The rows' maxima. -/
abbrev out5 : Vec F S1024x1 .f32 := blk1 V c 5 z1
/-- The rows' sums. -/
abbrev out6 : Vec F S1024x1 .f32 := blk1 V c 6 z1

/-- The state of every row, and the logarithm of its sum. -/
abbrev state1 : Vec F S1024x64 .f32 := k1_pay1 (out1 V c) (out2 V c) (out0 V c)
/-- The logarithm of every row's sum. -/
abbrev lse1 : Vec F S1024x1 .f32 := k1_pay2 (out6 V c)

/-- The scoped buffers the region neither stages nor uses: the first call's. -/
def others1 : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- The invariant before point `n`: after the first point the scratch holds the state and the logarithms. -/
def Phi1 (n : ℕ) : sProp 𝕄 :=
  iprop((∃ x l, ⌜n ≠ 0 → x = state1 V c ∧ l = lse1 V c⌝ ∗ own c (Memref.whole cc1_scratch0) x ∗ own c (Memref.whole cc1_scratch1) l) ∗ others1 c)

/-- The region's proof data: the arrays at the entry contents, each input's buffer at its block, nothing owed. -/
def dat1 : Dat τ (Elt F) Unit ℕ U ℕ cfg1 c where
  A w := V c (Pipeline.arrRef spec1 w)
  after w t := (cfg1.win w).fill (cfg1.grid.coords t) (fun _ => Classical.arbitrary _) (blk1 V c w t)
  Φ t := Phi1 V c t.val
  q _ := fullShare
  owed _ := 0

/-- The result's window: what it holds is said by a predicate. -/
def fgt1 : Fin cfg1.W → Bool
  | 7 => true
  | _ => false

/-- The result's block is computed from the block of the legal mask and of the weights, whatever lies past the arrays' end. -/
def Rl1 : (w : Fin cfg1.W) → Fin cfg1.N → ((cfg1.win w).block.Idx → Elt F (cfg1.win w).elt) → Prop
  | 7 => fun t X => ∃ (d3 : Vec F S1024x2048 .i32) (d4 : Vec F S64x2048 .f32),
      X = k1_pay3 (state1 V c) ((cfg1.win 4).fill (grid1.coords t) d4 (blk1 V c 4 t)) ((cfg1.win 3).fill (grid1.coords t) d3 (blk1 V c 3 t)) (out5 V c) (lse1 V c)
  | _ => fun _ _ => True

/-- The region's relational data. -/
abbrev rdat1 : Pipeline.RDat τ (Elt F) Unit ℕ U ℕ cfg1 c := (dat1 V c).toRRel fgt1 (Rl1 V c)

theorem before1_0 (t : Fin cfg1.N) (d) : (dat1 (U := U) V c).before 0 t d = out0 V c :=
  ((dat1 (U := U) V c).before_in_eq_fetched 0 rfl (fun _ => rfl) (fun _ _ _ => rfl) (fun t => rfl) t d).trans rfl
theorem before1_1 (t : Fin cfg1.N) (d) : (dat1 (U := U) V c).before 1 t d = out1 V c :=
  ((dat1 (U := U) V c).before_in_eq_fetched 1 rfl (fun _ => rfl) (fun _ _ _ => rfl) (fun t => rfl) t d).trans rfl
theorem before1_2 (t : Fin cfg1.N) (d) : (dat1 (U := U) V c).before 2 t d = out2 V c :=
  ((dat1 (U := U) V c).before_in_eq_fetched 2 rfl (fun _ => rfl) (fun _ _ _ => rfl) (fun t => rfl) t d).trans rfl
theorem before1_5 (t : Fin cfg1.N) (d) : (dat1 (U := U) V c).before 5 t d = out5 V c :=
  ((dat1 (U := U) V c).before_in_eq_fetched 5 rfl (fun _ => rfl) (fun _ _ _ => rfl) (fun t => rfl) t d).trans rfl
theorem before1_6 (t : Fin cfg1.N) (d) : (dat1 (U := U) V c).before 6 t d = out6 V c :=
  ((dat1 (U := U) V c).before_in_eq_fetched 6 rfl (fun _ => rfl) (fun _ _ _ => rfl) (fun t => rfl) t d).trans rfl
theorem before1_3 (t : Fin cfg1.N) (d) : (dat1 (U := U) V c).before 3 t d = (cfg1.win 3).fill (grid1.coords t) d (blk1 V c 3 t) := by
  unfold Dat.before; rw [if_pos (fetch1_3 t)]; rfl
theorem before1_4 (t : Fin cfg1.N) (d) : (dat1 (U := U) V c).before 4 t d = (cfg1.win 4).fill (grid1.coords t) d (blk1 V c 4 t) := by
  unfold Dat.before; rw [if_pos (fetch1_4 t)]; rfl

/-- The region's body is run from the tables' row. -/
theorem defs₀_row1 (t : Fin cfg1.N) : defs₀ (F := F) .tc cfg1.body (cfg1.bodyArgs t (cfg1.slots t)) = bodyAt1 t := by
  unfold defs₀; rw [Defs.onTc_tc]

/-- The first guard holds at the first point alone. -/
theorem first1 : ∀ t : Fin cfg1.N, first ((grid1.coords t) 0).val ↔ t.val = 0 := by decide +kernel

/-- One point of the output kernel: the first sets the scratch, a later one finds it set. -/
theorem out_run (c : Dev nD) (t : Fin cfg1.N)
    (a1 : Memref sig .tc .vmem S1024x64 .f32) (h1 : a1.IsWhole) (a2 : Memref sig .tc .vmem S1024x1 .i32) (h2 : a2.IsWhole)
    (a3 : Memref sig .tc .vmem S32x64 .f32) (h3 : a3.IsWhole) (a4 : Memref sig .tc .vmem S1024x2048 .i32) (h4 : a4.IsWhole)
    (a5 : Memref sig .tc .vmem S64x2048 .f32) (h5 : a5.IsWhole) (a6 : Memref sig .tc .vmem S1024x1 .f32) (h6 : a6.IsWhole)
    (a7 : Memref sig .tc .vmem S1024x1 .f32) (h7 : a7.IsWhole) (a8 : Memref sig .tc .vmem S1024x2048 .f32) (h8 : a8.IsWhole)
    (a9 : Memref sig .tc .vmem S1024x64 .f32) (h9 : a9.IsWhole) (a10 : Memref sig .tc .vmem S1024x1 .f32) (h10 : a10.IsWhole)
    (X1 : Vec F S1024x64 .f32) (X2 : Vec F S1024x1 .i32) (X3 : Vec F S32x64 .f32) (X4 : Vec F S1024x2048 .i32) (X5 : Vec F S64x2048 .f32)
    (X6 : Vec F S1024x1 .f32) (X7 : Vec F S1024x1 .f32) (X8 : Vec F S1024x2048 .f32) (X9 : Vec F S1024x64 .f32) (X10 : Vec F S1024x1 .f32)
    (hX : t.val ≠ 0 → X9 = k1_pay1 X2 X3 X1 ∧ X10 = k1_pay2 X7) (K : PUnit → sProp 𝕄) :
    iprop(own c a1 X1 ∗ own c a2 X2 ∗ own c a3 X3 ∗ own c a4 X4 ∗ own c a5 X5 ∗ own c a6 X6 ∗ own c a7 X7 ∗ own c a8 X8 ∗ own c a9 X9 ∗ own c a10 X10
        ∗ (iprop(own c a1 X1 ∗ own c a2 X2 ∗ own c a3 X3 ∗ own c a4 X4 ∗ own c a5 X5 ∗ own c a6 X6 ∗ own c a7 X7 ∗ own c a8 (k1_pay3 (k1_pay1 X2 X3 X1) X5 X4 X6 (k1_pay2 X7))
            ∗ own c a9 (k1_pay1 X2 X3 X1) ∗ own c a10 (k1_pay2 X7)) -∗ K ⟨⟩))
      ⊢ wp frame (wpE (defs₀ (F := F)) Variants.none c none) Set.univ (cc1__out_body (F := F) (grid1.coords t) a1 h1 a2 h2 a3 h3 a4 h4 a5 h5 a6 h6 a7 h7 a8 h8 a9 h9 a10 h10) K := by
  by_cases hf : first ((grid1.coords t) 0).val
  · exact out_first (F := F) c (grid1.coords t) a1 h1 a2 h2 a3 h3 a4 h4 a5 h5 a6 h6 a7 h7 a8 h8 a9 h9 a10 h10 hf X1 X2 X3 X4 X5 X6 X7 X8 X9 X10 K
  · obtain ⟨rfl, rfl⟩ := hX fun h => hf ((first1 t).mpr h)
    exact out_rest (F := F) c (grid1.coords t) a1 h1 a2 h2 a3 h3 a4 h4 a5 h5 a6 h6 a7 h7 a8 h8 a9 h9 a10 h10 hf X1 X2 X3 X4 X5 X6 X7 X8 _ _ K

/-- The body obligation. -/
theorem obligation1 : BodyObligationRel (dat1 (U := U) V c) (defs₀ (F := F)) Variants.none () Set.univ fgt1 (Rl1 V c) := fun t => by
  rw [bigSep_W1, bigSep_W1, defs₀_row1]
  rw [show (dat1 (U := U) V c).Φ t.castSucc = Phi1 V c t.val from rfl, show (dat1 (U := U) V c).Φ t.succ = Phi1 V c (t.val + 1) from rfl,
    show (dat1 (U := U) V c).owesAt () t.succ = (dat1 (U := U) V c).owesAt () t.castSucc from rfl]
  simp only [fgt1]
  unfold Phi1
  iintro ⟨⟨⟨%x, %l, %hx, Hx, Hl⟩, Hoth⟩, Ho, ⟨%d0, H0⟩, ⟨%d1, H1⟩, ⟨%d2, H2⟩, ⟨%d3, H3⟩, ⟨%d4, H4⟩, ⟨%d5, H5⟩, ⟨%d6, H6⟩, ⟨%Y7, -, H7⟩⟩
  rw [before1_0, before1_1, before1_2, before1_3, before1_4, before1_5, before1_6]
  iapply (out_run (F := F) c t (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))
    (Memref.whole cc1_scratch0) (Memref.isWhole_whole _) (Memref.whole cc1_scratch1) (Memref.isWhole_whole _)
    (out0 V c) (out1 V c) (out2 V c) ((cfg1.win 3).fill (grid1.coords t) d3 (blk1 V c 3 t)) ((cfg1.win 4).fill (grid1.coords t) d4 (blk1 V c 4 t))
    (out5 V c) (out6 V c) Y7 x l hx _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx]; · iexact Hx
  isplitl [Hl]; · iexact Hl
  iintro ⟨H0, H1, H2, H3, H4, H5, H6, H7, Hx, Hl⟩
  isplitl [Hx Hl Hoth]
  · isplitl [Hx Hl]
    · iexists _, _; isplitr; swap; (· isplitl [Hx]; (· iexact Hx); iexact Hl); ipureintro; exact fun _ => ⟨rfl, rfl⟩
    · iexact Hoth
  isplitl [Ho]; · iexact Ho
  isplitl [H0]; · iexact H0
  isplitl [H1]; · iexact H1
  isplitl [H2]; · iexact H2
  isplitl [H3]; · iexists d3; rw [show (dat1 (U := U) V c).after 3 t = (cfg1.win 3).fill (cfg1.grid.coords t) (fun _ => Classical.arbitrary _) (blk1 V c 3 t) from rfl, Pipeline.Window.cut_fill]; iexact H3
  isplitl [H4]; · iexists d4; rw [show (dat1 (U := U) V c).after 4 t = (cfg1.win 4).fill (cfg1.grid.coords t) (fun _ => Classical.arbitrary _) (blk1 V c 4 t) from rfl, Pipeline.Window.cut_fill]; iexact H4
  isplitl [H5]; · iexact H5
  isplitl [H6]; · iexact H6
  iexists _; isplitr; swap; (· iexact H7); ipureintro; exact ⟨d3, d4, rfl⟩

/-- The invariant at the start, from the scoped buffers at anything. -/
theorem enter1 : (Pipeline.scopedRest (Ix := Unit) (Name := ℕ) (U := U) (Lvl := ℕ) (Val := Elt F) spec1 c : sProp 𝕄) ⊢ Phi1 V c 0 := by
  rw [scopedRest1_eq]
  unfold Phi1 others1 own
  simp only [owns_whole_eq]
  iintro ⟨G0, G1, G2, G3, G4, G5, G6, G7, G8, G9, G10, G11, G12, G13, G14, G15, G16, ⟨%f0, H0⟩, ⟨%f1, H1⟩⟩
  isplitl [H0 H1]
  · iexists f0, f1
    isplitr; · ipureintro; exact fun h => absurd rfl h
    isplitl [H0]; · iexists f0; isplitr; swap; (· iexact H0); ipureintro; rfl
    iexists f1; isplitr; swap; (· iexact H1); ipureintro; rfl
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  iexact G16

/-- The invariant at any point gives the scoped buffers back. -/
theorem leave1 (n : ℕ) : Phi1 V c n ⊢ (Pipeline.scopedRest (Ix := Unit) (Name := ℕ) (U := U) (Lvl := ℕ) (Val := Elt F) spec1 c : sProp 𝕄) := by
  rw [scopedRest1_eq]
  unfold Phi1 others1 own
  simp only [owns_whole_eq]
  iintro ⟨⟨%x, %l, -, ⟨%f0, -, H0⟩, ⟨%f1, -, H1⟩⟩, G0, G1, G2, G3, G4, G5, G6, G7, G8, G9, G10, G11, G12, G13, G14, G15, G16⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [H0]; · iexists f0; iexact H0
  iexists f1; iexact H1

end Cert.KernelIdeal.Hand

end
-- ==== Proof.KI.Calls.lean ====
/-
  The two calls as regions of the whole program, each entered from every unscoped buffer at any contents: what every buffer may
  hold when it returns.
-/
module

public import proofs.«01_k».proof.Proof.KI.Region0
public import proofs.«01_k».proof.Proof.KI.Region1
public import proofs.«01_k».proof.Proof.Gen.KernelIdeal.Regions
public import Idealize.ShloMosaic.Lib.Pipeline.RegionsLoop
public import Idealize.ShloMosaic.Lib.Pipeline.ArrRel

@[expose] public section

set_option maxRecDepth 4000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]

/-- The proof's resource algebra: one copy of the pipeline library's for the first call, one for the second, which is entered at
    contents known only when the program gets there. -/
abbrev UU : Type := UR sig nD τ × UR sig nD τ

local notation "𝕄" => MT nD τ sig Unit (Elt F) ℕ UU ℕ

/-- No core owes another anything: no level is assigned. -/
abbrev L₀ : GSem nD τ sig → Finset Unit := fun _ => ∅
/-- The levels, none used. -/
abbrev lv₀ : GSem nD τ sig → Unit → ℕ := fun _ _ => 0

/-- Valuations of the device's buffers, read at the program's references. -/
abbrev Vr (Wf : Dev nD → Valuation τ sig (Elt F)) : (c : Dev nD) → (b : Ref sig .tc) → Buf (Elt F) ((c : Thread nD τ).loc b) :=
  fun c b => Wf c (Proc.devRef .tc b)

/-- Proof data for a pipeline that an entry doesn't run: anything. -/
def junkDat {cfg : Pipeline.Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- Two references that differ are two buffers of the device. -/
theorem dev_ne {b b' : Ref sig .tc} (h : b ≠ b') : (Proc.devRef .tc b : DevRef τ sig) ≠ Proc.devRef .tc b' :=
  fun e => h (Proc.devRef_injective .tc e)

/-- The arrays after a region are at some contents each, which the write-backs may have left. -/
theorem arraysAt_some {cfg : Pipeline.Cfg sig Λ₀} {c : Dev nD} (rd : Pipeline.RDat τ (Elt F) Unit ℕ UU ℕ cfg c) (n : ℕ) :
    (rd.arraysAt n : sProp 𝕄) ⊢ iprop(∃ A : (w : Fin cfg.W) → Buf (Elt F) ((cfg.win w).arr.view.loc (c.tc : Thread nD τ)),
      ⌜∀ w, rd.ArrAt w n (A w)⌝ ∗ rd.arrays A) := by
  unfold Pipeline.RDat.arraysAt Pipeline.RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

/-! ## Region 0 -/

/-- The buffers with the region's results at `A`. -/
def put0 (Wf : Dev nD → Valuation τ sig (Elt F)) (c : Dev nD) (A : (w : Fin cfg0.W) → Buf (Elt F) ((cfg0.win w).arr.view.loc (c.tc : Thread nD τ))) :
    Valuation τ sig (Elt F) :=
  (Function.update (Function.update (Function.update (Wf c) (Proc.devRef .tc main_v14_0) (A 6)) (Proc.devRef .tc main_v14_1) (A 7)) (Proc.devRef .tc main_v14_2) (A 8))

/-- It has every other buffer where it was. -/
theorem put0_off (Wf : Dev nD → Valuation τ sig (Elt F)) (c : Dev nD) (A : (w : Fin cfg0.W) → Buf (Elt F) ((cfg0.win w).arr.view.loc (c.tc : Thread nD τ)))
    (b : Ref sig .tc) (h6 : b ≠ main_v14_0) (h7 : b ≠ main_v14_1) (h8 : b ≠ main_v14_2) : put0 Wf c A (Proc.devRef .tc b) = Wf c (Proc.devRef .tc b) := by
  unfold put0
  rw [Function.update_of_ne (dev_ne h8), Function.update_of_ne (dev_ne h7), Function.update_of_ne (dev_ne h6)]

/-- It has the windows' arrays at `A`, when `A` is what the write-backs may have left. -/
theorem put0_arr (Wf : Dev nD → Valuation τ sig (Elt F)) (c : Dev nD) (A : (w : Fin cfg0.W) → Buf (Elt F) ((cfg0.win w).arr.view.loc (c.tc : Thread nD τ)))
    (hA : ∀ w, (rdat0 (U := UU) (Vr Wf) c).ArrAt w cfg0.N (A w)) :
    ∀ w, A w = put0 Wf c A (Proc.devRef .tc (Pipeline.arrRef spec0 w))
  | ⟨0, _⟩ => (congrFun (Pipeline.RDat.ArrAt_in (rdat0 (U := UU) (Vr Wf) c) 0 rfl cfg0.N) (A 0) ▸ hA 0 : A 0 = (rdat0 (U := UU) (Vr Wf) c).A 0).trans (put0_off Wf c A main_arg0 (by decide) (by decide) (by decide)).symm
  | ⟨1, _⟩ => (congrFun (Pipeline.RDat.ArrAt_in (rdat0 (U := UU) (Vr Wf) c) 1 rfl cfg0.N) (A 1) ▸ hA 1 : A 1 = (rdat0 (U := UU) (Vr Wf) c).A 1).trans (put0_off Wf c A main_v0 (by decide) (by decide) (by decide)).symm
  | ⟨2, _⟩ => (congrFun (Pipeline.RDat.ArrAt_in (rdat0 (U := UU) (Vr Wf) c) 2 rfl cfg0.N) (A 2) ▸ hA 2 : A 2 = (rdat0 (U := UU) (Vr Wf) c).A 2).trans (put0_off Wf c A main_arg4 (by decide) (by decide) (by decide)).symm
  | ⟨3, _⟩ => (congrFun (Pipeline.RDat.ArrAt_in (rdat0 (U := UU) (Vr Wf) c) 3 rfl cfg0.N) (A 3) ▸ hA 3 : A 3 = (rdat0 (U := UU) (Vr Wf) c).A 3).trans (put0_off Wf c A main_v13 (by decide) (by decide) (by decide)).symm
  | ⟨4, _⟩ => (congrFun (Pipeline.RDat.ArrAt_in (rdat0 (U := UU) (Vr Wf) c) 4 rfl cfg0.N) (A 4) ▸ hA 4 : A 4 = (rdat0 (U := UU) (Vr Wf) c).A 4).trans (put0_off Wf c A main_arg3 (by decide) (by decide) (by decide)).symm
  | ⟨5, _⟩ => (congrFun (Pipeline.RDat.ArrAt_in (rdat0 (U := UU) (Vr Wf) c) 5 rfl cfg0.N) (A 5) ▸ hA 5 : A 5 = (rdat0 (U := UU) (Vr Wf) c).A 5).trans (put0_off Wf c A main_v12 (by decide) (by decide) (by decide)).symm
  | ⟨6, _⟩ => (by unfold put0; rw [Function.update_of_ne (by decide : (Proc.devRef .tc main_v14_0 : DevRef τ sig) ≠ Proc.devRef .tc main_v14_2), Function.update_of_ne (by decide : (Proc.devRef .tc main_v14_0 : DevRef τ sig) ≠ Proc.devRef .tc main_v14_1), Function.update_self] : put0 Wf c A (Proc.devRef .tc main_v14_0) = A 6).symm
  | ⟨7, _⟩ => (by unfold put0; rw [Function.update_of_ne (by decide : (Proc.devRef .tc main_v14_1 : DevRef τ sig) ≠ Proc.devRef .tc main_v14_2), Function.update_self] : put0 Wf c A (Proc.devRef .tc main_v14_1) = A 7).symm
  | ⟨8, _⟩ => (by unfold put0; rw [Function.update_self] : put0 Wf c A (Proc.devRef .tc main_v14_2) = A 8).symm

/-- The family of proof data the region's record is stated with: this call's at its pipeline, anything at the other. -/
def pd0 (Wf : Dev nD → Valuation τ sig (Elt F)) : (p : Fin 2) → (c : Dev nD) → Dat τ (Elt F) Unit ℕ UU ℕ (Pipeline.pin (pcfgs (F := F)) adm p) c
  | ⟨0, _⟩ => fun c => dat0 (Vr Wf) c
  | ⟨1, _⟩ => fun c => junkDat c

/-- The same, read relationally. -/
def rd0 (Wf : Dev nD → Valuation τ sig (Elt F)) : (p : Fin 2) → (c : Dev nD) → Pipeline.RDat τ (Elt F) Unit ℕ UU ℕ (Pipeline.pin (pcfgs (F := F)) adm p) c
  | ⟨0, _⟩ => fun c => rdat0 (Vr Wf) c
  | ⟨1, _⟩ => fun c => (junkDat c).toR

/-- The buffers after the region, from `Wf` before it: the results at something the write-backs may have left, every other buffer as it was. -/
structure After0 (Wf : Dev nD → Valuation τ sig (Elt F)) (c : Dev nD) (W : Valuation τ sig (Elt F)) : Prop where
  /-- the windows' arrays -/
  arr : ∀ w, (rdat0 (U := UU) (Vr Wf) c).ArrAt w cfg0.N (W (Proc.devRef .tc (Pipeline.arrRef spec0 w)))
  /-- every other buffer -/
  off : ∀ b : Ref sig .tc, b ≠ main_v14_0 → b ≠ main_v14_1 → b ≠ main_v14_2 → W (Proc.devRef .tc b) = Wf c (Proc.devRef .tc b)

set_option backward.isDefEq.respectTransparency.types false in
/-- The region's record, entered from every buffer at `Wf`. -/
def region0 (Wf : Dev nD → Valuation τ sig (Elt F)) (R : Dev nD → sProp 𝕄) :
    Pipeline.RDat.RegionSeg (pcfgs (F := F)) adm (rd0 Wf) () defs₀ Variants.none L₀ lv₀ 0 where
  win := launch0.win.to₀
  block_pos := launch0.block_pos
  stage_whole := launch0.stage_whole
  K := PEmpty
  osem k := k.elim
  ho := Pipeline.OwnSemFacts.none _
  hbody c := (obligation0 (Vr Wf) c).toRRel
  hwaits := Pipeline.RDat.hwaits_of_owed_zero _ _ _ _ L₀ lv₀ 0 fun _ _ => rfl
  pre c := iprop(unscopedBufs c (Vr Wf c) ∗ R c ∗ ∃ W, owes (c : Thread nD τ) (0 : CellTallies nD τ sig Unit) W)
  post c := iprop(∃ W : Valuation τ sig (Elt F), ⌜After0 Wf c W⌝ ∗ unscopedBufs c (fun b => W (Proc.devRef .tc b)) ∗ R c
    ∗ ∃ Wd, owes (c : Thread nD τ) (0 : CellTallies nD τ sig Unit) Wd)
  X _ := BI.emp
  Y _ := BI.emp
  Z c := iprop(Pipeline.unscopedRest (Ix := Unit) (Name := ℕ) (U := UU) (Lvl := ℕ) spec0 c (Vr Wf c) ∗ R c)
  hentry c := by
    rw [Pipeline.ownSems0_none]
    have hsplit : (unscopedBufs c (Vr Wf c) : sProp 𝕄) ⊢ iprop((rd0 Wf 0 c).arrays (rd0 Wf 0 c).A ∗ Pipeline.unscopedRest spec0 c (Vr Wf c)) := Pipeline.arrays_of_unscopedBufs (p := 0) (pcfgs (F := F)) adm (pd0 Wf) launch0.win launch0.arr_whole c
      ((pd0 Wf 0 c).share_full fun _ => rfl) (Vr Wf c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rd0 Wf 0 c).Φ 0 = Phi0 (Vr Wf) c 0 from rfl]
    iintro ⟨-, -, Hr⟩; iapply (enter0 (Vr Wf) c); iexact Hr
  hout c := by
    rw [Pipeline.ownSems0_none, show (rd0 Wf 0 c).Φ (Fin.last _) = Phi0 (Vr Wf) c cfg0.N from rfl]
    iintro Hr
    isplitr; · iempintro
    isplitr; · iempintro
    iapply (leave0 (Vr Wf) c cfg0.N); iexact Hr
  hexit c := by
    iintro ⟨Ha, HO, -, Hrest, HR⟩
    ihave Ha' := (arraysAt_some (rd0 Wf 0 c) cfg0.N) $$ Ha
    icases Ha' with ⟨%A, %hA, Ha⟩
    imodintro
    have hF := put0_arr Wf c A hA
    have hjoin : iprop((rd0 Wf 0 c).arrays A ∗ Pipeline.unscopedRest spec0 c (Vr Wf c)) ⊢ (unscopedBufs c (fun b => put0 Wf c A (Proc.devRef .tc b)) : sProp 𝕄) := Pipeline.unscopedBufs_of_arrays (p := 0) (pcfgs (F := F)) adm (Ix := Unit) (Name := ℕ) (U := UU) (Lvl := ℕ) launch0.win launch0.arr_whole c
      (pd0 Wf) ((pd0 Wf 0 c).share_full fun _ => rfl) (Vr Wf c) (fun b => put0 Wf c A (Proc.devRef .tc b)) A hF
      (fun b hb => put0_off Wf c A b (fun e => hb (e ▸ Finset.mem_image.mpr ⟨6, Finset.mem_univ _, rfl⟩)) (fun e => hb (e ▸ Finset.mem_image.mpr ⟨7, Finset.mem_univ _, rfl⟩)) (fun e => hb (e ▸ Finset.mem_image.mpr ⟨8, Finset.mem_univ _, rfl⟩)))
    iexists put0 Wf c A
    isplitr
    · ipureintro
      exact ⟨fun w => hF w ▸ hA w, put0_off Wf c A⟩
    isplitl [Ha Hrest]
    · iapply hjoin; isplitl [Ha] <;> iassumption
    isplitl [HR]; · iexact HR
    unfold Pipeline.RDat.owesAt Pipeline.owesWithin
    icases HO with ⟨%W, -, HO⟩; iexists W; iexact HO

/-! ## Region 1 -/

/-- The buffers with the region's results at `A`. -/
def put1 (Wf : Dev nD → Valuation τ sig (Elt F)) (c : Dev nD) (A : (w : Fin cfg1.W) → Buf (Elt F) ((cfg1.win w).arr.view.loc (c.tc : Thread nD τ))) :
    Valuation τ sig (Elt F) :=
  (Function.update (Wf c) (Proc.devRef .tc main_v16) (A 7))

/-- It has every other buffer where it was. -/
theorem put1_off (Wf : Dev nD → Valuation τ sig (Elt F)) (c : Dev nD) (A : (w : Fin cfg1.W) → Buf (Elt F) ((cfg1.win w).arr.view.loc (c.tc : Thread nD τ)))
    (b : Ref sig .tc) (h7 : b ≠ main_v16) : put1 Wf c A (Proc.devRef .tc b) = Wf c (Proc.devRef .tc b) := by
  unfold put1
  rw [Function.update_of_ne (dev_ne h7)]

/-- It has the windows' arrays at `A`, when `A` is what the write-backs may have left. -/
theorem put1_arr (Wf : Dev nD → Valuation τ sig (Elt F)) (c : Dev nD) (A : (w : Fin cfg1.W) → Buf (Elt F) ((cfg1.win w).arr.view.loc (c.tc : Thread nD τ)))
    (hA : ∀ w, (rdat1 (U := UU) (Vr Wf) c).ArrAt w cfg1.N (A w)) :
    ∀ w, A w = put1 Wf c A (Proc.devRef .tc (Pipeline.arrRef spec1 w))
  | ⟨0, _⟩ => (congrFun (Pipeline.RDat.ArrAt_in (rdat1 (U := UU) (Vr Wf) c) 0 rfl cfg1.N) (A 0) ▸ hA 0 : A 0 = (rdat1 (U := UU) (Vr Wf) c).A 0).trans (put1_off Wf c A main_arg0 (by decide)).symm
  | ⟨1, _⟩ => (congrFun (Pipeline.RDat.ArrAt_in (rdat1 (U := UU) (Vr Wf) c) 1 rfl cfg1.N) (A 1) ▸ hA 1 : A 1 = (rdat1 (U := UU) (Vr Wf) c).A 1).trans (put1_off Wf c A main_v0 (by decide)).symm
  | ⟨2, _⟩ => (congrFun (Pipeline.RDat.ArrAt_in (rdat1 (U := UU) (Vr Wf) c) 2 rfl cfg1.N) (A 2) ▸ hA 2 : A 2 = (rdat1 (U := UU) (Vr Wf) c).A 2).trans (put1_off Wf c A main_arg4 (by decide)).symm
  | ⟨3, _⟩ => (congrFun (Pipeline.RDat.ArrAt_in (rdat1 (U := UU) (Vr Wf) c) 3 rfl cfg1.N) (A 3) ▸ hA 3 : A 3 = (rdat1 (U := UU) (Vr Wf) c).A 3).trans (put1_off Wf c A main_v15 (by decide)).symm
  | ⟨4, _⟩ => (congrFun (Pipeline.RDat.ArrAt_in (rdat1 (U := UU) (Vr Wf) c) 4 rfl cfg1.N) (A 4) ▸ hA 4 : A 4 = (rdat1 (U := UU) (Vr Wf) c).A 4).trans (put1_off Wf c A main_arg3 (by decide)).symm
  | ⟨5, _⟩ => (congrFun (Pipeline.RDat.ArrAt_in (rdat1 (U := UU) (Vr Wf) c) 5 rfl cfg1.N) (A 5) ▸ hA 5 : A 5 = (rdat1 (U := UU) (Vr Wf) c).A 5).trans (put1_off Wf c A main_v14_0 (by decide)).symm
  | ⟨6, _⟩ => (congrFun (Pipeline.RDat.ArrAt_in (rdat1 (U := UU) (Vr Wf) c) 6 rfl cfg1.N) (A 6) ▸ hA 6 : A 6 = (rdat1 (U := UU) (Vr Wf) c).A 6).trans (put1_off Wf c A main_v14_1 (by decide)).symm
  | ⟨7, _⟩ => (by unfold put1; rw [Function.update_self] : put1 Wf c A (Proc.devRef .tc main_v16) = A 7).symm

/-- The family of proof data the region's record is stated with: this call's at its pipeline, anything at the other. -/
def pd1 (Wf : Dev nD → Valuation τ sig (Elt F)) : (p : Fin 2) → (c : Dev nD) → Dat τ (Elt F) Unit ℕ UU ℕ (Pipeline.pin (pcfgs (F := F)) adm p) c
  | ⟨1, _⟩ => fun c => dat1 (Vr Wf) c
  | ⟨0, _⟩ => fun c => junkDat c

/-- The same, read relationally. -/
def rd1 (Wf : Dev nD → Valuation τ sig (Elt F)) : (p : Fin 2) → (c : Dev nD) → Pipeline.RDat τ (Elt F) Unit ℕ UU ℕ (Pipeline.pin (pcfgs (F := F)) adm p) c
  | ⟨1, _⟩ => fun c => rdat1 (Vr Wf) c
  | ⟨0, _⟩ => fun c => (junkDat c).toR

/-- The buffers after the region, from `Wf` before it: the results at something the write-backs may have left, every other buffer as it was. -/
structure After1 (Wf : Dev nD → Valuation τ sig (Elt F)) (c : Dev nD) (W : Valuation τ sig (Elt F)) : Prop where
  /-- the windows' arrays -/
  arr : ∀ w, (rdat1 (U := UU) (Vr Wf) c).ArrAt w cfg1.N (W (Proc.devRef .tc (Pipeline.arrRef spec1 w)))
  /-- every other buffer -/
  off : ∀ b : Ref sig .tc, b ≠ main_v16 → W (Proc.devRef .tc b) = Wf c (Proc.devRef .tc b)

set_option backward.isDefEq.respectTransparency.types false in
/-- The region's record, entered from every buffer at `Wf`. -/
def region1 (Wf : Dev nD → Valuation τ sig (Elt F)) (R : Dev nD → sProp 𝕄) :
    Pipeline.RDat.RegionSeg (pcfgs (F := F)) adm (rd1 Wf) () defs₀ Variants.none L₀ lv₀ 1 where
  win := launch1.win.to₀
  block_pos := launch1.block_pos
  stage_whole := launch1.stage_whole
  K := PEmpty
  osem k := k.elim
  ho := Pipeline.OwnSemFacts.none _
  hbody c := (obligation1 (Vr Wf) c).toRRel
  hwaits := Pipeline.RDat.hwaits_of_owed_zero _ _ _ _ L₀ lv₀ 1 fun _ _ => rfl
  pre c := iprop(unscopedBufs c (Vr Wf c) ∗ R c ∗ ∃ W, owes (c : Thread nD τ) (0 : CellTallies nD τ sig Unit) W)
  post c := iprop(∃ W : Valuation τ sig (Elt F), ⌜After1 Wf c W⌝ ∗ unscopedBufs c (fun b => W (Proc.devRef .tc b)) ∗ R c
    ∗ ∃ Wd, owes (c : Thread nD τ) (0 : CellTallies nD τ sig Unit) Wd)
  X _ := BI.emp
  Y _ := BI.emp
  Z c := iprop(Pipeline.unscopedRest (Ix := Unit) (Name := ℕ) (U := UU) (Lvl := ℕ) spec1 c (Vr Wf c) ∗ R c)
  hentry c := by
    rw [Pipeline.ownSems0_none]
    have hsplit : (unscopedBufs c (Vr Wf c) : sProp 𝕄) ⊢ iprop((rd1 Wf 1 c).arrays (rd1 Wf 1 c).A ∗ Pipeline.unscopedRest spec1 c (Vr Wf c)) := Pipeline.arrays_of_unscopedBufs (p := 1) (pcfgs (F := F)) adm (pd1 Wf) launch1.win launch1.arr_whole c
      ((pd1 Wf 1 c).share_full fun _ => rfl) (Vr Wf c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [Hrest] <;> iassumption
  hin c := by
    rw [show (rd1 Wf 1 c).Φ 0 = Phi1 (Vr Wf) c 0 from rfl]
    iintro ⟨-, -, Hr⟩; iapply (enter1 (Vr Wf) c); iexact Hr
  hout c := by
    rw [Pipeline.ownSems0_none, show (rd1 Wf 1 c).Φ (Fin.last _) = Phi1 (Vr Wf) c cfg1.N from rfl]
    iintro Hr
    isplitr; · iempintro
    isplitr; · iempintro
    iapply (leave1 (Vr Wf) c cfg1.N); iexact Hr
  hexit c := by
    iintro ⟨Ha, HO, -, Hrest, HR⟩
    ihave Ha' := (arraysAt_some (rd1 Wf 1 c) cfg1.N) $$ Ha
    icases Ha' with ⟨%A, %hA, Ha⟩
    imodintro
    have hF := put1_arr Wf c A hA
    have hjoin : iprop((rd1 Wf 1 c).arrays A ∗ Pipeline.unscopedRest spec1 c (Vr Wf c)) ⊢ (unscopedBufs c (fun b => put1 Wf c A (Proc.devRef .tc b)) : sProp 𝕄) := Pipeline.unscopedBufs_of_arrays (p := 1) (pcfgs (F := F)) adm (Ix := Unit) (Name := ℕ) (U := UU) (Lvl := ℕ) launch1.win launch1.arr_whole c
      (pd1 Wf) ((pd1 Wf 1 c).share_full fun _ => rfl) (Vr Wf c) (fun b => put1 Wf c A (Proc.devRef .tc b)) A hF
      (fun b hb => put1_off Wf c A b (fun e => hb (e ▸ Finset.mem_image.mpr ⟨7, Finset.mem_univ _, rfl⟩)))
    iexists put1 Wf c A
    isplitr
    · ipureintro
      exact ⟨fun w => hF w ▸ hA w, put1_off Wf c A⟩
    isplitl [Ha Hrest]
    · iapply hjoin; isplitl [Ha] <;> iassumption
    isplitl [HR]; · iexact HR
    unfold Pipeline.RDat.owesAt Pipeline.owesWithin
    icases HO with ⟨%W, -, HO⟩; iexists W; iexact HO

end Cert.KernelIdeal.Hand

end
-- ==== Proof.KI.Run.lean ====
/-
  The whole program's run: the host's lines, the first call, a host line, the second call, a host line. What every final state
  holds: the arguments untouched, no semaphore above zero, and every buffer as the last host line leaves it from contents that
  the two calls may have left.
-/
module

public import proofs.«01_k».proof.Proof.KI.Calls
public import Idealize.ShloMosaic.Lib.Pipeline.RegionsOwned
public import Idealize.ShloMosaic.Lib.Pipeline.FrameSuffix

@[expose] public section

set_option maxRecDepth 4000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]

local notation "𝕄" => MT nD τ sig Unit (Elt F) ℕ UU ℕ

/-- The first copy of the resource algebra: the pipeline library's. -/
abbrev EP : Emb (UR sig nD τ) (MT nD τ sig Unit (Elt F) ℕ UU ℕ) := embL
/-- The second copy: the second call's. -/
abbrev EP2 : Emb (UR sig nD τ) (MT nD τ sig Unit (Elt F) ℕ UU ℕ) := embR

/-- The second call's ghost state, carried by every core until the call. -/
def ghost2 (c : Dev nD) : sProp 𝕄 :=
  iprop((bigSep Finset.univ fun p => Pipeline.cellsGhost (Pipeline.pin (pcfgs (F := F)) adm) EP2 p c)
    ∗ bigSep Finset.univ fun p => Pipeline.toksInit (Pipeline.pin (pcfgs (F := F)) adm) EP2 p c)

/-- What a core carries besides its buffers: the second call's ghost state and its account with the others. -/
def carry (c : Dev nD) : sProp 𝕄 :=
  iprop(ghost2 c ∗ ∃ W, owes (c : Thread nD τ) (0 : CellTallies nD τ sig Unit) W)

variable (m : (ℓ : Loc nD τ sig) → Buf (Elt F) ℓ)

/-- Contents the first call may leave. -/
abbrev Left0 (c : Dev nD) : Type _ := { W : Valuation τ sig (Elt F) // After0 (V3 m) c W }

/-- Contents the second call may leave, from contents the first may leave. -/
abbrev Left1 (c : Dev nD) : Type _ :=
  { W : Valuation τ sig (Elt F) // ∃ W0, After0 (V3 m) c W0 ∧ After1 (fun _ => StableHlo.after hostOps1 W0) c W }

/-- A buffer's own contents, as the first region takes them and leaves them. -/
abbrev reg0 : Pipeline.RDat.RegionSeg (pcfgs (F := F)) adm (rd0 (V3 m)) () defs₀ Variants.none L₀ lv₀ 0 := region0 (V3 m) ghost2

set_option backward.isDefEq.respectTransparency.types false in
/-- The host's line between the calls, from any contents the first may leave. -/
def mid : Pipeline.HostSeg (Ix := Unit) (Name := ℕ) (U := UU) (Lvl := ℕ) (pcfgs (F := F)) defs₀ Variants.none L₀ lv₀ :=
  Pipeline.HostSeg.ofOpsEx _ _ _ _ _ (Γ := fun c => Left0 m c) (Pipeline.ucRefs τ sig) hostOps1
    (fun op h => Pipeline.sub_ucRefs op ((List.forall_iff_forall_mem.mp hostOps1_sub) op h))
    (fun op h => (List.forall_iff_forall_mem.mp hostOps1_fresh) op h) (fun _ γ => γ.1) carry

set_option backward.isDefEq.respectTransparency.types false in
/-- The host's last line, from any contents the second call may leave. -/
def last : Pipeline.HostSeg (Ix := Unit) (Name := ℕ) (U := UU) (Lvl := ℕ) (pcfgs (F := F)) defs₀ Variants.none L₀ lv₀ :=
  Pipeline.HostSeg.ofOpsEx _ _ _ _ _ (Γ := fun c => Left1 m c) (Pipeline.ucRefs τ sig) hostOps2
    (fun op h => Pipeline.sub_ucRefs op ((List.forall_iff_forall_mem.mp hostOps2_sub) op h))
    (fun op h => (List.forall_iff_forall_mem.mp hostOps2_fresh) op h) (fun _ γ => γ.1)
    (fun c => iprop(∃ W, owes (c : Thread nD τ) (0 : CellTallies nD τ sig Unit) W))

set_option backward.isDefEq.respectTransparency.types false in
/-- The second call, from any contents the host's line may leave. -/
def second : Pipeline.HostSeg (Ix := Unit) (Name := ℕ) (U := UU) (Lvl := ℕ) (pcfgs (F := F)) defs₀ Variants.none L₀ lv₀ where
  prog := Prog.lift (.customCall (Pipeline.entry 1) ())
  pre c := iprop((∃ γ : Left0 m c, StableHlo.held (c : Thread nD τ) (Pipeline.ucRefs τ sig) (StableHlo.after hostOps1 γ.1)) ∗ carry c)
  post c := iprop((∃ γ : Left1 m c, StableHlo.held (c : Thread nD τ) (Pipeline.ucRefs τ sig) γ.1)
    ∗ ∃ W, owes (c : Thread nD τ) (0 : CellTallies nD τ sig Unit) W)
  run c {β} k K := by
    have hp : (Prog.lift (.customCall (Pipeline.entry 1) ()) >>= k
        : Prog (TpuEff nD τ sig (Elt F) (Pipeline.Sig Λ₀ (Fin 2) fun p => ((pcfgs (F := F)) p).Adm) .tc) β)
        = .op (.customCall (Pipeline.entry 1) ()) k := by simp only [Prog.lift, Prog.bind_op, Prog.bind_ret]
    rw [hp]
    unfold carry ghost2
    iintro ⟨Hk, Hbd, ⟨⟨%γ, Hh⟩, ⟨Hg, Ht⟩, HO⟩, Hla⟩
    have hwp := Pipeline.RDat.RegionSeg.wp (pcfgs (F := F)) adm (rd1 (fun _ => StableHlo.after hostOps1 γ.1)) () cellOf_inj EP2 defs₀ Variants.none L₀ lv₀
      (region1 (fun _ => StableHlo.after hostOps1 γ.1) fun _ => BI.emp) c none (fun u h => nomatch h) k K
    rw [show (region1 (fun _ => StableHlo.after hostOps1 γ.1) fun _ => BI.emp).pre c = iprop(unscopedBufs c (Vr (fun _ => StableHlo.after hostOps1 γ.1) c) ∗ BI.emp ∗ ∃ W, owes (c : Thread nD τ) (0 : CellTallies nD τ sig Unit) W) from rfl,
      show (region1 (fun _ => StableHlo.after hostOps1 γ.1) fun _ => BI.emp).post c = iprop(∃ W : Valuation τ sig (Elt F), ⌜After1 (fun _ => StableHlo.after hostOps1 γ.1) c W⌝ ∗ unscopedBufs c (fun b => W (Proc.devRef .tc b)) ∗ BI.emp
        ∗ ∃ Wd, owes (c : Thread nD τ) (0 : CellTallies nD τ sig Unit) Wd) from rfl] at hwp
    have hg : (bigSep Finset.univ fun p => (Pipeline.cellsGhost (Pipeline.pin (pcfgs (F := F)) adm) EP2 p c : sProp 𝕄)) = iprop(Pipeline.cellsGhost (Pipeline.pin (pcfgs (F := F)) adm) EP2 1 c ∗ bigSep (Finset.univ.erase 1) fun p => Pipeline.cellsGhost (Pipeline.pin (pcfgs (F := F)) adm) EP2 p c) := BI.bigSep_erase (Finset.mem_univ (1 : Fin 2)) (Φ := fun p => (Pipeline.cellsGhost (Pipeline.pin (pcfgs (F := F)) adm) EP2 p c : sProp 𝕄))
    have ht : (bigSep Finset.univ fun p => (Pipeline.toksInit (Pipeline.pin (pcfgs (F := F)) adm) EP2 p c : sProp 𝕄)) = iprop(Pipeline.toksInit (Pipeline.pin (pcfgs (F := F)) adm) EP2 1 c ∗ bigSep (Finset.univ.erase 1) fun p => Pipeline.toksInit (Pipeline.pin (pcfgs (F := F)) adm) EP2 p c) := BI.bigSep_erase (Finset.mem_univ (1 : Fin 2)) (Φ := fun p => (Pipeline.toksInit (Pipeline.pin (pcfgs (F := F)) adm) EP2 p c : sProp 𝕄))
    ihave Hg' := (BIBase.Entails.of_eq hg) $$ Hg
    ihave Ht' := (BIBase.Entails.of_eq ht) $$ Ht
    icases Hg' with ⟨Hg, -⟩
    icases Ht' with ⟨Ht, -⟩
    iapply hwp
    isplitl [Hk]
    · iintro ⟨Hbd, Hpost⟩
      iapply Hk
      isplitl [Hbd]; · iexact Hbd
      icases Hpost with ⟨%W, %hW, Hub, -, HO⟩
      isplitr [HO]
      · iexists (⟨W, γ.1, γ.2, hW⟩ : Left1 m c)
        rw [← Pipeline.unscopedBufs_held (Ix := Unit) (Name := ℕ) (U := UU) (Lvl := ℕ) c W]
        iexact Hub
      · iexact HO
    isplitl [Hbd]; · iexact Hbd
    isplitl [Hh HO]
    · isplitl [Hh]
      · ihave Hh' := (BIBase.Entails.of_eq (Pipeline.unscopedBufs_held (Ix := Unit) (Name := ℕ) (U := UU) (Lvl := ℕ) c (StableHlo.after hostOps1 γ.1)).symm) $$ Hh
        iexact Hh'
      isplitr; · iempintro
      iexact HO
    isplitl [Hla]; · iexact Hla
    isplitl [Hg] <;> iassumption

set_option backward.isDefEq.respectTransparency.types false in
/-- The first region is entered from what the host's lines before it leave. -/
theorem enter_reg0 (c : Dev nD) :
    iprop(StableHlo.held (c : Thread nD τ) (Pipeline.ucRefs τ sig) (V3 m c) ∗ carry c) ⊢ (iprop(unscopedBufs c (Vr (V3 m) c) ∗ ghost2 c ∗ ∃ W, owes (c : Thread nD τ) (0 : CellTallies nD τ sig Unit) W) : sProp 𝕄) := by
  unfold carry
  iintro ⟨Hh, HG, HO⟩
  isplitl [Hh]
  · rw [Pipeline.unscopedBufs_held (Ix := Unit) (Name := ℕ) (U := UU) (Lvl := ℕ) c (V3 m c)]
    iexact Hh
  isplitl [HG] <;> iassumption

set_option backward.isDefEq.respectTransparency.types false in
/-- And leaves what the host's line after it runs from. -/
theorem leave_reg0 (c : Dev nD) :
    iprop(∃ W : Valuation τ sig (Elt F), ⌜After0 (V3 m) c W⌝ ∗ unscopedBufs c (fun b => W (Proc.devRef .tc b)) ∗ ghost2 c
      ∗ ∃ Wd, owes (c : Thread nD τ) (0 : CellTallies nD τ sig Unit) Wd) ⊢ (iprop((∃ γ : Left0 m c, StableHlo.held (c : Thread nD τ) (Pipeline.ucRefs τ sig) γ.1) ∗ carry c) : sProp 𝕄) := by
  unfold carry
  iintro ⟨%W, %hW, Hub, HG, HO⟩
  isplitl [Hub]
  · iexists (⟨W, hW⟩ : Left0 m c)
    rw [← Pipeline.unscopedBufs_held (Ix := Unit) (Name := ℕ) (U := UU) (Lvl := ℕ) c W]
    iexact Hub
  isplitl [HG] <;> iassumption

/-- The program's segments. -/
def segments : List (Pipeline.RDat.Seg (pcfgs (F := F)) adm (rd0 (V3 m)) () defs₀ Variants.none L₀ lv₀) :=
  [.host (seg0 m Variants.none L₀ lv₀ (fun _ => carry)), .host (seg1 m Variants.none L₀ lv₀ (fun _ => carry)),
   .host (seg2 m Variants.none L₀ lv₀ (fun _ => carry)), .region (reg0 m), .host (mid m), .host (second m), .host (last m)]

set_option backward.isDefEq.respectTransparency.types false in
/-- The program's run, from any memory: the arguments untouched, the semaphores at zero, and each result read off the last host
    line over contents that the two calls may have left. -/
theorem run (ρ : Dev nD → PrngReg) :
    θ_run defs (onTc (τ := τ) (main (F := F))) ⟨m, fun _ => 0, ρ⟩ (fun r => (∀ c : Dev nD, ∃ γ : Left1 m c, ∀ b : Ref sig .tc, (Proc.devRef .tc b : DevRef τ sig).isScoped = false →
      r.2.mem ((c.tc : Thread nD τ).loc b) = StableHlo.after hostOps2 γ.1 (Proc.devRef .tc b)) ∧ r.2.sem = fun _ => 0) := by
  refine Pipeline.RDat.θ_run_regions_kit_dev_sems (pcfgs (F := F)) adm (rd0 (V3 m)) () cellOf_inj EP defs₀ Variants.none L₀ lv₀ m ρ main
    (fun _ => segments m)
    (fun c Q => by
      rewrite [main_chain c, Pipeline.RDat.Seg.run_eq_chain,
        show (segments m).map Pipeline.RDat.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segments, Pipeline.RDat.Seg.pipes_host, Pipeline.RDat.Seg.pipes_region, Pipeline.RDat.Seg.pipes_nil]; decide)
    0 (fun _ _ => rfl) ghost2
    (Rounds.initOf (Pipeline.cells cfgs cellOf_inj) (Pipeline.launchToks cfgs cellOf_inj),
      Rounds.initOf (Pipeline.cells cfgs cellOf_inj) (Pipeline.launchToks cfgs cellOf_inj)) ?_
    (T₀ := fun c => iprop(StableHlo.held (c : Thread nD τ) (Pipeline.ucRefs τ sig) (V0 m c) ∗ carry c))
    (Tₙ := fun c => iprop(∃ γ : Left1 m c, StableHlo.held (c : Thread nD τ) (Pipeline.ucRefs τ sig) (StableHlo.after hostOps2 γ.1)))
    (hch := fun c => ⟨.rfl, .rfl, .rfl, enter_reg0 m c, leave_reg0 m c, .rfl, .rfl, .rfl⟩)
    (hinit := ?_) (QY := fun c s => ∃ γ : Left1 m c, ∀ b : Ref sig .tc, (Proc.devRef .tc b : DevRef τ sig).isScoped = false →
      s.mem ((c.tc : Thread nD τ).loc b) = StableHlo.after hostOps2 γ.1 (Proc.devRef .tc b))
    (hfin := fun c s' => ?_) (hQ := fun _ h hz => ⟨h, funext fun g => hz g (.inr (regions_no_unscoped g.2))⟩)
  · iintro Hu
    ihave H := (ownU_pair _ _) $$ Hu
    icases H with ⟨H1, H2⟩
    imod (Pipeline.fund_ghost (Ix := Unit) (Lvl := ℕ) cfgs EP2 cellOf_inj) $$ H2 with Hg
    imodintro
    isplitl [H1]; · iexact H1
    unfold ghost2
    rw [bigSep_sep']
    iexact Hg
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ ghost2 c))
        ⊢ (bigSep Finset.univ fun c : Dev nD => iprop(StableHlo.held (c : Thread nD τ) (Pipeline.ucRefs τ sig) (V0 m c) ∗ carry c) : sProp 𝕄) :=
      bigSep_mono fun c _ => by
        rw [← Pipeline.unscopedBufs_held (Ix := Unit) (Name := ℕ) (U := UU) (Lvl := ℕ) c (V0 m c)]
        unfold carry
        refine (show (_ : sProp 𝕄) ⊢ _ from ?_)
        iintro ⟨Hub, -, HO, -, -, HG⟩
        isplitl [Hub]; · iexact Hub
        isplitl [HG]; · iexact HG
        iexists (∅ : Waits sig Unit)
        iexact HO
    iintro ⟨H, -⟩
    imodintro
    iapply hsplit
    iexact H
  · iintro ⟨⟨%γ, Hh⟩, HSI⟩
    unfold StableHlo.held
    ihave Hr := (pointsTo_read_all (Pipeline.ucRefs τ sig) (fun b => ((c : Thread nD τ).1, b)) (StableHlo.after hostOps2 γ.1) s') $$ [Hh HSI]
    · isplitl [Hh] <;> iassumption
    icases Hr with ⟨%h, HSI⟩
    imodintro
    isplitr
    · ipureintro
      exact ⟨γ, fun b hb => h (Proc.devRef .tc b) (Finset.mem_filter.mpr ⟨StableHlo.devRef_mem_tcRefs b, by rw [hb]; exact Bool.false_ne_true⟩)⟩
    · iexact HSI

end Cert.KernelIdeal.Hand

end
-- ==== Proof.KI.Frame.lean ====
/-
  The frame: from any memory the program ends, its arguments as they were and no semaphore above zero.
-/
module

public import proofs.«01_k».proof.Proof.KI.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]

variable (m : (ℓ : Loc nD τ sig) → Buf (Elt F) ℓ)

/-- A buffer that no host line writes and that is no call's result ends as it began. -/
theorem last_of (c : Dev nD) (γ : Left1 m c) (r : Ref sig .tc) (h0 : r ∉ hostOps0_W) (h01 : r ∉ hostOps0_1_W) (h02 : r ∉ hostOps0_2_W)
    (h4 : r ∉ ([main_v14_0, main_v14_1, main_v14_2] : List (Ref sig .tc))) (h1 : r ∉ hostOps1_W) (h6 : r ≠ main_v16) (h2 : r ∉ hostOps2_W) :
    StableHlo.after hostOps2 γ.1 (Proc.devRef .tc r) = m ((c : Thread nD τ).loc r) := by
  obtain ⟨W, W0, hW0, hW⟩ := γ
  refine (StableHlo.after_of_writes_sub hostOps2 _ hostOps2_writes h2).trans ((hW.off r h6).trans ?_)
  refine (StableHlo.after_of_writes_sub hostOps1 _ hostOps1_writes h1).trans ?_
  refine (hW0.off r (List.ne_of_not_mem_cons h4) (List.ne_of_not_mem_cons (List.not_mem_of_not_mem_cons h4))
    (List.ne_of_not_mem_cons (List.not_mem_of_not_mem_cons (List.not_mem_of_not_mem_cons h4)))).trans ?_
  exact (V3_of m c r h02).trans ((V2_of m c r h01).trans ((V1_of m c r h0).trans rfl))

/-- The frame. -/
theorem frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r ⟨h, hs⟩ => ⟨fun c => by
    obtain ⟨γ, h⟩ := h c
    exact ⟨(h main_arg0 (by decide)).trans (last_of m c γ main_arg0 (by decide) (by decide) (by decide) (by decide) (by decide) (by decide) (by decide)),
      (h main_arg1 (by decide)).trans (last_of m c γ main_arg1 (by decide) (by decide) (by decide) (by decide) (by decide) (by decide) (by decide)),
      (h main_arg2 (by decide)).trans (last_of m c γ main_arg2 (by decide) (by decide) (by decide) (by decide) (by decide) (by decide) (by decide)),
      (h main_arg3 (by decide)).trans (last_of m c γ main_arg3 (by decide) (by decide) (by decide) (by decide) (by decide) (by decide) (by decide)),
      (h main_arg4 (by decide)).trans (last_of m c γ main_arg4 (by decide) (by decide) (by decide) (by decide) (by decide) (by decide) (by decide))⟩, hs⟩) (run m g)

end Cert.KernelIdeal.Hand

end
-- ==== Proof.Ref.Ops.lean ====
module

public import proofs.«01_k».proof.Proof.Gen.ReferenceIdeal
public import Idealize.ShloMosaic.Lib.Pipeline.Frame
public import Idealize.ShloMosaic.Lib.Pipeline.Regions
public import Idealize.ShloMosaic.Lib.StableHlo.RunRead

@[expose] public section

set_option Elab.async false
set_option maxRecDepth 65536

noncomputable section

/-! # The reference's run: its host operations in order, and what its buffers end holding -/

namespace Cert.ReferenceIdeal.Hand

open Idealize.ShloMosaic Idealize.SL.Sem Cert.ReferenceIdeal Cert.ReferenceIdeal.Gen

variable {F : FTy → Type} [FloatOps F]

set_option maxHeartbeats 40000000 in
/-- The embedding rows looked up: `jnp.take` with its out-of-range fill. -/
abbrev opsA : List (HloOp τ sig (Elt F)) :=
  (
    StableHlo.TRef.nullary (.of main_call0_c : StableHlo.TRef sig ⟨S_, .i32⟩) (constantI S_ 32 0#32)
    :: StableHlo.TRef.unary (.of main_call0_c : StableHlo.TRef sig ⟨S_, .i32⟩) (.of main_call0_v0 : StableHlo.TRef sig ⟨S1024, .i32⟩) (broadcastInDim S1024 ![] bcast_S_S1024)
    :: StableHlo.TRef.binary (.of main_arg1 : StableHlo.TRef sig ⟨S1024, .i32⟩) (.of main_call0_v0 : StableHlo.TRef sig ⟨S1024, .i32⟩) (.of main_call0_v1 : StableHlo.TRef sig ⟨S1024, .i1⟩) (cmpi .slt)
    :: StableHlo.TRef.nullary (.of main_call0_c_0 : StableHlo.TRef sig ⟨S_, .i32⟩) (constantI S_ 32 32#32)
    :: StableHlo.TRef.unary (.of main_call0_c_0 : StableHlo.TRef sig ⟨S_, .i32⟩) (.of main_call0_v2 : StableHlo.TRef sig ⟨S1024, .i32⟩) (broadcastInDim S1024 ![] bcast_S_S1024)
    :: StableHlo.TRef.binary (.of main_arg1 : StableHlo.TRef sig ⟨S1024, .i32⟩) (.of main_call0_v2 : StableHlo.TRef sig ⟨S1024, .i32⟩) (.of main_call0_v3 : StableHlo.TRef sig ⟨S1024, .i32⟩) addi
    :: StableHlo.TRef.ternary (.of main_call0_v1 : StableHlo.TRef sig ⟨S1024, .i1⟩) (.of main_call0_v3 : StableHlo.TRef sig ⟨S1024, .i32⟩) (.of main_arg1 : StableHlo.TRef sig ⟨S1024, .i32⟩) (.of main_call0_v4 : StableHlo.TRef sig ⟨S1024, .i32⟩) select
    :: StableHlo.TRef.unary (.of main_call0_v4 : StableHlo.TRef sig ⟨S1024, .i32⟩) (.of main_call0_v5 : StableHlo.TRef sig ⟨S1024x1, .i32⟩) (broadcastInDim S1024x1 ![0] bcast_S1024_S1024x1_0)
    :: StableHlo.TRef.nullary (.of main_call0_c_1 : StableHlo.TRef sig ⟨S1, .i32⟩) (constantI S1 32 31#32)
    :: StableHlo.TRef.nullary (.of main_call0_c_2 : StableHlo.TRef sig ⟨S_, .i32⟩) (constantI S_ 32 0#32)
    :: StableHlo.TRef.unary (.of main_call0_c_2 : StableHlo.TRef sig ⟨S_, .i32⟩) (.of main_call0_v6 : StableHlo.TRef sig ⟨S1024x1, .i32⟩) (broadcastInDim S1024x1 ![] bcast_S_S1024x1)
    :: StableHlo.TRef.binary (.of main_call0_v5 : StableHlo.TRef sig ⟨S1024x1, .i32⟩) (.of main_call0_v6 : StableHlo.TRef sig ⟨S1024x1, .i32⟩) (.of main_call0_v7 : StableHlo.TRef sig ⟨S1024x1, .i1⟩) (cmpi .sge)
    :: StableHlo.TRef.unary (.of main_call0_c_1 : StableHlo.TRef sig ⟨S1, .i32⟩) (.of main_call0_v8 : StableHlo.TRef sig ⟨S1x1, .i32⟩) (broadcastInDim S1x1 ![1] bcast_S1_S1x1_1)
    :: StableHlo.TRef.unary (.of main_call0_v8 : StableHlo.TRef sig ⟨S1x1, .i32⟩) (.of main_call0_v9 : StableHlo.TRef sig ⟨S1024x1, .i32⟩) (broadcastInDim S1024x1 ![0, 1] bcast_S1x1_S1024x1_0_1)
    :: StableHlo.TRef.binary (.of main_call0_v5 : StableHlo.TRef sig ⟨S1024x1, .i32⟩) (.of main_call0_v9 : StableHlo.TRef sig ⟨S1024x1, .i32⟩) (.of main_call0_v10 : StableHlo.TRef sig ⟨S1024x1, .i1⟩) (cmpi .sle)
    :: StableHlo.TRef.binary (.of main_call0_v7 : StableHlo.TRef sig ⟨S1024x1, .i1⟩) (.of main_call0_v10 : StableHlo.TRef sig ⟨S1024x1, .i1⟩) (.of main_call0_v11 : StableHlo.TRef sig ⟨S1024x1, .i1⟩) andi
    :: StableHlo.TRef.nullary (.of main_call0_c_3 : StableHlo.TRef sig ⟨S_, .i1⟩) (constantI S_ 1 1#1)
    :: StableHlo.TRef.binary (.of main_call0_v11 : StableHlo.TRef sig ⟨S1024x1, .i1⟩) (.of main_call0_c_3 : StableHlo.TRef sig ⟨S_, .i1⟩) (.of main_call0_v12 : StableHlo.TRef sig ⟨S1024, .i1⟩) (fun x v => Host.reduce IntOp.andi x v reducesTo_S1024x1_S1024_d1 h_S_)
    :: StableHlo.TRef.binary (.of main_arg4 : StableHlo.TRef sig ⟨S32x64, .f32⟩) (.of main_call0_v5 : StableHlo.TRef sig ⟨S1024x1, .i32⟩) (.of main_call0_v13 : StableHlo.TRef sig ⟨S1024x64, .f32⟩) (fun x i => Host.gather gather_S32x64_S1024x1_S1024x64_1_0_n_n_0_1_164 x i)
    :: StableHlo.TRef.unary (.of main_call0_v12 : StableHlo.TRef sig ⟨S1024, .i1⟩) (.of main_call0_v14 : StableHlo.TRef sig ⟨S1024x64, .i1⟩) (broadcastInDim S1024x64 ![0] bcast_S1024_S1024x64_0)
    :: StableHlo.TRef.nullary (.of main_call0_cst : StableHlo.TRef sig ⟨S_, .f32⟩) (constant S_ .f32 0x7FC00000#32)
    :: StableHlo.TRef.unary (.of main_call0_cst : StableHlo.TRef sig ⟨S_, .f32⟩) (.of main_call0_v15 : StableHlo.TRef sig ⟨S1024x64, .f32⟩) (broadcastInDim S1024x64 ![] bcast_S_S1024x64)
    :: StableHlo.TRef.ternary (.of main_call0_v14 : StableHlo.TRef sig ⟨S1024x64, .i1⟩) (.of main_call0_v13 : StableHlo.TRef sig ⟨S1024x64, .f32⟩) (.of main_call0_v15 : StableHlo.TRef sig ⟨S1024x64, .f32⟩) (.of main_v0 : StableHlo.TRef sig ⟨S1024x64, .f32⟩) select
    :: [])

set_option maxHeartbeats 40000000 in
/-- Each of these operations touches TensorCore buffers only. -/
theorem opsA_sub : (opsA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

set_option maxHeartbeats 40000000 in
/-- The masked logits and their log-softmax. -/
abbrev opsB : List (HloOp τ sig (Elt F)) :=
  (
    StableHlo.binary main_arg0 main_v0 main_v1 (addf : (⟨S1024x64, .f32⟩ : BufTy).Contents (Elt F) → (⟨S1024x64, .f32⟩ : BufTy).Contents (Elt F) → (⟨S1024x64, .f32⟩ : BufTy).Contents (Elt F))
    :: StableHlo.binary main_v1 main_arg3 main_v2 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F))
    :: StableHlo.nullary main_cst (constant S_ .f32 0xCE6E6B28#32)
    :: StableHlo.TRef.unary (.of main_cst : StableHlo.TRef sig ⟨S_, .f32⟩) (.of main_call1_v0 : StableHlo.TRef sig ⟨S1024x100000, .f32⟩) (broadcastInDim S1024x100000 ![] bcast_S_S1024x100000)
    :: StableHlo.TRef.ternary (.of main_arg2 : StableHlo.TRef sig ⟨S1024x100000, .i1⟩) (.of main_v2 : StableHlo.TRef sig ⟨S1024x100000, .f32⟩) (.of main_call1_v0 : StableHlo.TRef sig ⟨S1024x100000, .f32⟩) (.of main_v3 : StableHlo.TRef sig ⟨S1024x100000, .f32⟩) select
    :: StableHlo.TRef.nullary (.of main_call2_cst : StableHlo.TRef sig ⟨S_, .f32⟩) (constant S_ .f32 0xFF800000#32)
    :: StableHlo.TRef.binary (.of main_v3 : StableHlo.TRef sig ⟨S1024x100000, .f32⟩) (.of main_call2_cst : StableHlo.TRef sig ⟨S_, .f32⟩) (.of main_call2_v0 : StableHlo.TRef sig ⟨S1024, .f32⟩) (fun x v => Host.reduce FloatOps.maximumf x v reducesTo_S1024x100000_S1024_d1 h_S_)
    :: StableHlo.TRef.nullary (.of main_call2_cst_0 : StableHlo.TRef sig ⟨S_, .f32⟩) (constant S_ .f32 0xFF800000#32)
    :: StableHlo.TRef.unary (.of main_call2_cst_0 : StableHlo.TRef sig ⟨S_, .f32⟩) (.of main_call2_v1 : StableHlo.TRef sig ⟨S1024, .f32⟩) (broadcastInDim S1024 ![] bcast_S_S1024)
    :: StableHlo.TRef.binary (.of main_call2_v1 : StableHlo.TRef sig ⟨S1024, .f32⟩) (.of main_call2_v0 : StableHlo.TRef sig ⟨S1024, .f32⟩) (.of main_call2_v2 : StableHlo.TRef sig ⟨S1024, .f32⟩) maximumf
    :: StableHlo.TRef.unary (.of main_call2_v2 : StableHlo.TRef sig ⟨S1024, .f32⟩) (.of main_call2_v3 : StableHlo.TRef sig ⟨S1024x1, .f32⟩) (broadcastInDim S1024x1 ![0] bcast_S1024_S1024x1_0)
    :: StableHlo.TRef.unary (.of main_call2_v3 : StableHlo.TRef sig ⟨S1024x1, .f32⟩) (.of main_call2_v4 : StableHlo.TRef sig ⟨S1024x100000, .f32⟩) (broadcastInDim S1024x100000 ![0, 1] bcast_S1024x1_S1024x100000_0_1)
    :: StableHlo.TRef.binary (.of main_v3 : StableHlo.TRef sig ⟨S1024x100000, .f32⟩) (.of main_call2_v4 : StableHlo.TRef sig ⟨S1024x100000, .f32⟩) (.of main_call2_v5 : StableHlo.TRef sig ⟨S1024x100000, .f32⟩) subf
    :: StableHlo.TRef.unary (.of main_call2_v5 : StableHlo.TRef sig ⟨S1024x100000, .f32⟩) (.of main_call2_v6 : StableHlo.TRef sig ⟨S1024x100000, .f32⟩) Host.exp
    :: StableHlo.TRef.nullary (.of main_call2_cst_1 : StableHlo.TRef sig ⟨S_, .f32⟩) (constant S_ .f32 0x00000000#32)
    :: StableHlo.TRef.binary (.of main_call2_v6 : StableHlo.TRef sig ⟨S1024x100000, .f32⟩) (.of main_call2_cst_1 : StableHlo.TRef sig ⟨S_, .f32⟩) (.of main_call2_v7 : StableHlo.TRef sig ⟨S1024, .f32⟩) (fun x v => Host.reduceAdd x v reducesTo_S1024x100000_S1024_d1 h_S_)
    :: StableHlo.TRef.unary (.of main_call2_v7 : StableHlo.TRef sig ⟨S1024, .f32⟩) (.of main_call2_v8 : StableHlo.TRef sig ⟨S1024x1, .f32⟩) (broadcastInDim S1024x1 ![0] bcast_S1024_S1024x1_0)
    :: StableHlo.TRef.unary (.of main_call2_v8 : StableHlo.TRef sig ⟨S1024x1, .f32⟩) (.of main_call2_v9 : StableHlo.TRef sig ⟨S1024x1, .f32⟩) Host.log
    :: StableHlo.TRef.unary (.of main_call2_v9 : StableHlo.TRef sig ⟨S1024x1, .f32⟩) (.of main_call2_v10 : StableHlo.TRef sig ⟨S1024x100000, .f32⟩) (broadcastInDim S1024x100000 ![0, 1] bcast_S1024x1_S1024x100000_0_1)
    :: StableHlo.TRef.binary (.of main_call2_v5 : StableHlo.TRef sig ⟨S1024x100000, .f32⟩) (.of main_call2_v10 : StableHlo.TRef sig ⟨S1024x100000, .f32⟩) (.of main_v4 : StableHlo.TRef sig ⟨S1024x100000, .f32⟩) subf
    :: [])

set_option maxHeartbeats 40000000 in
/-- Each of these operations touches TensorCore buffers only. -/
theorem opsB_sub : (opsB : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

set_option maxHeartbeats 40000000 in
/-- The temperature division and the random key with its two bounds. -/
abbrev opsC : List (HloOp τ sig (Elt F)) :=
  (
    StableHlo.nullary main_cst_0 (constant S_ .f32 0x3F333333#32)
    :: StableHlo.unary main_cst_0 main_v5 (broadcastInDim S1024x100000 ![] bcast_S_S1024x100000 : (⟨S_, .f32⟩ : BufTy).Contents (Elt F) → (⟨S1024x100000, .f32⟩ : BufTy).Contents (Elt F))
    :: StableHlo.binary main_v4 main_v5 main_v6 (Host.divf : (⟨S1024x100000, .f32⟩ : BufTy).Contents (Elt F) → (⟨S1024x100000, .f32⟩ : BufTy).Contents (Elt F) → (⟨S1024x100000, .f32⟩ : BufTy).Contents (Elt F))
    :: StableHlo.nullary main_c (constantI S_ 32 1234#32)
    :: StableHlo.nullary main_c_1 (constantI S_ 32 32#32)
    :: StableHlo.binary main_c main_c_1 main_v7 (Host.shrui : (⟨S_, .i32⟩ : BufTy).Contents (Elt F) → (⟨S_, .i32⟩ : BufTy).Contents (Elt F) → (⟨S_, .i32⟩ : BufTy).Contents (Elt F))
    :: StableHlo.unary main_v7 main_v8 (id : (⟨S_, .i32⟩ : BufTy).Contents (Elt F) → (⟨S_, .i32⟩ : BufTy).Contents (Elt F))
    :: StableHlo.unary main_v8 main_v9 (broadcastInDim S1 ![] bcast_S_S1 : (⟨S_, .i32⟩ : BufTy).Contents (Elt F) → (⟨S1, .i32⟩ : BufTy).Contents (Elt F))
    :: StableHlo.nullary main_c_2 (constantI S_ 32 4294967295#32)
    :: StableHlo.binary main_c main_c_2 main_v10 (andi : (⟨S_, .i32⟩ : BufTy).Contents (Elt F) → (⟨S_, .i32⟩ : BufTy).Contents (Elt F) → (⟨S_, .i32⟩ : BufTy).Contents (Elt F))
    :: StableHlo.unary main_v10 main_v11 (id : (⟨S_, .i32⟩ : BufTy).Contents (Elt F) → (⟨S_, .i32⟩ : BufTy).Contents (Elt F))
    :: StableHlo.unary main_v11 main_v12 (broadcastInDim S1 ![] bcast_S_S1 : (⟨S_, .i32⟩ : BufTy).Contents (Elt F) → (⟨S1, .i32⟩ : BufTy).Contents (Elt F))
    :: StableHlo.binary main_v9 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
    :: StableHlo.nullary main_cst_3 (constant S_ .f32 0x1E3CE508#32)
    :: StableHlo.nullary main_cst_4 (constant S_ .f32 0x3F800000#32)
    :: [])

set_option maxHeartbeats 40000000 in
/-- Each of these operations touches TensorCore buffers only. -/
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩

set_option maxHeartbeats 40000000 in
/-- The uniform samples: the counters, the hash rounds, the bits read as floats. -/
abbrev opsU : List (HloOp τ sig (Elt F)) :=
  (
    StableHlo.TRef.unary (.of main_cst_3 : StableHlo.TRef sig ⟨S_, .f32⟩) (.of main_call3_v0 : StableHlo.TRef sig ⟨S_, .f32⟩) id
    :: StableHlo.TRef.unary (.of main_cst_4 : StableHlo.TRef sig ⟨S_, .f32⟩) (.of main_call3_v1 : StableHlo.TRef sig ⟨S_, .f32⟩) id
    :: StableHlo.TRef.unary (.of main_call3_v0 : StableHlo.TRef sig ⟨S_, .f32⟩) (.of main_call3_v2 : StableHlo.TRef sig ⟨S1x1, .f32⟩) (broadcastInDim S1x1 ![] bcast_S_S1x1)
    :: StableHlo.TRef.unary (.of main_call3_v1 : StableHlo.TRef sig ⟨S_, .f32⟩) (.of main_call3_v3 : StableHlo.TRef sig ⟨S1x1, .f32⟩) (broadcastInDim S1x1 ![] bcast_S_S1x1)
    :: StableHlo.TRef.unary (.of main_v13 : StableHlo.TRef sig ⟨S2, .i32⟩) (.of main_call3_v4 : StableHlo.TRef sig ⟨S1, .i32⟩) (extractStridedSlice S1 ![0] · slices_S2_S1_0)
    :: StableHlo.TRef.reshape (.of main_call3_v4 : StableHlo.TRef sig ⟨S1, .i32⟩) (.of main_call3_v5 : StableHlo.TRef sig ⟨S_, .i32⟩) (rfl : (.i32 : EltTy) = .i32) shapeCasts_S1_S_
    :: StableHlo.TRef.unary (.of main_v13 : StableHlo.TRef sig ⟨S2, .i32⟩) (.of main_call3_v6 : StableHlo.TRef sig ⟨S1, .i32⟩) (extractStridedSlice S1 ![1] · slices_S2_S1_1)
    :: StableHlo.TRef.reshape (.of main_call3_v6 : StableHlo.TRef sig ⟨S1, .i32⟩) (.of main_call3_v7 : StableHlo.TRef sig ⟨S_, .i32⟩) (rfl : (.i32 : EltTy) = .i32) shapeCasts_S1_S_
    :: StableHlo.TRef.nullary (.of main_call3_v8 : StableHlo.TRef sig ⟨S1024x100000, .i64⟩) (iotaInDim S1024x100000 64 0)
    :: StableHlo.TRef.nullary (.of main_call3_v9 : StableHlo.TRef sig ⟨S1024x100000, .i64⟩) (iotaInDim S1024x100000 64 1)
    :: StableHlo.TRef.nullary (.of main_call3_c : StableHlo.TRef sig ⟨S_, .i64⟩) (constantI S_ 64 100000#64)
    :: StableHlo.TRef.unary (.of main_call3_c : StableHlo.TRef sig ⟨S_, .i64⟩) (.of main_call3_v10 : StableHlo.TRef sig ⟨S1024x100000, .i64⟩) (broadcastInDim S1024x100000 ![] bcast_S_S1024x100000)
    :: StableHlo.TRef.binary (.of main_call3_v10 : StableHlo.TRef sig ⟨S1024x100000, .i64⟩) (.of main_call3_v8 : StableHlo.TRef sig ⟨S1024x100000, .i64⟩) (.of main_call3_v11 : StableHlo.TRef sig ⟨S1024x100000, .i64⟩) muli
    :: StableHlo.TRef.nullary (.of main_call3_c_0 : StableHlo.TRef sig ⟨S_, .i64⟩) (constantI S_ 64 1#64)
    :: StableHlo.TRef.unary (.of main_call3_c_0 : StableHlo.TRef sig ⟨S_, .i64⟩) (.of main_call3_v12 : StableHlo.TRef sig ⟨S1024x100000, .i64⟩) (broadcastInDim S1024x100000 ![] bcast_S_S1024x100000)
    :: StableHlo.TRef.binary (.of main_call3_v12 : StableHlo.TRef sig ⟨S1024x100000, .i64⟩) (.of main_call3_v9 : StableHlo.TRef sig ⟨S1024x100000, .i64⟩) (.of main_call3_v13 : StableHlo.TRef sig ⟨S1024x100000, .i64⟩) muli
    :: StableHlo.TRef.binary (.of main_call3_v11 : StableHlo.TRef sig ⟨S1024x100000, .i64⟩) (.of main_call3_v13 : StableHlo.TRef sig ⟨S1024x100000, .i64⟩) (.of main_call3_v14 : StableHlo.TRef sig ⟨S1024x100000, .i64⟩) addi
    :: StableHlo.TRef.nullary (.of main_call3_c_1 : StableHlo.TRef sig ⟨S_, .i64⟩) (constantI S_ 64 32#64)
    :: StableHlo.TRef.unary (.of main_call3_c_1 : StableHlo.TRef sig ⟨S_, .i64⟩) (.of main_call3_v15 : StableHlo.TRef sig ⟨S1024x100000, .i64⟩) (broadcastInDim S1024x100000 ![] bcast_S_S1024x100000)
    :: StableHlo.TRef.binary (.of main_call3_v14 : StableHlo.TRef sig ⟨S1024x100000, .i64⟩) (.of main_call3_v15 : StableHlo.TRef sig ⟨S1024x100000, .i64⟩) (.of main_call3_v16 : StableHlo.TRef sig ⟨S1024x100000, .i64⟩) Host.shrui
    :: StableHlo.TRef.unary (.of main_call3_v14 : StableHlo.TRef sig ⟨S1024x100000, .i64⟩) (.of main_call3_v17 : StableHlo.TRef sig ⟨S1024x100000, .i32⟩) (trunci 32 · natLt_32_64)
    :: StableHlo.TRef.unary (.of main_call3_v16 : StableHlo.TRef sig ⟨S1024x100000, .i64⟩) (.of main_call3_v18 : StableHlo.TRef sig ⟨S1024x100000, .i32⟩) (trunci 32 · natLt_32_64)
    :: StableHlo.TRef.binary (.of main_call3_v5 : StableHlo.TRef sig ⟨S_, .i32⟩) (.of main_call3_v7 : StableHlo.TRef sig ⟨S_, .i32⟩) (.of main_call3_call0_v0 : StableHlo.TRef sig ⟨S_, .i32⟩) xori
    :: StableHlo.TRef.nullary (.of main_call3_call0_c : StableHlo.TRef sig ⟨S_, .i32⟩) (constantI S_ 32 466688986#32)
    :: StableHlo.TRef.binary (.of main_call3_call0_v0 : StableHlo.TRef sig ⟨S_, .i32⟩) (.of main_call3_call0_c : StableHlo.TRef sig ⟨S_, .i32⟩) (.of main_call3_call0_v1 : StableHlo.TRef sig ⟨S_, .i32⟩) xori
    :: StableHlo.TRef.unary (.of main_call3_v5 : StableHlo.TRef sig ⟨S_, .i32⟩) (.of main_call3_call0_v2 : StableHlo.TRef sig ⟨S1024x100000, .i32⟩) (broadcastInDim S1024x100000 ![] bcast_S_S1024x100000)
    :: StableHlo.TRef.binary (.of main_call3_v18 : StableHlo.TRef sig ⟨S1024x100000, .i32⟩) (.of main_call3_call0_v2 : StableHlo.TRef sig ⟨S1024x100000, .i32⟩) (.of main_call3_call0_v3 : StableHlo.TRef sig ⟨S1024x100000, .i32⟩) addi
    :: StableHlo.TRef.unary (.of main_call3_v7 : StableHlo.TRef sig ⟨S_, .i32⟩) (.of main_call3_call0_v4 : StableHlo.TRef sig ⟨S1024x100000, .i32⟩) (broadcastInDim S1024x100000 ![] bcast_S_S1024x100000)
    :: StableHlo.TRef.binary (.of main_call3_v17 : StableHlo.TRef sig ⟨S1024x100000, .i32⟩) (.of main_call3_call0_v4 : StableHlo.TRef sig ⟨S1024x100000, .i32⟩) (.of main_call3_call0_v5 : StableHlo.TRef sig ⟨S1024x100000, .i32⟩) addi
    :: StableHlo.TRef.binary (.of main_call3_call0_v3 : StableHlo.TRef sig ⟨S1024x100000, .i32⟩) (.of main_call3_call0_v5 : StableHlo.TRef sig ⟨S1024x100000, .i32⟩) (.of main_call3_call0_v6 : StableHlo.TRef sig ⟨S1024x100000, .i32⟩) addi
    :: StableHlo.TRef.nullary (.of main_call3_call0_c_0 : StableHlo.TRef sig ⟨S_, .i32⟩) (constantI S_ 32 13#32)
    :: StableHlo.TRef.unary (.of main_call3_call0_c_0 : StableHlo.TRef sig ⟨S_, .i32⟩) (.of main_call3_call0_v7 : StableHlo.TRef sig ⟨S1024x100000, .i32⟩) (broadcastInDim S1024x100000 ![] bcast_S_S1024x100000)
    :: StableHlo.TRef.binary (.of main_call3_call0_v5 : StableHlo.TRef sig ⟨S1024x100000, .i32⟩) (.of main_call3_call0_v7 : StableHlo.TRef sig ⟨S1024x100000, .i32⟩) (.of main_call3_call0_v8 : StableHlo.TRef sig ⟨S1024x100000, .i32⟩) Host.shli
    :: StableHlo.TRef.nullary (.of main_call3_call0_c_1 : StableHlo.TRef sig ⟨S_, .i32⟩) (constantI S_ 32 19#32)
    :: StableHlo.TRef.unary (.of main_call3_call0_c_1 : StableHlo.TRef sig ⟨S_, .i32⟩) (.of main_call3_call0_v9 : StableHlo.TRef sig ⟨S1024x100000, .i32⟩) (broadcastInDim S1024x100000 ![] bcast_S_S1024x100000)
    :: StableHlo.TRef.binary (.of main_call3_call0_v5 : StableHlo.TRef sig ⟨S1024x100000, .i32⟩) (.of main_call3_call0_v9 : StableHlo.TRef sig ⟨S1024x100000, .i32⟩) (.of main_call3_call0_v10 : StableHlo.TRef sig ⟨S1024x100000, .i32⟩) Host.shrui
    :: StableHlo.TRef.binary (.of main_call3_call0_v8 : StableHlo.TRef sig ⟨S1024x100000, .i32⟩) (.of main_call3_call0_v10 : StableHlo.TRef sig ⟨S1024x100000, .i32⟩) (.of main_call3_call0_v11 : StableHlo.TRef sig ⟨S1024x100000, .i32⟩) ori
    :: StableHlo.TRef.binary (.of main_call3_call0_v6 : StableHlo.TRef sig ⟨S1024x100000, .i32⟩) (.of main_call3_call0_v11 : StableHlo.TRef sig ⟨S1024x100000, .i32⟩) (.of main_call3_call0_v12 : StableHlo.TRef sig ⟨S1024x100000, .i32⟩) xori
    :: StableHlo.TRef.binary (.of main_call3_call0_v6 : StableHlo.TRef sig ⟨S1024x100000, .i32⟩) (.of main_call3_call0_v12 : StableHlo.TRef sig ⟨S1024x100000, .i32⟩) (.of main_call3_call0_v13 : StableHlo.TRef sig ⟨S1024x100000, .i32⟩) addi
    :: StableHlo.TRef.nullary (.of main_call3_call0_c_2 : StableHlo.TRef sig ⟨S_, .i32⟩) (constantI S_ 32 15#32)
    :: StableHlo.TRef.unary (.of main_call3_call0_c_2 : StableHlo.TRef sig ⟨S_, .i32⟩) (.of main_call3_call0_v14 : StableHlo.TRef sig ⟨S1024x100000, .i32⟩) (broadcastInDim S1024x100000 ![] bcast_S_S1024x100000)
    :: StableHlo.TRef.binary (.of main_call3_call0_v12 : StableHlo.TRef sig ⟨S1024x100000, .i32⟩) (.of main_call3_call0_v14 : StableHlo.TRef sig ⟨S1024x100000, .i32⟩) (.of main_call3_call0_v15 : StableHlo.TRef sig ⟨S1024x100000, .i32⟩) Host.shli
    :: StableHlo.TRef.nullary (.of main_call3_call0_c_3 : StableHlo.TRef sig ⟨S_, .i32⟩) (constantI S_ 32 17#32)
    :: StableHlo.TRef.unary (.of main_call3_call0_c_3 : StableHlo.TRef sig ⟨S_, .i32⟩) (.of main_call3_call0_v16 : StableHlo.TRef sig ⟨S1024x100000, .i32⟩) (broadcastInDim S1024x100000 ![] bcast_S_S1024x100000)
    :: StableHlo.TRef.binary (.of main_call3_call0_v12 : StableHlo.TRef sig ⟨S1024x100000, .i32⟩) (.of main_call3_call0_v16 : StableHlo.TRef sig ⟨S1024x100000, .i32⟩) (.of main_call3_call0_v17 : StableHlo.TRef sig ⟨S1024x100000, .i32⟩) Host.shrui
    :: StableHlo.TRef.binary (.of main_call3_call0_v15 : StableHlo.TRef sig ⟨S1024x100000, .i32⟩) (.of main_call3_call0_v17 : StableHlo.TRef sig ⟨S1024x100000, .i32⟩) (.of main_call3_call0_v18 : StableHlo.TRef sig ⟨S1024x100000, .i32⟩) ori
    :: StableHlo.TRef.binary (.of main_call3_call0_v13 : StableHlo.TRef sig ⟨S1024x100000, .i32⟩) (.of main_call3_call0_v18 : StableHlo.TRef sig ⟨S1024x100000, .i32⟩) (.of main_call3_call0_v19 : StableHlo.TRef sig ⟨S1024x100000, .i32⟩) xori
    :: StableHlo.TRef.binary (.of main_call3_call0_v13 : StableHlo.TRef sig ⟨S1024x100000, .i32⟩) (.of main_call3_call0_v19 : StableHlo.TRef sig ⟨S1024x100000, .i32⟩) (.of main_call3_call0_v20 : StableHlo.TRef sig ⟨S1024x100000, .i32⟩) addi
    :: StableHlo.TRef.nullary (.of main_call3_call0_c_4 : StableHlo.TRef sig ⟨S_, .i32⟩) (constantI S_ 32 26#32)
    :: StableHlo.TRef.unary (.of main_call3_call0_c_4 : StableHlo.TRef sig ⟨S_, .i32⟩) (.of main_call3_call0_v21 : StableHlo.TRef sig ⟨S1024x100000, .i32⟩) (broadcastInDim S1024x100000 ![] bcast_S_S1024x100000)
    :: StableHlo.TRef.binary (.of main_call3_call0_v19 : StableHlo.TRef sig ⟨S1024x100000, .i32⟩) (.of main_call3_call0_v21 : StableHlo.TRef sig ⟨S1024x100000, .i32⟩) (.of main_call3_call0_v22 : StableHlo.TRef sig ⟨S1024x100000, .i32⟩) Host.shli
    :: StableHlo.TRef.nullary (.of main_call3_call0_c_5 : StableHlo.TRef sig ⟨S_, .i32⟩) (constantI S_ 32 6#32)
    :: StableHlo.TRef.unary (.of main_call3_call0_c_5 : StableHlo.TRef sig ⟨S_, .i32⟩) (.of main_call3_call0_v23 : StableHlo.TRef sig ⟨S1024x100000, .i32⟩) (broadcastInDim S1024x100000 ![] bcast_S_S1024x100000)
    :: StableHlo.TRef.binary (.of main_call3_call0_v19 : StableHlo.TRef sig ⟨S1024x100000, .i32⟩) (.of main_call3_call0_v23 : StableHlo.TRef sig ⟨S1024x100000, .i32⟩) (.of main_call3_call0_v24 : StableHlo.TRef sig ⟨S1024x100000, .i32⟩) Host.shrui
    :: StableHlo.TRef.binary (.of main_call3_call0_v22 : StableHlo.TRef sig ⟨S1024x100000, .i32⟩) (.of main_call3_call0_v24 : StableHlo.TRef sig ⟨S1024x100000, .i32⟩) (.of main_call3_call0_v25 : StableHlo.TRef sig ⟨S1024x100000, .i32⟩) ori
    :: StableHlo.TRef.binary (.of main_call3_call0_v20 : StableHlo.TRef sig ⟨S1024x100000, .i32⟩) (.of main_call3_call0_v25 : StableHlo.TRef sig ⟨S1024x100000, .i32⟩) (.of main_call3_call0_v26 : StableHlo.TRef sig ⟨S1024x100000, .i32⟩) xori
    :: StableHlo.TRef.binary (.of main_call3_call0_v20 : StableHlo.TRef sig ⟨S1024x100000, .i32⟩) (.of main_call3_call0_v26 : StableHlo.TRef sig ⟨S1024x100000, .i32⟩) (.of main_call3_call0_v27 : StableHlo.TRef sig ⟨S1024x100000, .i32⟩) addi
    :: StableHlo.TRef.nullary (.of main_call3_call0_c_6 : StableHlo.TRef sig ⟨S_, .i32⟩) (constantI S_ 32 6#32)
    :: StableHlo.TRef.unary (.of main_call3_call0_c_6 : StableHlo.TRef sig ⟨S_, .i32⟩) (.of main_call3_call0_v28 : StableHlo.TRef sig ⟨S1024x100000, .i32⟩) (broadcastInDim S1024x100000 ![] bcast_S_S1024x100000)
    :: StableHlo.TRef.binary (.of main_call3_call0_v26 : StableHlo.TRef sig ⟨S1024x100000, .i32⟩) (.of main_call3_call0_v28 : StableHlo.TRef sig ⟨S1024x100000, .i32⟩) (.of main_call3_call0_v29 : StableHlo.TRef sig ⟨S1024x100000, .i32⟩) Host.shli
    :: StableHlo.TRef.nullary (.of main_call3_call0_c_7 : StableHlo.TRef sig ⟨S_, .i32⟩) (constantI S_ 32 26#32)
    :: StableHlo.TRef.unary (.of main_call3_call0_c_7 : StableHlo.TRef sig ⟨S_, .i32⟩) (.of main_call3_call0_v30 : StableHlo.TRef sig ⟨S1024x100000, .i32⟩) (broadcastInDim S1024x100000 ![] bcast_S_S1024x100000)
    :: StableHlo.TRef.binary (.of main_call3_call0_v26 : StableHlo.TRef sig ⟨S1024x100000, .i32⟩) (.of main_call3_call0_v30 : StableHlo.TRef sig ⟨S1024x100000, .i32⟩) (.of main_call3_call0_v31 : StableHlo.TRef sig ⟨S1024x100000, .i32⟩) Host.shrui
    :: StableHlo.TRef.binary (.of main_call3_call0_v29 : StableHlo.TRef sig ⟨S1024x100000, .i32⟩) (.of main_call3_call0_v31 : StableHlo.TRef sig ⟨S1024x100000, .i32⟩) (.of main_call3_call0_v32 : StableHlo.TRef sig ⟨S1024x100000, .i32⟩) ori
    :: StableHlo.TRef.binary (.of main_call3_call0_v27 : StableHlo.TRef sig ⟨S1024x100000, .i32⟩) (.of main_call3_call0_v32 : StableHlo.TRef sig ⟨S1024x100000, .i32⟩) (.of main_call3_call0_v33 : StableHlo.TRef sig ⟨S1024x100000, .i32⟩) xori
    :: StableHlo.TRef.unary (.of main_call3_v7 : StableHlo.TRef sig ⟨S_, .i32⟩) (.of main_call3_call0_v34 : StableHlo.TRef sig ⟨S1024x100000, .i32⟩) (broadcastInDim S1024x100000 ![] bcast_S_S1024x100000)
    :: StableHlo.TRef.binary (.of main_call3_call0_v27 : StableHlo.TRef sig ⟨S1024x100000, .i32⟩) (.of main_call3_call0_v34 : StableHlo.TRef sig ⟨S1024x100000, .i32⟩) (.of main_call3_call0_v35 : StableHlo.TRef sig ⟨S1024x100000, .i32⟩) addi
    :: StableHlo.TRef.unary (.of main_call3_call0_v1 : StableHlo.TRef sig ⟨S_, .i32⟩) (.of main_call3_call0_v36 : StableHlo.TRef sig ⟨S1024x100000, .i32⟩) (broadcastInDim S1024x100000 ![] bcast_S_S1024x100000)
    :: StableHlo.TRef.binary (.of main_call3_call0_v33 : StableHlo.TRef sig ⟨S1024x100000, .i32⟩) (.of main_call3_call0_v36 : StableHlo.TRef sig ⟨S1024x100000, .i32⟩) (.of main_call3_call0_v37 : StableHlo.TRef sig ⟨S1024x100000, .i32⟩) addi
    :: StableHlo.TRef.nullary (.of main_call3_call0_c_8 : StableHlo.TRef sig ⟨S_, .i32⟩) (constantI S_ 32 1#32)
    :: StableHlo.TRef.unary (.of main_call3_call0_c_8 : StableHlo.TRef sig ⟨S_, .i32⟩) (.of main_call3_call0_v38 : StableHlo.TRef sig ⟨S1024x100000, .i32⟩) (broadcastInDim S1024x100000 ![] bcast_S_S1024x100000)
    :: StableHlo.TRef.binary (.of main_call3_call0_v37 : StableHlo.TRef sig ⟨S1024x100000, .i32⟩) (.of main_call3_call0_v38 : StableHlo.TRef sig ⟨S1024x100000, .i32⟩) (.of main_call3_call0_v39 : StableHlo.TRef sig ⟨S1024x100000, .i32⟩) addi
    :: StableHlo.TRef.binary (.of main_call3_call0_v35 : StableHlo.TRef sig ⟨S1024x100000, .i32⟩) (.of main_call3_call0_v39 : StableHlo.TRef sig ⟨S1024x100000, .i32⟩) (.of main_call3_call0_v40 : StableHlo.TRef sig ⟨S1024x100000, .i32⟩) addi
    :: StableHlo.TRef.nullary (.of main_call3_call0_c_9 : StableHlo.TRef sig ⟨S_, .i32⟩) (constantI S_ 32 17#32)
    :: StableHlo.TRef.unary (.of main_call3_call0_c_9 : StableHlo.TRef sig ⟨S_, .i32⟩) (.of main_call3_call0_v41 : StableHlo.TRef sig ⟨S1024x100000, .i32⟩) (broadcastInDim S1024x100000 ![] bcast_S_S1024x100000)
    :: StableHlo.TRef.binary (.of main_call3_call0_v39 : StableHlo.TRef sig ⟨S1024x100000, .i32⟩) (.of main_call3_call0_v41 : StableHlo.TRef sig ⟨S1024x100000, .i32⟩) (.of main_call3_call0_v42 : StableHlo.TRef sig ⟨S1024x100000, .i32⟩) Host.shli
    :: StableHlo.TRef.nullary (.of main_call3_call0_c_10 : StableHlo.TRef sig ⟨S_, .i32⟩) (constantI S_ 32 15#32)
    :: StableHlo.TRef.unary (.of main_call3_call0_c_10 : StableHlo.TRef sig ⟨S_, .i32⟩) (.of main_call3_call0_v43 : StableHlo.TRef sig ⟨S1024x100000, .i32⟩) (broadcastInDim S1024x100000 ![] bcast_S_S1024x100000)
    :: StableHlo.TRef.binary (.of main_call3_call0_v39 : StableHlo.TRef sig ⟨S1024x100000, .i32⟩) (.of main_call3_call0_v43 : StableHlo.TRef sig ⟨S1024x100000, .i32⟩) (.of main_call3_call0_v44 : StableHlo.TRef sig ⟨S1024x100000, .i32⟩) Host.shrui
    :: StableHlo.TRef.binary (.of main_call3_call0_v42 : StableHlo.TRef sig ⟨S1024x100000, .i32⟩) (.of main_call3_call0_v44 : StableHlo.TRef sig ⟨S1024x100000, .i32⟩) (.of main_call3_call0_v45 : StableHlo.TRef sig ⟨S1024x100000, .i32⟩) ori
    :: StableHlo.TRef.binary (.of main_call3_call0_v40 : StableHlo.TRef sig ⟨S1024x100000, .i32⟩) (.of main_call3_call0_v45 : StableHlo.TRef sig ⟨S1024x100000, .i32⟩) (.of main_call3_call0_v46 : StableHlo.TRef sig ⟨S1024x100000, .i32⟩) xori
    :: StableHlo.TRef.binary (.of main_call3_call0_v40 : StableHlo.TRef sig ⟨S1024x100000, .i32⟩) (.of main_call3_call0_v46 : StableHlo.TRef sig ⟨S1024x100000, .i32⟩) (.of main_call3_call0_v47 : StableHlo.TRef sig ⟨S1024x100000, .i32⟩) addi
    :: StableHlo.TRef.nullary (.of main_call3_call0_c_11 : StableHlo.TRef sig ⟨S_, .i32⟩) (constantI S_ 32 29#32)
    :: StableHlo.TRef.unary (.of main_call3_call0_c_11 : StableHlo.TRef sig ⟨S_, .i32⟩) (.of main_call3_call0_v48 : StableHlo.TRef sig ⟨S1024x100000, .i32⟩) (broadcastInDim S1024x100000 ![] bcast_S_S1024x100000)
    :: StableHlo.TRef.binary (.of main_call3_call0_v46 : StableHlo.TRef sig ⟨S1024x100000, .i32⟩) (.of main_call3_call0_v48 : StableHlo.TRef sig ⟨S1024x100000, .i32⟩) (.of main_call3_call0_v49 : StableHlo.TRef sig ⟨S1024x100000, .i32⟩) Host.shli
    :: StableHlo.TRef.nullary (.of main_call3_call0_c_12 : StableHlo.TRef sig ⟨S_, .i32⟩) (constantI S_ 32 3#32)
    :: StableHlo.TRef.unary (.of main_call3_call0_c_12 : StableHlo.TRef sig ⟨S_, .i32⟩) (.of main_call3_call0_v50 : StableHlo.TRef sig ⟨S1024x100000, .i32⟩) (broadcastInDim S1024x100000 ![] bcast_S_S1024x100000)
    :: StableHlo.TRef.binary (.of main_call3_call0_v46 : StableHlo.TRef sig ⟨S1024x100000, .i32⟩) (.of main_call3_call0_v50 : StableHlo.TRef sig ⟨S1024x100000, .i32⟩) (.of main_call3_call0_v51 : StableHlo.TRef sig ⟨S1024x100000, .i32⟩) Host.shrui
    :: StableHlo.TRef.binary (.of main_call3_call0_v49 : StableHlo.TRef sig ⟨S1024x100000, .i32⟩) (.of main_call3_call0_v51 : StableHlo.TRef sig ⟨S1024x100000, .i32⟩) (.of main_call3_call0_v52 : StableHlo.TRef sig ⟨S1024x100000, .i32⟩) ori
    :: StableHlo.TRef.binary (.of main_call3_call0_v47 : StableHlo.TRef sig ⟨S1024x100000, .i32⟩) (.of main_call3_call0_v52 : StableHlo.TRef sig ⟨S1024x100000, .i32⟩) (.of main_call3_call0_v53 : StableHlo.TRef sig ⟨S1024x100000, .i32⟩) xori
    :: StableHlo.TRef.binary (.of main_call3_call0_v47 : StableHlo.TRef sig ⟨S1024x100000, .i32⟩) (.of main_call3_call0_v53 : StableHlo.TRef sig ⟨S1024x100000, .i32⟩) (.of main_call3_call0_v54 : StableHlo.TRef sig ⟨S1024x100000, .i32⟩) addi
    :: StableHlo.TRef.nullary (.of main_call3_call0_c_13 : StableHlo.TRef sig ⟨S_, .i32⟩) (constantI S_ 32 16#32)
    :: StableHlo.TRef.unary (.of main_call3_call0_c_13 : StableHlo.TRef sig ⟨S_, .i32⟩) (.of main_call3_call0_v55 : StableHlo.TRef sig ⟨S1024x100000, .i32⟩) (broadcastInDim S1024x100000 ![] bcast_S_S1024x100000)
    :: StableHlo.TRef.binary (.of main_call3_call0_v53 : StableHlo.TRef sig ⟨S1024x100000, .i32⟩) (.of main_call3_call0_v55 : StableHlo.TRef sig ⟨S1024x100000, .i32⟩) (.of main_call3_call0_v56 : StableHlo.TRef sig ⟨S1024x100000, .i32⟩) Host.shli
    :: StableHlo.TRef.nullary (.of main_call3_call0_c_14 : StableHlo.TRef sig ⟨S_, .i32⟩) (constantI S_ 32 16#32)
    :: StableHlo.TRef.unary (.of main_call3_call0_c_14 : StableHlo.TRef sig ⟨S_, .i32⟩) (.of main_call3_call0_v57 : StableHlo.TRef sig ⟨S1024x100000, .i32⟩) (broadcastInDim S1024x100000 ![] bcast_S_S1024x100000)
    :: StableHlo.TRef.binary (.of main_call3_call0_v53 : StableHlo.TRef sig ⟨S1024x100000, .i32⟩) (.of main_call3_call0_v57 : StableHlo.TRef sig ⟨S1024x100000, .i32⟩) (.of main_call3_call0_v58 : StableHlo.TRef sig ⟨S1024x100000, .i32⟩) Host.shrui
    :: StableHlo.TRef.binary (.of main_call3_call0_v56 : StableHlo.TRef sig ⟨S1024x100000, .i32⟩) (.of main_call3_call0_v58 : StableHlo.TRef sig ⟨S1024x100000, .i32⟩) (.of main_call3_call0_v59 : StableHlo.TRef sig ⟨S1024x100000, .i32⟩) ori
    :: StableHlo.TRef.binary (.of main_call3_call0_v54 : StableHlo.TRef sig ⟨S1024x100000, .i32⟩) (.of main_call3_call0_v59 : StableHlo.TRef sig ⟨S1024x100000, .i32⟩) (.of main_call3_call0_v60 : StableHlo.TRef sig ⟨S1024x100000, .i32⟩) xori
    :: StableHlo.TRef.binary (.of main_call3_call0_v54 : StableHlo.TRef sig ⟨S1024x100000, .i32⟩) (.of main_call3_call0_v60 : StableHlo.TRef sig ⟨S1024x100000, .i32⟩) (.of main_call3_call0_v61 : StableHlo.TRef sig ⟨S1024x100000, .i32⟩) addi
    :: StableHlo.TRef.nullary (.of main_call3_call0_c_15 : StableHlo.TRef sig ⟨S_, .i32⟩) (constantI S_ 32 24#32)
    :: StableHlo.TRef.unary (.of main_call3_call0_c_15 : StableHlo.TRef sig ⟨S_, .i32⟩) (.of main_call3_call0_v62 : StableHlo.TRef sig ⟨S1024x100000, .i32⟩) (broadcastInDim S1024x100000 ![] bcast_S_S1024x100000)
    :: StableHlo.TRef.binary (.of main_call3_call0_v60 : StableHlo.TRef sig ⟨S1024x100000, .i32⟩) (.of main_call3_call0_v62 : StableHlo.TRef sig ⟨S1024x100000, .i32⟩) (.of main_call3_call0_v63 : StableHlo.TRef sig ⟨S1024x100000, .i32⟩) Host.shli
    :: StableHlo.TRef.nullary (.of main_call3_call0_c_16 : StableHlo.TRef sig ⟨S_, .i32⟩) (constantI S_ 32 8#32)
    :: StableHlo.TRef.unary (.of main_call3_call0_c_16 : StableHlo.TRef sig ⟨S_, .i32⟩) (.of main_call3_call0_v64 : StableHlo.TRef sig ⟨S1024x100000, .i32⟩) (broadcastInDim S1024x100000 ![] bcast_S_S1024x100000)
    :: StableHlo.TRef.binary (.of main_call3_call0_v60 : StableHlo.TRef sig ⟨S1024x100000, .i32⟩) (.of main_call3_call0_v64 : StableHlo.TRef sig ⟨S1024x100000, .i32⟩) (.of main_call3_call0_v65 : StableHlo.TRef sig ⟨S1024x100000, .i32⟩) Host.shrui
    :: StableHlo.TRef.binary (.of main_call3_call0_v63 : StableHlo.TRef sig ⟨S1024x100000, .i32⟩) (.of main_call3_call0_v65 : StableHlo.TRef sig ⟨S1024x100000, .i32⟩) (.of main_call3_call0_v66 : StableHlo.TRef sig ⟨S1024x100000, .i32⟩) ori
    :: StableHlo.TRef.binary (.of main_call3_call0_v61 : StableHlo.TRef sig ⟨S1024x100000, .i32⟩) (.of main_call3_call0_v66 : StableHlo.TRef sig ⟨S1024x100000, .i32⟩) (.of main_call3_call0_v67 : StableHlo.TRef sig ⟨S1024x100000, .i32⟩) xori
    :: StableHlo.TRef.unary (.of main_call3_call0_v1 : StableHlo.TRef sig ⟨S_, .i32⟩) (.of main_call3_call0_v68 : StableHlo.TRef sig ⟨S1024x100000, .i32⟩) (broadcastInDim S1024x100000 ![] bcast_S_S1024x100000)
    :: StableHlo.TRef.binary (.of main_call3_call0_v61 : StableHlo.TRef sig ⟨S1024x100000, .i32⟩) (.of main_call3_call0_v68 : StableHlo.TRef sig ⟨S1024x100000, .i32⟩) (.of main_call3_call0_v69 : StableHlo.TRef sig ⟨S1024x100000, .i32⟩) addi
    :: StableHlo.TRef.unary (.of main_call3_v5 : StableHlo.TRef sig ⟨S_, .i32⟩) (.of main_call3_call0_v70 : StableHlo.TRef sig ⟨S1024x100000, .i32⟩) (broadcastInDim S1024x100000 ![] bcast_S_S1024x100000)
    :: StableHlo.TRef.binary (.of main_call3_call0_v67 : StableHlo.TRef sig ⟨S1024x100000, .i32⟩) (.of main_call3_call0_v70 : StableHlo.TRef sig ⟨S1024x100000, .i32⟩) (.of main_call3_call0_v71 : StableHlo.TRef sig ⟨S1024x100000, .i32⟩) addi
    :: StableHlo.TRef.nullary (.of main_call3_call0_c_17 : StableHlo.TRef sig ⟨S_, .i32⟩) (constantI S_ 32 2#32)
    :: StableHlo.TRef.unary (.of main_call3_call0_c_17 : StableHlo.TRef sig ⟨S_, .i32⟩) (.of main_call3_call0_v72 : StableHlo.TRef sig ⟨S1024x100000, .i32⟩) (broadcastInDim S1024x100000 ![] bcast_S_S1024x100000)
    :: StableHlo.TRef.binary (.of main_call3_call0_v71 : StableHlo.TRef sig ⟨S1024x100000, .i32⟩) (.of main_call3_call0_v72 : StableHlo.TRef sig ⟨S1024x100000, .i32⟩) (.of main_call3_call0_v73 : StableHlo.TRef sig ⟨S1024x100000, .i32⟩) addi
    :: StableHlo.TRef.binary (.of main_call3_call0_v69 : StableHlo.TRef sig ⟨S1024x100000, .i32⟩) (.of main_call3_call0_v73 : StableHlo.TRef sig ⟨S1024x100000, .i32⟩) (.of main_call3_call0_v74 : StableHlo.TRef sig ⟨S1024x100000, .i32⟩) addi
    :: StableHlo.TRef.nullary (.of main_call3_call0_c_18 : StableHlo.TRef sig ⟨S_, .i32⟩) (constantI S_ 32 13#32)
    :: StableHlo.TRef.unary (.of main_call3_call0_c_18 : StableHlo.TRef sig ⟨S_, .i32⟩) (.of main_call3_call0_v75 : StableHlo.TRef sig ⟨S1024x100000, .i32⟩) (broadcastInDim S1024x100000 ![] bcast_S_S1024x100000)
    :: StableHlo.TRef.binary (.of main_call3_call0_v73 : StableHlo.TRef sig ⟨S1024x100000, .i32⟩) (.of main_call3_call0_v75 : StableHlo.TRef sig ⟨S1024x100000, .i32⟩) (.of main_call3_call0_v76 : StableHlo.TRef sig ⟨S1024x100000, .i32⟩) Host.shli
    :: StableHlo.TRef.nullary (.of main_call3_call0_c_19 : StableHlo.TRef sig ⟨S_, .i32⟩) (constantI S_ 32 19#32)
    :: StableHlo.TRef.unary (.of main_call3_call0_c_19 : StableHlo.TRef sig ⟨S_, .i32⟩) (.of main_call3_call0_v77 : StableHlo.TRef sig ⟨S1024x100000, .i32⟩) (broadcastInDim S1024x100000 ![] bcast_S_S1024x100000)
    :: StableHlo.TRef.binary (.of main_call3_call0_v73 : StableHlo.TRef sig ⟨S1024x100000, .i32⟩) (.of main_call3_call0_v77 : StableHlo.TRef sig ⟨S1024x100000, .i32⟩) (.of main_call3_call0_v78 : StableHlo.TRef sig ⟨S1024x100000, .i32⟩) Host.shrui
    :: StableHlo.TRef.binary (.of main_call3_call0_v76 : StableHlo.TRef sig ⟨S1024x100000, .i32⟩) (.of main_call3_call0_v78 : StableHlo.TRef sig ⟨S1024x100000, .i32⟩) (.of main_call3_call0_v79 : StableHlo.TRef sig ⟨S1024x100000, .i32⟩) ori
    :: StableHlo.TRef.binary (.of main_call3_call0_v74 : StableHlo.TRef sig ⟨S1024x100000, .i32⟩) (.of main_call3_call0_v79 : StableHlo.TRef sig ⟨S1024x100000, .i32⟩) (.of main_call3_call0_v80 : StableHlo.TRef sig ⟨S1024x100000, .i32⟩) xori
    :: StableHlo.TRef.binary (.of main_call3_call0_v74 : StableHlo.TRef sig ⟨S1024x100000, .i32⟩) (.of main_call3_call0_v80 : StableHlo.TRef sig ⟨S1024x100000, .i32⟩) (.of main_call3_call0_v81 : StableHlo.TRef sig ⟨S1024x100000, .i32⟩) addi
    :: StableHlo.TRef.nullary (.of main_call3_call0_c_20 : StableHlo.TRef sig ⟨S_, .i32⟩) (constantI S_ 32 15#32)
    :: StableHlo.TRef.unary (.of main_call3_call0_c_20 : StableHlo.TRef sig ⟨S_, .i32⟩) (.of main_call3_call0_v82 : StableHlo.TRef sig ⟨S1024x100000, .i32⟩) (broadcastInDim S1024x100000 ![] bcast_S_S1024x100000)
    :: StableHlo.TRef.binary (.of main_call3_call0_v80 : StableHlo.TRef sig ⟨S1024x100000, .i32⟩) (.of main_call3_call0_v82 : StableHlo.TRef sig ⟨S1024x100000, .i32⟩) (.of main_call3_call0_v83 : StableHlo.TRef sig ⟨S1024x100000, .i32⟩) Host.shli
    :: StableHlo.TRef.nullary (.of main_call3_call0_c_21 : StableHlo.TRef sig ⟨S_, .i32⟩) (constantI S_ 32 17#32)
    :: StableHlo.TRef.unary (.of main_call3_call0_c_21 : StableHlo.TRef sig ⟨S_, .i32⟩) (.of main_call3_call0_v84 : StableHlo.TRef sig ⟨S1024x100000, .i32⟩) (broadcastInDim S1024x100000 ![] bcast_S_S1024x100000)
    :: StableHlo.TRef.binary (.of main_call3_call0_v80 : StableHlo.TRef sig ⟨S1024x100000, .i32⟩) (.of main_call3_call0_v84 : StableHlo.TRef sig ⟨S1024x100000, .i32⟩) (.of main_call3_call0_v85 : StableHlo.TRef sig ⟨S1024x100000, .i32⟩) Host.shrui
    :: StableHlo.TRef.binary (.of main_call3_call0_v83 : StableHlo.TRef sig ⟨S1024x100000, .i32⟩) (.of main_call3_call0_v85 : StableHlo.TRef sig ⟨S1024x100000, .i32⟩) (.of main_call3_call0_v86 : StableHlo.TRef sig ⟨S1024x100000, .i32⟩) ori
    :: StableHlo.TRef.binary (.of main_call3_call0_v81 : StableHlo.TRef sig ⟨S1024x100000, .i32⟩) (.of main_call3_call0_v86 : StableHlo.TRef sig ⟨S1024x100000, .i32⟩) (.of main_call3_call0_v87 : StableHlo.TRef sig ⟨S1024x100000, .i32⟩) xori
    :: StableHlo.TRef.binary (.of main_call3_call0_v81 : StableHlo.TRef sig ⟨S1024x100000, .i32⟩) (.of main_call3_call0_v87 : StableHlo.TRef sig ⟨S1024x100000, .i32⟩) (.of main_call3_call0_v88 : StableHlo.TRef sig ⟨S1024x100000, .i32⟩) addi
    :: StableHlo.TRef.nullary (.of main_call3_call0_c_22 : StableHlo.TRef sig ⟨S_, .i32⟩) (constantI S_ 32 26#32)
    :: StableHlo.TRef.unary (.of main_call3_call0_c_22 : StableHlo.TRef sig ⟨S_, .i32⟩) (.of main_call3_call0_v89 : StableHlo.TRef sig ⟨S1024x100000, .i32⟩) (broadcastInDim S1024x100000 ![] bcast_S_S1024x100000)
    :: StableHlo.TRef.binary (.of main_call3_call0_v87 : StableHlo.TRef sig ⟨S1024x100000, .i32⟩) (.of main_call3_call0_v89 : StableHlo.TRef sig ⟨S1024x100000, .i32⟩) (.of main_call3_call0_v90 : StableHlo.TRef sig ⟨S1024x100000, .i32⟩) Host.shli
    :: StableHlo.TRef.nullary (.of main_call3_call0_c_23 : StableHlo.TRef sig ⟨S_, .i32⟩) (constantI S_ 32 6#32)
    :: StableHlo.TRef.unary (.of main_call3_call0_c_23 : StableHlo.TRef sig ⟨S_, .i32⟩) (.of main_call3_call0_v91 : StableHlo.TRef sig ⟨S1024x100000, .i32⟩) (broadcastInDim S1024x100000 ![] bcast_S_S1024x100000)
    :: StableHlo.TRef.binary (.of main_call3_call0_v87 : StableHlo.TRef sig ⟨S1024x100000, .i32⟩) (.of main_call3_call0_v91 : StableHlo.TRef sig ⟨S1024x100000, .i32⟩) (.of main_call3_call0_v92 : StableHlo.TRef sig ⟨S1024x100000, .i32⟩) Host.shrui
    :: StableHlo.TRef.binary (.of main_call3_call0_v90 : StableHlo.TRef sig ⟨S1024x100000, .i32⟩) (.of main_call3_call0_v92 : StableHlo.TRef sig ⟨S1024x100000, .i32⟩) (.of main_call3_call0_v93 : StableHlo.TRef sig ⟨S1024x100000, .i32⟩) ori
    :: StableHlo.TRef.binary (.of main_call3_call0_v88 : StableHlo.TRef sig ⟨S1024x100000, .i32⟩) (.of main_call3_call0_v93 : StableHlo.TRef sig ⟨S1024x100000, .i32⟩) (.of main_call3_call0_v94 : StableHlo.TRef sig ⟨S1024x100000, .i32⟩) xori
    :: StableHlo.TRef.binary (.of main_call3_call0_v88 : StableHlo.TRef sig ⟨S1024x100000, .i32⟩) (.of main_call3_call0_v94 : StableHlo.TRef sig ⟨S1024x100000, .i32⟩) (.of main_call3_call0_v95 : StableHlo.TRef sig ⟨S1024x100000, .i32⟩) addi
    :: StableHlo.TRef.nullary (.of main_call3_call0_c_24 : StableHlo.TRef sig ⟨S_, .i32⟩) (constantI S_ 32 6#32)
    :: StableHlo.TRef.unary (.of main_call3_call0_c_24 : StableHlo.TRef sig ⟨S_, .i32⟩) (.of main_call3_call0_v96 : StableHlo.TRef sig ⟨S1024x100000, .i32⟩) (broadcastInDim S1024x100000 ![] bcast_S_S1024x100000)
    :: StableHlo.TRef.binary (.of main_call3_call0_v94 : StableHlo.TRef sig ⟨S1024x100000, .i32⟩) (.of main_call3_call0_v96 : StableHlo.TRef sig ⟨S1024x100000, .i32⟩) (.of main_call3_call0_v97 : StableHlo.TRef sig ⟨S1024x100000, .i32⟩) Host.shli
    :: StableHlo.TRef.nullary (.of main_call3_call0_c_25 : StableHlo.TRef sig ⟨S_, .i32⟩) (constantI S_ 32 26#32)
    :: StableHlo.TRef.unary (.of main_call3_call0_c_25 : StableHlo.TRef sig ⟨S_, .i32⟩) (.of main_call3_call0_v98 : StableHlo.TRef sig ⟨S1024x100000, .i32⟩) (broadcastInDim S1024x100000 ![] bcast_S_S1024x100000)
    :: StableHlo.TRef.binary (.of main_call3_call0_v94 : StableHlo.TRef sig ⟨S1024x100000, .i32⟩) (.of main_call3_call0_v98 : StableHlo.TRef sig ⟨S1024x100000, .i32⟩) (.of main_call3_call0_v99 : StableHlo.TRef sig ⟨S1024x100000, .i32⟩) Host.shrui
    :: StableHlo.TRef.binary (.of main_call3_call0_v97 : StableHlo.TRef sig ⟨S1024x100000, .i32⟩) (.of main_call3_call0_v99 : StableHlo.TRef sig ⟨S1024x100000, .i32⟩) (.of main_call3_call0_v100 : StableHlo.TRef sig ⟨S1024x100000, .i32⟩) ori
    :: StableHlo.TRef.binary (.of main_call3_call0_v95 : StableHlo.TRef sig ⟨S1024x100000, .i32⟩) (.of main_call3_call0_v100 : StableHlo.TRef sig ⟨S1024x100000, .i32⟩) (.of main_call3_call0_v101 : StableHlo.TRef sig ⟨S1024x100000, .i32⟩) xori
    :: StableHlo.TRef.unary (.of main_call3_v5 : StableHlo.TRef sig ⟨S_, .i32⟩) (.of main_call3_call0_v102 : StableHlo.TRef sig ⟨S1024x100000, .i32⟩) (broadcastInDim S1024x100000 ![] bcast_S_S1024x100000)
    :: StableHlo.TRef.binary (.of main_call3_call0_v95 : StableHlo.TRef sig ⟨S1024x100000, .i32⟩) (.of main_call3_call0_v102 : StableHlo.TRef sig ⟨S1024x100000, .i32⟩) (.of main_call3_call0_v103 : StableHlo.TRef sig ⟨S1024x100000, .i32⟩) addi
    :: StableHlo.TRef.unary (.of main_call3_v7 : StableHlo.TRef sig ⟨S_, .i32⟩) (.of main_call3_call0_v104 : StableHlo.TRef sig ⟨S1024x100000, .i32⟩) (broadcastInDim S1024x100000 ![] bcast_S_S1024x100000)
    :: StableHlo.TRef.binary (.of main_call3_call0_v101 : StableHlo.TRef sig ⟨S1024x100000, .i32⟩) (.of main_call3_call0_v104 : StableHlo.TRef sig ⟨S1024x100000, .i32⟩) (.of main_call3_call0_v105 : StableHlo.TRef sig ⟨S1024x100000, .i32⟩) addi
    :: StableHlo.TRef.nullary (.of main_call3_call0_c_26 : StableHlo.TRef sig ⟨S_, .i32⟩) (constantI S_ 32 3#32)
    :: StableHlo.TRef.unary (.of main_call3_call0_c_26 : StableHlo.TRef sig ⟨S_, .i32⟩) (.of main_call3_call0_v106 : StableHlo.TRef sig ⟨S1024x100000, .i32⟩) (broadcastInDim S1024x100000 ![] bcast_S_S1024x100000)
    :: StableHlo.TRef.binary (.of main_call3_call0_v105 : StableHlo.TRef sig ⟨S1024x100000, .i32⟩) (.of main_call3_call0_v106 : StableHlo.TRef sig ⟨S1024x100000, .i32⟩) (.of main_call3_call0_v107 : StableHlo.TRef sig ⟨S1024x100000, .i32⟩) addi
    :: StableHlo.TRef.binary (.of main_call3_call0_v103 : StableHlo.TRef sig ⟨S1024x100000, .i32⟩) (.of main_call3_call0_v107 : StableHlo.TRef sig ⟨S1024x100000, .i32⟩) (.of main_call3_call0_v108 : StableHlo.TRef sig ⟨S1024x100000, .i32⟩) addi
    :: StableHlo.TRef.nullary (.of main_call3_call0_c_27 : StableHlo.TRef sig ⟨S_, .i32⟩) (constantI S_ 32 17#32)
    :: StableHlo.TRef.unary (.of main_call3_call0_c_27 : StableHlo.TRef sig ⟨S_, .i32⟩) (.of main_call3_call0_v109 : StableHlo.TRef sig ⟨S1024x100000, .i32⟩) (broadcastInDim S1024x100000 ![] bcast_S_S1024x100000)
    :: StableHlo.TRef.binary (.of main_call3_call0_v107 : StableHlo.TRef sig ⟨S1024x100000, .i32⟩) (.of main_call3_call0_v109 : StableHlo.TRef sig ⟨S1024x100000, .i32⟩) (.of main_call3_call0_v110 : StableHlo.TRef sig ⟨S1024x100000, .i32⟩) Host.shli
    :: StableHlo.TRef.nullary (.of main_call3_call0_c_28 : StableHlo.TRef sig ⟨S_, .i32⟩) (constantI S_ 32 15#32)
    :: StableHlo.TRef.unary (.of main_call3_call0_c_28 : StableHlo.TRef sig ⟨S_, .i32⟩) (.of main_call3_call0_v111 : StableHlo.TRef sig ⟨S1024x100000, .i32⟩) (broadcastInDim S1024x100000 ![] bcast_S_S1024x100000)
    :: StableHlo.TRef.binary (.of main_call3_call0_v107 : StableHlo.TRef sig ⟨S1024x100000, .i32⟩) (.of main_call3_call0_v111 : StableHlo.TRef sig ⟨S1024x100000, .i32⟩) (.of main_call3_call0_v112 : StableHlo.TRef sig ⟨S1024x100000, .i32⟩) Host.shrui
    :: StableHlo.TRef.binary (.of main_call3_call0_v110 : StableHlo.TRef sig ⟨S1024x100000, .i32⟩) (.of main_call3_call0_v112 : StableHlo.TRef sig ⟨S1024x100000, .i32⟩) (.of main_call3_call0_v113 : StableHlo.TRef sig ⟨S1024x100000, .i32⟩) ori
    :: StableHlo.TRef.binary (.of main_call3_call0_v108 : StableHlo.TRef sig ⟨S1024x100000, .i32⟩) (.of main_call3_call0_v113 : StableHlo.TRef sig ⟨S1024x100000, .i32⟩) (.of main_call3_call0_v114 : StableHlo.TRef sig ⟨S1024x100000, .i32⟩) xori
    :: StableHlo.TRef.binary (.of main_call3_call0_v108 : StableHlo.TRef sig ⟨S1024x100000, .i32⟩) (.of main_call3_call0_v114 : StableHlo.TRef sig ⟨S1024x100000, .i32⟩) (.of main_call3_call0_v115 : StableHlo.TRef sig ⟨S1024x100000, .i32⟩) addi
    :: StableHlo.TRef.nullary (.of main_call3_call0_c_29 : StableHlo.TRef sig ⟨S_, .i32⟩) (constantI S_ 32 29#32)
    :: StableHlo.TRef.unary (.of main_call3_call0_c_29 : StableHlo.TRef sig ⟨S_, .i32⟩) (.of main_call3_call0_v116 : StableHlo.TRef sig ⟨S1024x100000, .i32⟩) (broadcastInDim S1024x100000 ![] bcast_S_S1024x100000)
    :: StableHlo.TRef.binary (.of main_call3_call0_v114 : StableHlo.TRef sig ⟨S1024x100000, .i32⟩) (.of main_call3_call0_v116 : StableHlo.TRef sig ⟨S1024x100000, .i32⟩) (.of main_call3_call0_v117 : StableHlo.TRef sig ⟨S1024x100000, .i32⟩) Host.shli
    :: StableHlo.TRef.nullary (.of main_call3_call0_c_30 : StableHlo.TRef sig ⟨S_, .i32⟩) (constantI S_ 32 3#32)
    :: StableHlo.TRef.unary (.of main_call3_call0_c_30 : StableHlo.TRef sig ⟨S_, .i32⟩) (.of main_call3_call0_v118 : StableHlo.TRef sig ⟨S1024x100000, .i32⟩) (broadcastInDim S1024x100000 ![] bcast_S_S1024x100000)
    :: StableHlo.TRef.binary (.of main_call3_call0_v114 : StableHlo.TRef sig ⟨S1024x100000, .i32⟩) (.of main_call3_call0_v118 : StableHlo.TRef sig ⟨S1024x100000, .i32⟩) (.of main_call3_call0_v119 : StableHlo.TRef sig ⟨S1024x100000, .i32⟩) Host.shrui
    :: StableHlo.TRef.binary (.of main_call3_call0_v117 : StableHlo.TRef sig ⟨S1024x100000, .i32⟩) (.of main_call3_call0_v119 : StableHlo.TRef sig ⟨S1024x100000, .i32⟩) (.of main_call3_call0_v120 : StableHlo.TRef sig ⟨S1024x100000, .i32⟩) ori
    :: StableHlo.TRef.binary (.of main_call3_call0_v115 : StableHlo.TRef sig ⟨S1024x100000, .i32⟩) (.of main_call3_call0_v120 : StableHlo.TRef sig ⟨S1024x100000, .i32⟩) (.of main_call3_call0_v121 : StableHlo.TRef sig ⟨S1024x100000, .i32⟩) xori
    :: StableHlo.TRef.binary (.of main_call3_call0_v115 : StableHlo.TRef sig ⟨S1024x100000, .i32⟩) (.of main_call3_call0_v121 : StableHlo.TRef sig ⟨S1024x100000, .i32⟩) (.of main_call3_call0_v122 : StableHlo.TRef sig ⟨S1024x100000, .i32⟩) addi
    :: StableHlo.TRef.nullary (.of main_call3_call0_c_31 : StableHlo.TRef sig ⟨S_, .i32⟩) (constantI S_ 32 16#32)
    :: StableHlo.TRef.unary (.of main_call3_call0_c_31 : StableHlo.TRef sig ⟨S_, .i32⟩) (.of main_call3_call0_v123 : StableHlo.TRef sig ⟨S1024x100000, .i32⟩) (broadcastInDim S1024x100000 ![] bcast_S_S1024x100000)
    :: StableHlo.TRef.binary (.of main_call3_call0_v121 : StableHlo.TRef sig ⟨S1024x100000, .i32⟩) (.of main_call3_call0_v123 : StableHlo.TRef sig ⟨S1024x100000, .i32⟩) (.of main_call3_call0_v124 : StableHlo.TRef sig ⟨S1024x100000, .i32⟩) Host.shli
    :: StableHlo.TRef.nullary (.of main_call3_call0_c_32 : StableHlo.TRef sig ⟨S_, .i32⟩) (constantI S_ 32 16#32)
    :: StableHlo.TRef.unary (.of main_call3_call0_c_32 : StableHlo.TRef sig ⟨S_, .i32⟩) (.of main_call3_call0_v125 : StableHlo.TRef sig ⟨S1024x100000, .i32⟩) (broadcastInDim S1024x100000 ![] bcast_S_S1024x100000)
    :: StableHlo.TRef.binary (.of main_call3_call0_v121 : StableHlo.TRef sig ⟨S1024x100000, .i32⟩) (.of main_call3_call0_v125 : StableHlo.TRef sig ⟨S1024x100000, .i32⟩) (.of main_call3_call0_v126 : StableHlo.TRef sig ⟨S1024x100000, .i32⟩) Host.shrui
    :: StableHlo.TRef.binary (.of main_call3_call0_v124 : StableHlo.TRef sig ⟨S1024x100000, .i32⟩) (.of main_call3_call0_v126 : StableHlo.TRef sig ⟨S1024x100000, .i32⟩) (.of main_call3_call0_v127 : StableHlo.TRef sig ⟨S1024x100000, .i32⟩) ori
    :: StableHlo.TRef.binary (.of main_call3_call0_v122 : StableHlo.TRef sig ⟨S1024x100000, .i32⟩) (.of main_call3_call0_v127 : StableHlo.TRef sig ⟨S1024x100000, .i32⟩) (.of main_call3_call0_v128 : StableHlo.TRef sig ⟨S1024x100000, .i32⟩) xori
    :: StableHlo.TRef.binary (.of main_call3_call0_v122 : StableHlo.TRef sig ⟨S1024x100000, .i32⟩) (.of main_call3_call0_v128 : StableHlo.TRef sig ⟨S1024x100000, .i32⟩) (.of main_call3_call0_v129 : StableHlo.TRef sig ⟨S1024x100000, .i32⟩) addi
    :: StableHlo.TRef.nullary (.of main_call3_call0_c_33 : StableHlo.TRef sig ⟨S_, .i32⟩) (constantI S_ 32 24#32)
    :: StableHlo.TRef.unary (.of main_call3_call0_c_33 : StableHlo.TRef sig ⟨S_, .i32⟩) (.of main_call3_call0_v130 : StableHlo.TRef sig ⟨S1024x100000, .i32⟩) (broadcastInDim S1024x100000 ![] bcast_S_S1024x100000)
    :: StableHlo.TRef.binary (.of main_call3_call0_v128 : StableHlo.TRef sig ⟨S1024x100000, .i32⟩) (.of main_call3_call0_v130 : StableHlo.TRef sig ⟨S1024x100000, .i32⟩) (.of main_call3_call0_v131 : StableHlo.TRef sig ⟨S1024x100000, .i32⟩) Host.shli
    :: StableHlo.TRef.nullary (.of main_call3_call0_c_34 : StableHlo.TRef sig ⟨S_, .i32⟩) (constantI S_ 32 8#32)
    :: StableHlo.TRef.unary (.of main_call3_call0_c_34 : StableHlo.TRef sig ⟨S_, .i32⟩) (.of main_call3_call0_v132 : StableHlo.TRef sig ⟨S1024x100000, .i32⟩) (broadcastInDim S1024x100000 ![] bcast_S_S1024x100000)
    :: StableHlo.TRef.binary (.of main_call3_call0_v128 : StableHlo.TRef sig ⟨S1024x100000, .i32⟩) (.of main_call3_call0_v132 : StableHlo.TRef sig ⟨S1024x100000, .i32⟩) (.of main_call3_call0_v133 : StableHlo.TRef sig ⟨S1024x100000, .i32⟩) Host.shrui
    :: StableHlo.TRef.binary (.of main_call3_call0_v131 : StableHlo.TRef sig ⟨S1024x100000, .i32⟩) (.of main_call3_call0_v133 : StableHlo.TRef sig ⟨S1024x100000, .i32⟩) (.of main_call3_call0_v134 : StableHlo.TRef sig ⟨S1024x100000, .i32⟩) ori
    :: StableHlo.TRef.binary (.of main_call3_call0_v129 : StableHlo.TRef sig ⟨S1024x100000, .i32⟩) (.of main_call3_call0_v134 : StableHlo.TRef sig ⟨S1024x100000, .i32⟩) (.of main_call3_call0_v135 : StableHlo.TRef sig ⟨S1024x100000, .i32⟩) xori
    :: StableHlo.TRef.unary (.of main_call3_v7 : StableHlo.TRef sig ⟨S_, .i32⟩) (.of main_call3_call0_v136 : StableHlo.TRef sig ⟨S1024x100000, .i32⟩) (broadcastInDim S1024x100000 ![] bcast_S_S1024x100000)
    :: StableHlo.TRef.binary (.of main_call3_call0_v129 : StableHlo.TRef sig ⟨S1024x100000, .i32⟩) (.of main_call3_call0_v136 : StableHlo.TRef sig ⟨S1024x100000, .i32⟩) (.of main_call3_call0_v137 : StableHlo.TRef sig ⟨S1024x100000, .i32⟩) addi
    :: StableHlo.TRef.unary (.of main_call3_call0_v1 : StableHlo.TRef sig ⟨S_, .i32⟩) (.of main_call3_call0_v138 : StableHlo.TRef sig ⟨S1024x100000, .i32⟩) (broadcastInDim S1024x100000 ![] bcast_S_S1024x100000)
    :: StableHlo.TRef.binary (.of main_call3_call0_v135 : StableHlo.TRef sig ⟨S1024x100000, .i32⟩) (.of main_call3_call0_v138 : StableHlo.TRef sig ⟨S1024x100000, .i32⟩) (.of main_call3_call0_v139 : StableHlo.TRef sig ⟨S1024x100000, .i32⟩) addi
    :: StableHlo.TRef.nullary (.of main_call3_call0_c_35 : StableHlo.TRef sig ⟨S_, .i32⟩) (constantI S_ 32 4#32)
    :: StableHlo.TRef.unary (.of main_call3_call0_c_35 : StableHlo.TRef sig ⟨S_, .i32⟩) (.of main_call3_call0_v140 : StableHlo.TRef sig ⟨S1024x100000, .i32⟩) (broadcastInDim S1024x100000 ![] bcast_S_S1024x100000)
    :: StableHlo.TRef.binary (.of main_call3_call0_v139 : StableHlo.TRef sig ⟨S1024x100000, .i32⟩) (.of main_call3_call0_v140 : StableHlo.TRef sig ⟨S1024x100000, .i32⟩) (.of main_call3_call0_v141 : StableHlo.TRef sig ⟨S1024x100000, .i32⟩) addi
    :: StableHlo.TRef.binary (.of main_call3_call0_v137 : StableHlo.TRef sig ⟨S1024x100000, .i32⟩) (.of main_call3_call0_v141 : StableHlo.TRef sig ⟨S1024x100000, .i32⟩) (.of main_call3_call0_v142 : StableHlo.TRef sig ⟨S1024x100000, .i32⟩) addi
    :: StableHlo.TRef.nullary (.of main_call3_call0_c_36 : StableHlo.TRef sig ⟨S_, .i32⟩) (constantI S_ 32 13#32)
    :: StableHlo.TRef.unary (.of main_call3_call0_c_36 : StableHlo.TRef sig ⟨S_, .i32⟩) (.of main_call3_call0_v143 : StableHlo.TRef sig ⟨S1024x100000, .i32⟩) (broadcastInDim S1024x100000 ![] bcast_S_S1024x100000)
    :: StableHlo.TRef.binary (.of main_call3_call0_v141 : StableHlo.TRef sig ⟨S1024x100000, .i32⟩) (.of main_call3_call0_v143 : StableHlo.TRef sig ⟨S1024x100000, .i32⟩) (.of main_call3_call0_v144 : StableHlo.TRef sig ⟨S1024x100000, .i32⟩) Host.shli
    :: StableHlo.TRef.nullary (.of main_call3_call0_c_37 : StableHlo.TRef sig ⟨S_, .i32⟩) (constantI S_ 32 19#32)
    :: StableHlo.TRef.unary (.of main_call3_call0_c_37 : StableHlo.TRef sig ⟨S_, .i32⟩) (.of main_call3_call0_v145 : StableHlo.TRef sig ⟨S1024x100000, .i32⟩) (broadcastInDim S1024x100000 ![] bcast_S_S1024x100000)
    :: StableHlo.TRef.binary (.of main_call3_call0_v141 : StableHlo.TRef sig ⟨S1024x100000, .i32⟩) (.of main_call3_call0_v145 : StableHlo.TRef sig ⟨S1024x100000, .i32⟩) (.of main_call3_call0_v146 : StableHlo.TRef sig ⟨S1024x100000, .i32⟩) Host.shrui
    :: StableHlo.TRef.binary (.of main_call3_call0_v144 : StableHlo.TRef sig ⟨S1024x100000, .i32⟩) (.of main_call3_call0_v146 : StableHlo.TRef sig ⟨S1024x100000, .i32⟩) (.of main_call3_call0_v147 : StableHlo.TRef sig ⟨S1024x100000, .i32⟩) ori
    :: StableHlo.TRef.binary (.of main_call3_call0_v142 : StableHlo.TRef sig ⟨S1024x100000, .i32⟩) (.of main_call3_call0_v147 : StableHlo.TRef sig ⟨S1024x100000, .i32⟩) (.of main_call3_call0_v148 : StableHlo.TRef sig ⟨S1024x100000, .i32⟩) xori
    :: StableHlo.TRef.binary (.of main_call3_call0_v142 : StableHlo.TRef sig ⟨S1024x100000, .i32⟩) (.of main_call3_call0_v148 : StableHlo.TRef sig ⟨S1024x100000, .i32⟩) (.of main_call3_call0_v149 : StableHlo.TRef sig ⟨S1024x100000, .i32⟩) addi
    :: StableHlo.TRef.nullary (.of main_call3_call0_c_38 : StableHlo.TRef sig ⟨S_, .i32⟩) (constantI S_ 32 15#32)
    :: StableHlo.TRef.unary (.of main_call3_call0_c_38 : StableHlo.TRef sig ⟨S_, .i32⟩) (.of main_call3_call0_v150 : StableHlo.TRef sig ⟨S1024x100000, .i32⟩) (broadcastInDim S1024x100000 ![] bcast_S_S1024x100000)
    :: StableHlo.TRef.binary (.of main_call3_call0_v148 : StableHlo.TRef sig ⟨S1024x100000, .i32⟩) (.of main_call3_call0_v150 : StableHlo.TRef sig ⟨S1024x100000, .i32⟩) (.of main_call3_call0_v151 : StableHlo.TRef sig ⟨S1024x100000, .i32⟩) Host.shli
    :: StableHlo.TRef.nullary (.of main_call3_call0_c_39 : StableHlo.TRef sig ⟨S_, .i32⟩) (constantI S_ 32 17#32)
    :: StableHlo.TRef.unary (.of main_call3_call0_c_39 : StableHlo.TRef sig ⟨S_, .i32⟩) (.of main_call3_call0_v152 : StableHlo.TRef sig ⟨S1024x100000, .i32⟩) (broadcastInDim S1024x100000 ![] bcast_S_S1024x100000)
    :: StableHlo.TRef.binary (.of main_call3_call0_v148 : StableHlo.TRef sig ⟨S1024x100000, .i32⟩) (.of main_call3_call0_v152 : StableHlo.TRef sig ⟨S1024x100000, .i32⟩) (.of main_call3_call0_v153 : StableHlo.TRef sig ⟨S1024x100000, .i32⟩) Host.shrui
    :: StableHlo.TRef.binary (.of main_call3_call0_v151 : StableHlo.TRef sig ⟨S1024x100000, .i32⟩) (.of main_call3_call0_v153 : StableHlo.TRef sig ⟨S1024x100000, .i32⟩) (.of main_call3_call0_v154 : StableHlo.TRef sig ⟨S1024x100000, .i32⟩) ori
    :: StableHlo.TRef.binary (.of main_call3_call0_v149 : StableHlo.TRef sig ⟨S1024x100000, .i32⟩) (.of main_call3_call0_v154 : StableHlo.TRef sig ⟨S1024x100000, .i32⟩) (.of main_call3_call0_v155 : StableHlo.TRef sig ⟨S1024x100000, .i32⟩) xori
    :: StableHlo.TRef.binary (.of main_call3_call0_v149 : StableHlo.TRef sig ⟨S1024x100000, .i32⟩) (.of main_call3_call0_v155 : StableHlo.TRef sig ⟨S1024x100000, .i32⟩) (.of main_call3_call0_v156 : StableHlo.TRef sig ⟨S1024x100000, .i32⟩) addi
    :: StableHlo.TRef.nullary (.of main_call3_call0_c_40 : StableHlo.TRef sig ⟨S_, .i32⟩) (constantI S_ 32 26#32)
    :: StableHlo.TRef.unary (.of main_call3_call0_c_40 : StableHlo.TRef sig ⟨S_, .i32⟩) (.of main_call3_call0_v157 : StableHlo.TRef sig ⟨S1024x100000, .i32⟩) (broadcastInDim S1024x100000 ![] bcast_S_S1024x100000)
    :: StableHlo.TRef.binary (.of main_call3_call0_v155 : StableHlo.TRef sig ⟨S1024x100000, .i32⟩) (.of main_call3_call0_v157 : StableHlo.TRef sig ⟨S1024x100000, .i32⟩) (.of main_call3_call0_v158 : StableHlo.TRef sig ⟨S1024x100000, .i32⟩) Host.shli
    :: StableHlo.TRef.nullary (.of main_call3_call0_c_41 : StableHlo.TRef sig ⟨S_, .i32⟩) (constantI S_ 32 6#32)
    :: StableHlo.TRef.unary (.of main_call3_call0_c_41 : StableHlo.TRef sig ⟨S_, .i32⟩) (.of main_call3_call0_v159 : StableHlo.TRef sig ⟨S1024x100000, .i32⟩) (broadcastInDim S1024x100000 ![] bcast_S_S1024x100000)
    :: StableHlo.TRef.binary (.of main_call3_call0_v155 : StableHlo.TRef sig ⟨S1024x100000, .i32⟩) (.of main_call3_call0_v159 : StableHlo.TRef sig ⟨S1024x100000, .i32⟩) (.of main_call3_call0_v160 : StableHlo.TRef sig ⟨S1024x100000, .i32⟩) Host.shrui
    :: StableHlo.TRef.binary (.of main_call3_call0_v158 : StableHlo.TRef sig ⟨S1024x100000, .i32⟩) (.of main_call3_call0_v160 : StableHlo.TRef sig ⟨S1024x100000, .i32⟩) (.of main_call3_call0_v161 : StableHlo.TRef sig ⟨S1024x100000, .i32⟩) ori
    :: StableHlo.TRef.binary (.of main_call3_call0_v156 : StableHlo.TRef sig ⟨S1024x100000, .i32⟩) (.of main_call3_call0_v161 : StableHlo.TRef sig ⟨S1024x100000, .i32⟩) (.of main_call3_call0_v162 : StableHlo.TRef sig ⟨S1024x100000, .i32⟩) xori
    :: StableHlo.TRef.binary (.of main_call3_call0_v156 : StableHlo.TRef sig ⟨S1024x100000, .i32⟩) (.of main_call3_call0_v162 : StableHlo.TRef sig ⟨S1024x100000, .i32⟩) (.of main_call3_call0_v163 : StableHlo.TRef sig ⟨S1024x100000, .i32⟩) addi
    :: StableHlo.TRef.nullary (.of main_call3_call0_c_42 : StableHlo.TRef sig ⟨S_, .i32⟩) (constantI S_ 32 6#32)
    :: StableHlo.TRef.unary (.of main_call3_call0_c_42 : StableHlo.TRef sig ⟨S_, .i32⟩) (.of main_call3_call0_v164 : StableHlo.TRef sig ⟨S1024x100000, .i32⟩) (broadcastInDim S1024x100000 ![] bcast_S_S1024x100000)
    :: StableHlo.TRef.binary (.of main_call3_call0_v162 : StableHlo.TRef sig ⟨S1024x100000, .i32⟩) (.of main_call3_call0_v164 : StableHlo.TRef sig ⟨S1024x100000, .i32⟩) (.of main_call3_call0_v165 : StableHlo.TRef sig ⟨S1024x100000, .i32⟩) Host.shli
    :: StableHlo.TRef.nullary (.of main_call3_call0_c_43 : StableHlo.TRef sig ⟨S_, .i32⟩) (constantI S_ 32 26#32)
    :: StableHlo.TRef.unary (.of main_call3_call0_c_43 : StableHlo.TRef sig ⟨S_, .i32⟩) (.of main_call3_call0_v166 : StableHlo.TRef sig ⟨S1024x100000, .i32⟩) (broadcastInDim S1024x100000 ![] bcast_S_S1024x100000)
    :: StableHlo.TRef.binary (.of main_call3_call0_v162 : StableHlo.TRef sig ⟨S1024x100000, .i32⟩) (.of main_call3_call0_v166 : StableHlo.TRef sig ⟨S1024x100000, .i32⟩) (.of main_call3_call0_v167 : StableHlo.TRef sig ⟨S1024x100000, .i32⟩) Host.shrui
    :: StableHlo.TRef.binary (.of main_call3_call0_v165 : StableHlo.TRef sig ⟨S1024x100000, .i32⟩) (.of main_call3_call0_v167 : StableHlo.TRef sig ⟨S1024x100000, .i32⟩) (.of main_call3_call0_v168 : StableHlo.TRef sig ⟨S1024x100000, .i32⟩) ori
    :: StableHlo.TRef.binary (.of main_call3_call0_v163 : StableHlo.TRef sig ⟨S1024x100000, .i32⟩) (.of main_call3_call0_v168 : StableHlo.TRef sig ⟨S1024x100000, .i32⟩) (.of main_call3_call0_v169 : StableHlo.TRef sig ⟨S1024x100000, .i32⟩) xori
    :: StableHlo.TRef.unary (.of main_call3_call0_v1 : StableHlo.TRef sig ⟨S_, .i32⟩) (.of main_call3_call0_v170 : StableHlo.TRef sig ⟨S1024x100000, .i32⟩) (broadcastInDim S1024x100000 ![] bcast_S_S1024x100000)
    :: StableHlo.TRef.binary (.of main_call3_call0_v163 : StableHlo.TRef sig ⟨S1024x100000, .i32⟩) (.of main_call3_call0_v170 : StableHlo.TRef sig ⟨S1024x100000, .i32⟩) (.of main_call3_v19_0 : StableHlo.TRef sig ⟨S1024x100000, .i32⟩) addi
    :: StableHlo.TRef.unary (.of main_call3_v5 : StableHlo.TRef sig ⟨S_, .i32⟩) (.of main_call3_call0_v172 : StableHlo.TRef sig ⟨S1024x100000, .i32⟩) (broadcastInDim S1024x100000 ![] bcast_S_S1024x100000)
    :: StableHlo.TRef.binary (.of main_call3_call0_v169 : StableHlo.TRef sig ⟨S1024x100000, .i32⟩) (.of main_call3_call0_v172 : StableHlo.TRef sig ⟨S1024x100000, .i32⟩) (.of main_call3_call0_v173 : StableHlo.TRef sig ⟨S1024x100000, .i32⟩) addi
    :: StableHlo.TRef.nullary (.of main_call3_call0_c_44 : StableHlo.TRef sig ⟨S_, .i32⟩) (constantI S_ 32 5#32)
    :: StableHlo.TRef.unary (.of main_call3_call0_c_44 : StableHlo.TRef sig ⟨S_, .i32⟩) (.of main_call3_call0_v174 : StableHlo.TRef sig ⟨S1024x100000, .i32⟩) (broadcastInDim S1024x100000 ![] bcast_S_S1024x100000)
    :: StableHlo.TRef.binary (.of main_call3_call0_v173 : StableHlo.TRef sig ⟨S1024x100000, .i32⟩) (.of main_call3_call0_v174 : StableHlo.TRef sig ⟨S1024x100000, .i32⟩) (.of main_call3_v19_1 : StableHlo.TRef sig ⟨S1024x100000, .i32⟩) addi
    :: StableHlo.TRef.binary (.of main_call3_v19_0 : StableHlo.TRef sig ⟨S1024x100000, .i32⟩) (.of main_call3_v19_1 : StableHlo.TRef sig ⟨S1024x100000, .i32⟩) (.of main_call3_v20 : StableHlo.TRef sig ⟨S1024x100000, .i32⟩) xori
    :: StableHlo.TRef.nullary (.of main_call3_c_2 : StableHlo.TRef sig ⟨S_, .i32⟩) (constantI S_ 32 9#32)
    :: StableHlo.TRef.unary (.of main_call3_c_2 : StableHlo.TRef sig ⟨S_, .i32⟩) (.of main_call3_v21 : StableHlo.TRef sig ⟨S1024x100000, .i32⟩) (broadcastInDim S1024x100000 ![] bcast_S_S1024x100000)
    :: StableHlo.TRef.binary (.of main_call3_v20 : StableHlo.TRef sig ⟨S1024x100000, .i32⟩) (.of main_call3_v21 : StableHlo.TRef sig ⟨S1024x100000, .i32⟩) (.of main_call3_v22 : StableHlo.TRef sig ⟨S1024x100000, .i32⟩) Host.shrui
    :: StableHlo.TRef.nullary (.of main_call3_c_3 : StableHlo.TRef sig ⟨S_, .i32⟩) (constantI S_ 32 1065353216#32)
    :: StableHlo.TRef.unary (.of main_call3_c_3 : StableHlo.TRef sig ⟨S_, .i32⟩) (.of main_call3_v23 : StableHlo.TRef sig ⟨S1024x100000, .i32⟩) (broadcastInDim S1024x100000 ![] bcast_S_S1024x100000)
    :: StableHlo.TRef.binary (.of main_call3_v22 : StableHlo.TRef sig ⟨S1024x100000, .i32⟩) (.of main_call3_v23 : StableHlo.TRef sig ⟨S1024x100000, .i32⟩) (.of main_call3_v24 : StableHlo.TRef sig ⟨S1024x100000, .i32⟩) ori
    :: StableHlo.TRef.unary (.of main_call3_v24 : StableHlo.TRef sig ⟨S1024x100000, .i32⟩) (.of main_call3_v25 : StableHlo.TRef sig ⟨S1024x100000, .f32⟩) (bitcastToFloat .f32)
    :: StableHlo.TRef.nullary (.of main_call3_cst : StableHlo.TRef sig ⟨S_, .f32⟩) (constant S_ .f32 0x3F800000#32)
    :: StableHlo.TRef.unary (.of main_call3_cst : StableHlo.TRef sig ⟨S_, .f32⟩) (.of main_call3_v26 : StableHlo.TRef sig ⟨S1024x100000, .f32⟩) (broadcastInDim S1024x100000 ![] bcast_S_S1024x100000)
    :: StableHlo.TRef.binary (.of main_call3_v25 : StableHlo.TRef sig ⟨S1024x100000, .f32⟩) (.of main_call3_v26 : StableHlo.TRef sig ⟨S1024x100000, .f32⟩) (.of main_call3_v27 : StableHlo.TRef sig ⟨S1024x100000, .f32⟩) subf
    :: StableHlo.TRef.binary (.of main_call3_v3 : StableHlo.TRef sig ⟨S1x1, .f32⟩) (.of main_call3_v2 : StableHlo.TRef sig ⟨S1x1, .f32⟩) (.of main_call3_v28 : StableHlo.TRef sig ⟨S1x1, .f32⟩) subf
    :: StableHlo.TRef.unary (.of main_call3_v28 : StableHlo.TRef sig ⟨S1x1, .f32⟩) (.of main_call3_v29 : StableHlo.TRef sig ⟨S1024x100000, .f32⟩) (broadcastInDim S1024x100000 ![0, 1] bcast_S1x1_S1024x100000_0_1)
    :: StableHlo.TRef.binary (.of main_call3_v27 : StableHlo.TRef sig ⟨S1024x100000, .f32⟩) (.of main_call3_v29 : StableHlo.TRef sig ⟨S1024x100000, .f32⟩) (.of main_call3_v30 : StableHlo.TRef sig ⟨S1024x100000, .f32⟩) mulf
    :: StableHlo.TRef.unary (.of main_call3_v2 : StableHlo.TRef sig ⟨S1x1, .f32⟩) (.of main_call3_v31 : StableHlo.TRef sig ⟨S1024x100000, .f32⟩) (broadcastInDim S1024x100000 ![0, 1] bcast_S1x1_S1024x100000_0_1)
    :: StableHlo.TRef.binary (.of main_call3_v30 : StableHlo.TRef sig ⟨S1024x100000, .f32⟩) (.of main_call3_v31 : StableHlo.TRef sig ⟨S1024x100000, .f32⟩) (.of main_call3_v32 : StableHlo.TRef sig ⟨S1024x100000, .f32⟩) addf
    :: StableHlo.TRef.unary (.of main_call3_v2 : StableHlo.TRef sig ⟨S1x1, .f32⟩) (.of main_call3_v33 : StableHlo.TRef sig ⟨S1024x100000, .f32⟩) (broadcastInDim S1024x100000 ![0, 1] bcast_S1x1_S1024x100000_0_1)
    :: StableHlo.TRef.binary (.of main_call3_v33 : StableHlo.TRef sig ⟨S1024x100000, .f32⟩) (.of main_call3_v32 : StableHlo.TRef sig ⟨S1024x100000, .f32⟩) (.of main_v14 : StableHlo.TRef sig ⟨S1024x100000, .f32⟩) maximumf
    :: [])

set_option maxHeartbeats 40000000 in
/-- Each of these operations touches TensorCore buffers only. -/
theorem opsU_sub : (opsU : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

set_option maxHeartbeats 40000000 in
/-- The Gumbel noise added to the scaled values, and the argmax. -/
abbrev opsT : List (HloOp τ sig (Elt F)) :=
  (
    StableHlo.unary main_v14 main_v15 (Host.log : (⟨S1024x100000, .f32⟩ : BufTy).Contents (Elt F) → (⟨S1024x100000, .f32⟩ : BufTy).Contents (Elt F))
    :: StableHlo.unary main_v15 main_v16 (Host.negf : (⟨S1024x100000, .f32⟩ : BufTy).Contents (Elt F) → (⟨S1024x100000, .f32⟩ : BufTy).Contents (Elt F))
    :: StableHlo.unary main_v16 main_v17 (Host.log : (⟨S1024x100000, .f32⟩ : BufTy).Contents (Elt F) → (⟨S1024x100000, .f32⟩ : BufTy).Contents (Elt F))
    :: StableHlo.unary main_v17 main_v18 (Host.negf : (⟨S1024x100000, .f32⟩ : BufTy).Contents (Elt F) → (⟨S1024x100000, .f32⟩ : BufTy).Contents (Elt F))
    :: StableHlo.binary main_v6 main_v18 main_v19 (addf : (⟨S1024x100000, .f32⟩ : BufTy).Contents (Elt F) → (⟨S1024x100000, .f32⟩ : BufTy).Contents (Elt F) → (⟨S1024x100000, .f32⟩ : BufTy).Contents (Elt F))
    :: StableHlo.TRef.nullary (.of main_call4_v0 : StableHlo.TRef sig ⟨S1024x100000, .i32⟩) (iotaInDim S1024x100000 32 1)
    :: StableHlo.TRef.nullary (.of main_call4_cst : StableHlo.TRef sig ⟨S_, .f32⟩) (constant S_ .f32 0xFF800000#32)
    :: StableHlo.TRef.nullary (.of main_call4_c : StableHlo.TRef sig ⟨S_, .i32⟩) (constantI S_ 32 0#32)
    :: StableHlo.TRef.quaternary (.of main_v19 : StableHlo.TRef sig ⟨S1024x100000, .f32⟩) (.of main_call4_v0 : StableHlo.TRef sig ⟨S1024x100000, .i32⟩) (.of main_call4_cst : StableHlo.TRef sig ⟨S_, .f32⟩) (.of main_call4_c : StableHlo.TRef sig ⟨S_, .i32⟩) (.of main_call4_v1_0 : StableHlo.TRef sig ⟨S1024, .f32⟩) (fun x y u v j => (Host.argReduce reducer_argmax_f32_i32 x y u v reducesTo_S1024x100000_S1024_d1 h_S_ j).1)
    :: StableHlo.TRef.quaternary (.of main_v19 : StableHlo.TRef sig ⟨S1024x100000, .f32⟩) (.of main_call4_v0 : StableHlo.TRef sig ⟨S1024x100000, .i32⟩) (.of main_call4_cst : StableHlo.TRef sig ⟨S_, .f32⟩) (.of main_call4_c : StableHlo.TRef sig ⟨S_, .i32⟩) (.of main_v20 : StableHlo.TRef sig ⟨S1024, .i32⟩) (fun x y u v j => (Host.argReduce reducer_argmax_f32_i32 x y u v reducesTo_S1024x100000_S1024_d1 h_S_ j).2)
    :: [])

set_option maxHeartbeats 40000000 in
/-- Each of these operations touches TensorCore buffers only. -/
theorem opsT_sub : (opsT : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.nullary_bufs_sub .., StableHlo.quaternary_bufs_sub .., StableHlo.quaternary_bufs_sub ..⟩

/-- All of the reference's operations, in order. -/
abbrev ops : List (HloOp τ sig (Elt F)) := opsA ++ (opsB ++ (opsC ++ (opsU ++ opsT)))

set_option maxHeartbeats 40000000 in
/-- The reference's entry point is these operations in sequence. -/
theorem main_chain (c : Dev nD) : main (F := F) c = (Pipeline.chain
    [StableHlo.seq opsA, StableHlo.seq opsB, StableHlo.seq opsC, StableHlo.seq opsU, StableHlo.seq opsT]
    : Prog (TpuEff nD τ sig (Elt F) (Pipeline.Sig Λ₀ (Fin 0) fun p => (pcfgs (F := F) p).Adm) .tc) PUnit) := by
  chain_rfl

end Cert.ReferenceIdeal.Hand

end

end
-- ==== Proof.Ref.Run.lean ====
module

public import proofs.«01_k».proof.Proof.Ref.Ops
public import Idealize.ShloMosaic.Lib.Pipeline.Frame
public import Idealize.ShloMosaic.Lib.Pipeline.Regions
public import Idealize.ShloMosaic.Lib.StableHlo.RunRead

@[expose] public section

set_option Elab.async false
set_option maxRecDepth 65536

noncomputable section

/-! # The reference's run, for any float values: every buffer ends at the fold of the operations -/

namespace Cert.ReferenceIdeal.Hand

open Idealize.ShloMosaic Idealize.SL.Sem Cert.ReferenceIdeal Cert.ReferenceIdeal.Gen

variable {F : FTy → Type} [FloatOps F]

/-- The entry point as one sequence of operations. -/
theorem main_eq (c : Dev nD) : main (F := F) c = StableHlo.seq ops := by
  rw [main_chain, ops, StableHlo.seq_append, StableHlo.seq_append, StableHlo.seq_append, StableHlo.seq_append]
  simp only [Pipeline.chain_cons, Pipeline.chain_nil]
  have h (p : Prog (TpuEff nD τ sig (Elt F) (Pipeline.Sig Λ₀ (Fin 0) fun p => (pcfgs (F := F) p).Adm) .tc) PUnit) :
      (p >>= fun _ => pure PUnit.unit) = p := bind_pure p
  rw [h]

theorem scopedRefs_eq : (Finset.univ.filter fun b : Ref sig .tc => b.isScoped) = ∅ := by decide +kernel
theorem scopedSems_eq : (Finset.univ.filter fun sm : SemLoc sig => sm.isScoped .tc) = ∅ := by decide +kernel

/-- The operations touch TensorCore buffers only. -/
theorem ops_sub : (ops : List (HloOp τ sig (Elt F))).Forall fun op => op.bufs ⊆ StableHlo.tcRefs τ sig := by
  have hA := List.forall_iff_forall_mem.1 (opsA_sub (F := F))
  have hB := List.forall_iff_forall_mem.1 (opsB_sub (F := F))
  have hC := List.forall_iff_forall_mem.1 (opsC_sub (F := F))
  have hU := List.forall_iff_forall_mem.1 (opsU_sub (F := F))
  have hT := List.forall_iff_forall_mem.1 (opsT_sub (F := F))
  refine List.forall_iff_forall_mem.2 fun op h => ?_
  rcases List.mem_append.1 h with h | h
  · exact hA op h
  rcases List.mem_append.1 h with h | h
  · exact hB op h
  rcases List.mem_append.1 h with h | h
  · exact hC op h
  rcases List.mem_append.1 h with h | h
  · exact hU op h
  · exact hT op h

set_option maxHeartbeats 40000000 in
/-- No operation of this stretch leaves its result open. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers this stretch writes, in order. -/
abbrev writesA : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

set_option maxHeartbeats 40000000 in
/-- These are the buffers the stretch writes. -/
theorem opsA_writes : (opsA : List (HloOp τ sig (Elt F))).map HloOp.writes = writesA.map fun w => {Proc.devRef (τ := τ) .tc w} := rfl

/-- A buffer the stretch does not write keeps its contents. -/
theorem afterA_of {r : Ref sig .tc} (hr : r ∉ writesA) (V : Valuation τ sig (Elt F)) :
    StableHlo.after opsA V (Proc.devRef .tc r) = V (Proc.devRef .tc r) :=
  StableHlo.after_unwritten writesA opsA_writes hr V

set_option maxHeartbeats 40000000 in
/-- No operation of this stretch leaves its result open. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers this stretch writes, in order. -/
abbrev writesB : List (Ref sig .tc) :=
  [main_v1, main_v2, main_cst, main_call1_v0, main_v3, main_call2_cst, main_call2_v0, main_call2_cst_0, main_call2_v1, main_call2_v2, main_call2_v3, main_call2_v4, main_call2_v5, main_call2_v6, main_call2_cst_1, main_call2_v7, main_call2_v8, main_call2_v9, main_call2_v10, main_v4]

set_option maxHeartbeats 40000000 in
/-- These are the buffers the stretch writes. -/
theorem opsB_writes : (opsB : List (HloOp τ sig (Elt F))).map HloOp.writes = writesB.map fun w => {Proc.devRef (τ := τ) .tc w} := rfl

/-- A buffer the stretch does not write keeps its contents. -/
theorem afterB_of {r : Ref sig .tc} (hr : r ∉ writesB) (V : Valuation τ sig (Elt F)) :
    StableHlo.after opsB V (Proc.devRef .tc r) = V (Proc.devRef .tc r) :=
  StableHlo.after_unwritten writesB opsB_writes hr V

set_option maxHeartbeats 40000000 in
/-- No operation of this stretch leaves its result open. -/
theorem opsC_fresh : (opsC : List (HloOp τ sig (Elt F))).Forall fun op => op.fresh = ∅ :=
  ⟨rfl, rfl, rfl, rfl, rfl, rfl, rfl, rfl, rfl, rfl, rfl, rfl, rfl, rfl, rfl⟩

/-- The buffers this stretch writes, in order. -/
abbrev writesC : List (Ref sig .tc) :=
  [main_cst_0, main_v5, main_v6, main_c, main_c_1, main_v7, main_v8, main_v9, main_c_2, main_v10, main_v11, main_v12, main_v13, main_cst_3, main_cst_4]

set_option maxHeartbeats 40000000 in
/-- These are the buffers the stretch writes. -/
theorem opsC_writes : (opsC : List (HloOp τ sig (Elt F))).map HloOp.writes = writesC.map fun w => {Proc.devRef (τ := τ) .tc w} := rfl

/-- A buffer the stretch does not write keeps its contents. -/
theorem afterC_of {r : Ref sig .tc} (hr : r ∉ writesC) (V : Valuation τ sig (Elt F)) :
    StableHlo.after opsC V (Proc.devRef .tc r) = V (Proc.devRef .tc r) :=
  StableHlo.after_unwritten writesC opsC_writes hr V

set_option maxHeartbeats 40000000 in
/-- No operation of this stretch leaves its result open. -/
theorem opsU_fresh : (opsU : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers this stretch writes, in order. -/
abbrev writesU : List (Ref sig .tc) :=
  [main_call3_v0, main_call3_v1, main_call3_v2, main_call3_v3, main_call3_v4, main_call3_v5, main_call3_v6, main_call3_v7, main_call3_v8, main_call3_v9, main_call3_c, main_call3_v10, main_call3_v11, main_call3_c_0, main_call3_v12, main_call3_v13, main_call3_v14, main_call3_c_1, main_call3_v15, main_call3_v16, main_call3_v17, main_call3_v18, main_call3_call0_v0, main_call3_call0_c, main_call3_call0_v1, main_call3_call0_v2, main_call3_call0_v3, main_call3_call0_v4, main_call3_call0_v5, main_call3_call0_v6, main_call3_call0_c_0, main_call3_call0_v7, main_call3_call0_v8, main_call3_call0_c_1, main_call3_call0_v9, main_call3_call0_v10, main_call3_call0_v11, main_call3_call0_v12, main_call3_call0_v13, main_call3_call0_c_2, main_call3_call0_v14, main_call3_call0_v15, main_call3_call0_c_3, main_call3_call0_v16, main_call3_call0_v17, main_call3_call0_v18, main_call3_call0_v19, main_call3_call0_v20, main_call3_call0_c_4, main_call3_call0_v21, main_call3_call0_v22, main_call3_call0_c_5, main_call3_call0_v23, main_call3_call0_v24, main_call3_call0_v25, main_call3_call0_v26, main_call3_call0_v27, main_call3_call0_c_6, main_call3_call0_v28, main_call3_call0_v29, main_call3_call0_c_7, main_call3_call0_v30, main_call3_call0_v31, main_call3_call0_v32, main_call3_call0_v33, main_call3_call0_v34, main_call3_call0_v35, main_call3_call0_v36, main_call3_call0_v37, main_call3_call0_c_8, main_call3_call0_v38, main_call3_call0_v39, main_call3_call0_v40, main_call3_call0_c_9, main_call3_call0_v41, main_call3_call0_v42, main_call3_call0_c_10, main_call3_call0_v43, main_call3_call0_v44, main_call3_call0_v45, main_call3_call0_v46, main_call3_call0_v47, main_call3_call0_c_11, main_call3_call0_v48, main_call3_call0_v49, main_call3_call0_c_12, main_call3_call0_v50, main_call3_call0_v51, main_call3_call0_v52, main_call3_call0_v53, main_call3_call0_v54, main_call3_call0_c_13, main_call3_call0_v55, main_call3_call0_v56, main_call3_call0_c_14, main_call3_call0_v57, main_call3_call0_v58, main_call3_call0_v59, main_call3_call0_v60, main_call3_call0_v61, main_call3_call0_c_15, main_call3_call0_v62, main_call3_call0_v63, main_call3_call0_c_16, main_call3_call0_v64, main_call3_call0_v65, main_call3_call0_v66, main_call3_call0_v67, main_call3_call0_v68, main_call3_call0_v69, main_call3_call0_v70, main_call3_call0_v71, main_call3_call0_c_17, main_call3_call0_v72, main_call3_call0_v73, main_call3_call0_v74, main_call3_call0_c_18, main_call3_call0_v75, main_call3_call0_v76, main_call3_call0_c_19, main_call3_call0_v77, main_call3_call0_v78, main_call3_call0_v79, main_call3_call0_v80, main_call3_call0_v81, main_call3_call0_c_20, main_call3_call0_v82, main_call3_call0_v83, main_call3_call0_c_21, main_call3_call0_v84, main_call3_call0_v85, main_call3_call0_v86, main_call3_call0_v87, main_call3_call0_v88, main_call3_call0_c_22, main_call3_call0_v89, main_call3_call0_v90, main_call3_call0_c_23, main_call3_call0_v91, main_call3_call0_v92, main_call3_call0_v93, main_call3_call0_v94, main_call3_call0_v95, main_call3_call0_c_24, main_call3_call0_v96, main_call3_call0_v97, main_call3_call0_c_25, main_call3_call0_v98, main_call3_call0_v99, main_call3_call0_v100, main_call3_call0_v101, main_call3_call0_v102, main_call3_call0_v103, main_call3_call0_v104, main_call3_call0_v105, main_call3_call0_c_26, main_call3_call0_v106, main_call3_call0_v107, main_call3_call0_v108, main_call3_call0_c_27, main_call3_call0_v109, main_call3_call0_v110, main_call3_call0_c_28, main_call3_call0_v111, main_call3_call0_v112, main_call3_call0_v113, main_call3_call0_v114, main_call3_call0_v115, main_call3_call0_c_29, main_call3_call0_v116, main_call3_call0_v117, main_call3_call0_c_30, main_call3_call0_v118, main_call3_call0_v119, main_call3_call0_v120, main_call3_call0_v121, main_call3_call0_v122, main_call3_call0_c_31, main_call3_call0_v123, main_call3_call0_v124, main_call3_call0_c_32, main_call3_call0_v125, main_call3_call0_v126, main_call3_call0_v127, main_call3_call0_v128, main_call3_call0_v129, main_call3_call0_c_33, main_call3_call0_v130, main_call3_call0_v131, main_call3_call0_c_34, main_call3_call0_v132, main_call3_call0_v133, main_call3_call0_v134, main_call3_call0_v135, main_call3_call0_v136, main_call3_call0_v137, main_call3_call0_v138, main_call3_call0_v139, main_call3_call0_c_35, main_call3_call0_v140, main_call3_call0_v141, main_call3_call0_v142, main_call3_call0_c_36, main_call3_call0_v143, main_call3_call0_v144, main_call3_call0_c_37, main_call3_call0_v145, main_call3_call0_v146, main_call3_call0_v147, main_call3_call0_v148, main_call3_call0_v149, main_call3_call0_c_38, main_call3_call0_v150, main_call3_call0_v151, main_call3_call0_c_39, main_call3_call0_v152, main_call3_call0_v153, main_call3_call0_v154, main_call3_call0_v155, main_call3_call0_v156, main_call3_call0_c_40, main_call3_call0_v157, main_call3_call0_v158, main_call3_call0_c_41, main_call3_call0_v159, main_call3_call0_v160, main_call3_call0_v161, main_call3_call0_v162, main_call3_call0_v163, main_call3_call0_c_42, main_call3_call0_v164, main_call3_call0_v165, main_call3_call0_c_43, main_call3_call0_v166, main_call3_call0_v167, main_call3_call0_v168, main_call3_call0_v169, main_call3_call0_v170, main_call3_v19_0, main_call3_call0_v172, main_call3_call0_v173, main_call3_call0_c_44, main_call3_call0_v174, main_call3_v19_1, main_call3_v20, main_call3_c_2, main_call3_v21, main_call3_v22, main_call3_c_3, main_call3_v23, main_call3_v24, main_call3_v25, main_call3_cst, main_call3_v26, main_call3_v27, main_call3_v28, main_call3_v29, main_call3_v30, main_call3_v31, main_call3_v32, main_call3_v33, main_v14]

set_option maxHeartbeats 40000000 in
/-- These are the buffers the stretch writes. -/
theorem opsU_writes : (opsU : List (HloOp τ sig (Elt F))).map HloOp.writes = writesU.map fun w => {Proc.devRef (τ := τ) .tc w} := rfl

/-- A buffer the stretch does not write keeps its contents. -/
theorem afterU_of {r : Ref sig .tc} (hr : r ∉ writesU) (V : Valuation τ sig (Elt F)) :
    StableHlo.after opsU V (Proc.devRef .tc r) = V (Proc.devRef .tc r) :=
  StableHlo.after_unwritten writesU opsU_writes hr V

set_option maxHeartbeats 40000000 in
/-- No operation of this stretch leaves its result open. -/
theorem opsT_fresh : (opsT : List (HloOp τ sig (Elt F))).Forall fun op => op.fresh = ∅ :=
  ⟨rfl, rfl, rfl, rfl, rfl, rfl, rfl, rfl, rfl, rfl⟩

/-- The buffers this stretch writes, in order. -/
abbrev writesT : List (Ref sig .tc) :=
  [main_v15, main_v16, main_v17, main_v18, main_v19, main_call4_v0, main_call4_cst, main_call4_c, main_call4_v1_0, main_v20]

set_option maxHeartbeats 40000000 in
/-- These are the buffers the stretch writes. -/
theorem opsT_writes : (opsT : List (HloOp τ sig (Elt F))).map HloOp.writes = writesT.map fun w => {Proc.devRef (τ := τ) .tc w} := rfl

/-- A buffer the stretch does not write keeps its contents. -/
theorem afterT_of {r : Ref sig .tc} (hr : r ∉ writesT) (V : Valuation τ sig (Elt F)) :
    StableHlo.after opsT V (Proc.devRef .tc r) = V (Proc.devRef .tc r) :=
  StableHlo.after_unwritten writesT opsT_writes hr V

/-- Every operation determines its result. -/
theorem ops_fresh : ∀ op ∈ (ops : List (HloOp τ sig (Elt F))), op.fresh = ∅ := by
  intro op h
  rcases List.mem_append.1 h with h | h
  · exact List.forall_iff_forall_mem.1 (opsA_fresh (F := F)) op h
  rcases List.mem_append.1 h with h | h
  · exact List.forall_iff_forall_mem.1 (opsB_fresh (F := F)) op h
  rcases List.mem_append.1 h with h | h
  · exact List.forall_iff_forall_mem.1 (opsC_fresh (F := F)) op h
  rcases List.mem_append.1 h with h | h
  · exact List.forall_iff_forall_mem.1 (opsU_fresh (F := F)) op h
  · exact List.forall_iff_forall_mem.1 (opsT_fresh (F := F)) op h

variable (m : (ℓ : Loc nD τ sig) → Buf (Elt F) ℓ)

/-- The buffers before the first operation, after the embedding lookup, after the log-softmax, after the temperature
    division, after the uniform samples, and at the end. -/
abbrev W0 (c : Dev nD) : Valuation τ sig (Elt F) := StableHlo.launchContents m c
abbrev WA (c : Dev nD) : Valuation τ sig (Elt F) := StableHlo.after opsA (W0 m c)
abbrev WB (c : Dev nD) : Valuation τ sig (Elt F) := StableHlo.after opsB (WA m c)
abbrev WC (c : Dev nD) : Valuation τ sig (Elt F) := StableHlo.after opsC (WB m c)
abbrev WU (c : Dev nD) : Valuation τ sig (Elt F) := StableHlo.after opsU (WC m c)
abbrev WT (c : Dev nD) : Valuation τ sig (Elt F) := StableHlo.after opsT (WU m c)

/-- The whole fold, stretch by stretch. -/
theorem after_ops (c : Dev nD) : StableHlo.after ops (W0 m c) = WT m c := by
  rw [ops, StableHlo.after_append, StableHlo.after_append, StableHlo.after_append, StableHlo.after_append]

/-- From any memory with zero counters the reference terminates, with every buffer at the fold of its operations and
    every counter zero again. -/
theorem run (ρ : Dev nD → PrngReg) :
    θ_run defs (onTc (τ := τ) (main (F := F))) ⟨m, fun _ => 0, ρ⟩ fun r =>
      (∀ (c : Dev nD) (b : Ref sig .tc), r.2.mem ((c.tc : Thread nD τ).loc b) = WT m c (Proc.devRef .tc b)) ∧ r.2.sem = fun _ => 0 := by
  have h := StableHlo.run_seq scopedRefs_eq scopedSems_eq (defs (F := F)) main (fun _ => ops) main_eq (fun _ => ops_sub) m ρ (fun _ => ops_fresh)
  simp only [after_ops] at h
  exact (θ_run defs _ _).mono (fun r hr => ⟨hr, sem_eq_zero_of_no_sems (by decide +kernel) r.2⟩) h

/-- A buffer none of the stretches writes ends as it started. -/
theorem kept (c : Dev nD) {r : Ref sig .tc} (hA : r ∉ writesA) (hB : r ∉ writesB) (hC : r ∉ writesC) (hU : r ∉ writesU) (hT : r ∉ writesT) :
    WT m c (Proc.devRef .tc r) = m ((c.tc : Thread nD τ).loc r) := by
  rw [WT, afterT_of hT, WU, afterU_of hU, WC, afterC_of hC, WB, afterB_of hB, WA, afterA_of hA]

/-- The reference runs, leaves its arguments as they were, and every counter ends at zero. -/
theorem frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0).trans (kept m c (by decide +kernel) (by decide +kernel) (by decide +kernel) (by decide +kernel) (by decide +kernel)),
     (h.1 c main_arg1).trans (kept m c (by decide +kernel) (by decide +kernel) (by decide +kernel) (by decide +kernel) (by decide +kernel)),
     (h.1 c main_arg2).trans (kept m c (by decide +kernel) (by decide +kernel) (by decide +kernel) (by decide +kernel) (by decide +kernel)),
     (h.1 c main_arg3).trans (kept m c (by decide +kernel) (by decide +kernel) (by decide +kernel) (by decide +kernel) (by decide +kernel)),
     (h.1 c main_arg4).trans (kept m c (by decide +kernel) (by decide +kernel) (by decide +kernel) (by decide +kernel) (by decide +kernel))⟩, h.2⟩)
    (run m g)

end Cert.ReferenceIdeal.Hand

end

end
-- ==== Proof.Gumbel.lean ====
module

public import proofs.«01_k».proof.Proof.Ref.Ops
public import proofs.«01_k».proof.Proof.Gen.KernelIdeal.Launch
public import Idealize.ShloMosaic.Lib.StableHlo.RunRead
public import Idealize.ShloMosaic.Lib.Pipeline.Frame
public import Idealize.ShloMosaic.Lib.Pipeline.Regions

@[expose] public section

set_option Elab.async false
set_option maxRecDepth 65536

noncomputable section

/-! # The kernel's host program and the reference draw the same uniform samples -/

namespace Cert.Hand

open Idealize.ShloMosaic Idealize.SL.Sem

variable {F : FTy → Type} [FloatOps F]

set_option maxHeartbeats 40000000 in
/-- From the same key and the same bounds the two programs' sampling stretches leave the same samples. -/
theorem uniform_eq (VK : Valuation Cert.KernelIdeal.τ Cert.KernelIdeal.sig (Elt F)) (VR : Valuation Cert.ReferenceIdeal.τ Cert.ReferenceIdeal.sig (Elt F))
    (hk : (VK (Proc.devRef .tc Cert.KernelIdeal.main_v7) : (⟨Cert.KernelIdeal.S2, .i32⟩ : BufTy).Contents (Elt F)) = VR (Proc.devRef .tc Cert.ReferenceIdeal.main_v13))
    (h1 : (VK (Proc.devRef .tc Cert.KernelIdeal.main_cst) : (⟨Cert.KernelIdeal.S_, .f32⟩ : BufTy).Contents (Elt F)) = VR (Proc.devRef .tc Cert.ReferenceIdeal.main_cst_3))
    (h2 : (VK (Proc.devRef .tc Cert.KernelIdeal.main_cst_2) : (⟨Cert.KernelIdeal.S_, .f32⟩ : BufTy).Contents (Elt F)) = VR (Proc.devRef .tc Cert.ReferenceIdeal.main_cst_4)) :
    (StableHlo.after Cert.KernelIdeal.Gen.hostOps0_1 VK (Proc.devRef .tc Cert.KernelIdeal.main_v8) : (⟨Cert.KernelIdeal.S1024x100000, .f32⟩ : BufTy).Contents (Elt F))
      = StableHlo.after Cert.ReferenceIdeal.Hand.opsU VR (Proc.devRef .tc Cert.ReferenceIdeal.main_v14) := by
  after_reads_simp [hk, h1, h2]
  chain_rfl

end Cert.Hand
end
end
-- ==== Proof.Math.lean ====
module

public import Idealize.ShloMosaic.PureOps.Ideal.Laws
public import Mathlib.Data.Fintype.Lattice

@[expose] public section

noncomputable section

/-! # The mathematics: the running softmax and the running arg-max, block by block -/

namespace Cert.Hand

open Idealize.ShloMosaic

/-- `fold max` from −∞ is the supremum. -/
theorem fold_max_eq_sup {ι : Type} (s : Finset ι) (f : ι → EReal) : s.fold max ⊥ f = s.sup f := rfl

/-- `fold min` from +∞ is the infimum. -/
theorem fold_min_eq_inf {ι : Type} (s : Finset ι) (f : ι → EReal) : s.fold min ⊤ f = s.inf f := rfl

/-- The supremum of a prefix and one more block is the larger of the two suprema. -/
theorem sup_block (A : ℕ → EReal) (K B : ℕ) :
    (Finset.range (K + B)).sup A = max ((Finset.range K).sup A) ((Finset.univ : Finset (Fin B)).sup fun l => A (K + l.val)) := by
  refine eq_of_forall_ge_iff fun c => ?_
  rw [max_le_iff, Finset.sup_le_iff, Finset.sup_le_iff, Finset.sup_le_iff]
  constructor
  · intro h
    exact ⟨fun j hj => h j (Finset.mem_range.2 (by have := Finset.mem_range.1 hj; omega)),
      fun l _ => h _ (Finset.mem_range.2 (by have := l.isLt; omega))⟩
  · rintro ⟨h1, h2⟩ j hj
    have hj := Finset.mem_range.1 hj
    by_cases hK : j < K
    · exact h1 j (Finset.mem_range.2 hK)
    · have := h2 ⟨j - K, by omega⟩ (Finset.mem_univ _)
      simpa [Nat.add_sub_cancel' (Nat.le_of_not_lt hK)] using this

/-- The sum over a prefix and one more block. -/
theorem sum_block (f : ℕ → EReal) (K B : ℕ) :
    ∑ j ∈ Finset.range (K + B), f j = ∑ j ∈ Finset.range K, f j + ∑ l : Fin B, f (K + l.val) := by
  rw [Finset.sum_range_add, Finset.sum_range fun l => f (K + l)]

/-- A sum of nonnegative extended reals times anything is the sum of the products. -/
theorem sum_mul_of_nonneg (s : Finset ℕ) (f : ℕ → EReal) (c : EReal) (h : ∀ j, 0 ≤ f j) : (∑ j ∈ s, f j) * c = ∑ j ∈ s, f j * c := by
  induction s using Finset.induction_on with
  | empty => simp
  | insert a s ha ih =>
    rw [Finset.sum_insert ha, Finset.sum_insert ha, EReal.right_distrib_of_nonneg (h a) (Finset.sum_nonneg fun j _ => h j), ih]

/-- The exponential is nonnegative. -/
theorem exp_nonneg (x : EReal) : 0 ≤ Ideal.exp x := by
  induction x with
  | bot => simp
  | top => simp
  | coe r => rw [Ideal.exp_coe]; exact_mod_cast (Real.exp_pos r).le

/-- A sequence with no +∞ whose first value is not −∞ has a real supremum over every nonempty prefix. -/
theorem sup_real (A : ℕ → EReal) (hT : ∀ j, A j ≠ ⊤) (h0 : A 0 ≠ ⊥) (K : ℕ) (hK : 0 < K) : ∃ μ : ℝ, (Finset.range K).sup A = μ := by
  obtain ⟨i, _, hi⟩ := Finset.exists_mem_eq_sup (Finset.range K) ⟨0, Finset.mem_range.2 hK⟩ A
  have h := Finset.le_sup (f := A) (Finset.mem_range.2 hK)
  rw [hi] at h ⊢
  have hb : A i ≠ ⊥ := fun e => h0 (le_bot_iff.1 (e ▸ h))
  exact ⟨(A i).toReal, (EReal.coe_toReal (hT i) hb).symm⟩

/-- The running maximum and the running sum of exponentials over the first `K` columns. -/
structure Stats (A : ℕ → EReal) (K : ℕ) (m s : EReal) : Prop where
  hm : m = (Finset.range K).sup A
  hs : s = ∑ j ∈ Finset.range K, Ideal.exp (A j - m)

/-- Before any column the maximum is −∞ and the sum is zero. -/
theorem Stats.init (A : ℕ → EReal) : Stats A 0 ⊥ 0 := ⟨by simp, by simp⟩

/-- Rescaling a term of the sum from one maximum to another. -/
theorem exp_rescale (x : EReal) (hx : x ≠ ⊤) (μ ν : ℝ) : Ideal.exp (x - μ) * Ideal.exp ((μ : EReal) - ν) = Ideal.exp (x - ν) := by
  induction x with
  | top => exact absurd rfl hx
  | bot => rw [EReal.bot_sub, EReal.bot_sub, Ideal.exp_bot, zero_mul]
  | coe r =>
    rw [← EReal.coe_sub, ← EReal.coe_sub, ← EReal.coe_sub, Ideal.exp_coe, Ideal.exp_coe, Ideal.exp_coe, ← EReal.coe_mul, ← Real.exp_add]
    congr 2
    ring

/-- One block: the maximum is raised, the old sum rescaled, the block's terms added. -/
theorem Stats.step {A : ℕ → EReal} (hT : ∀ j, A j ≠ ⊤) (h0 : A 0 ≠ ⊥) {K B : ℕ} (hB : 0 < B) {m s : EReal} (h : Stats A K m s) :
    Stats A (K + B) (max m (Finset.univ.fold max ⊥ fun l : Fin B => A (K + l.val)))
      (s * Ideal.exp (m - max m (Finset.univ.fold max ⊥ fun l : Fin B => A (K + l.val)))
        + ∑ l : Fin B, Ideal.exp (A (K + l.val) - max m (Finset.univ.fold max ⊥ fun l : Fin B => A (K + l.val)))) := by
  have hm' : max m (Finset.univ.fold max ⊥ fun l : Fin B => A (K + l.val)) = (Finset.range (K + B)).sup A := by
    rw [fold_max_eq_sup, sup_block, h.hm]
  rw [hm']
  refine ⟨rfl, ?_⟩
  obtain ⟨ν, hν⟩ := sup_real A hT h0 (K + B) (by omega)
  rw [hν, sum_block]
  congr 1
  rcases Nat.eq_zero_or_pos K with hK | hK
  · subst hK
    rw [h.hs]
    simp
  · obtain ⟨μ, hμ⟩ := sup_real A hT h0 K hK
    rw [h.hs, h.hm, hμ, sum_mul_of_nonneg _ _ _ fun j => exp_nonneg _]
    exact Finset.sum_congr rfl fun j _ => exp_rescale _ (hT j) μ ν

/-- Past the last column every value is −∞, so the running pair is the whole row's. -/
theorem Stats.final {A : ℕ → EReal} {N E : ℕ} (hN : 0 < N) (hT : ∀ j, A j ≠ ⊤) (h0 : A 0 ≠ ⊥) (hE : ∀ j, N ≤ j → A j = ⊥) {m s : EReal} (h : Stats A (N + E) m s) :
    m = (Finset.univ.fold max ⊥ fun j : Fin N => A j.val) ∧ s = ∑ j : Fin N, Ideal.exp (A j.val - m) := by
  have h1 : m = (Finset.univ.fold max ⊥ fun j : Fin N => A j.val) := by
    rw [h.hm, sup_block, fold_max_eq_sup, show (Finset.univ.sup fun l : Fin E => A (N + l.val)) = ⊥ from ?_]
    · rw [max_eq_left bot_le]
      have := sup_block A 0 N
      simpa using this
    · exact le_bot_iff.1 (Finset.sup_le fun l _ => (hE _ (Nat.le_add_right _ _)).le)
  refine ⟨h1, ?_⟩
  obtain ⟨μ, hμ⟩ := sup_real A hT h0 (N + E) (by omega)
  rw [h.hs, sum_block, h.hm, hμ, Finset.sum_range fun j => Ideal.exp (A j - ↑μ)]
  rw [show (∑ l : Fin E, Ideal.exp (A (N + l.val) - (μ : EReal))) = 0 from Finset.sum_eq_zero fun l _ => ?_, add_zero]
  rw [hE _ (Nat.le_add_right _ _), EReal.bot_sub, Ideal.exp_bot]

/-- A finite sum of reals, as extended reals. -/
theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A row of reals has a real maximum, and the logarithm of its sum of exponentials is real. -/
theorem row_real {N : ℕ} (hN : 0 < N) (a : Fin N → ℝ) :
    ∃ M S : ℝ, (Finset.univ.fold max ⊥ fun j : Fin N => ((a j : ℝ) : EReal)) = M
      ∧ Ideal.log (∑ j : Fin N, Ideal.exp (((a j : ℝ) : EReal) - M)) = S := by
  haveI : Nonempty (Fin N) := ⟨⟨0, hN⟩⟩
  obtain ⟨i, _, hi⟩ := Finset.exists_mem_eq_sup (Finset.univ : Finset (Fin N)) Finset.univ_nonempty (fun j => ((a j : ℝ) : EReal))
  refine ⟨a i, Real.log (∑ j : Fin N, Real.exp (a j - a i)), hi, ?_⟩
  have : (∑ j : Fin N, Ideal.exp (((a j : ℝ) : EReal) - (a i : ℝ))) = ((∑ j : Fin N, Real.exp (a j - a i) : ℝ) : EReal) := by
    rw [← coe_sum]
    exact Finset.sum_congr rfl fun j _ => by rw [← EReal.coe_sub, Ideal.exp_coe]
  rw [this, Ideal.log_coe, if_neg]
  exact not_le.2 (Finset.sum_pos (fun j _ => Real.exp_pos _) Finset.univ_nonempty)

/-! ## The arg-max -/

/-- `κ` is the first of the `N` columns attaining the maximum. -/
structure First (Z : ℕ → EReal) (N κ : ℕ) : Prop where
  lt : κ < N
  le : ∀ j, j < N → Z j ≤ Z κ
  before : ∀ j, j < κ → Z j < Z κ

/-- There is one such column. -/
theorem First.unique {Z : ℕ → EReal} {N κ κ' : ℕ} (h : First Z N κ) (h' : First Z N κ') : κ = κ' := by
  rcases lt_trichotomy κ κ' with hl | hl | hl
  · exact absurd (h'.before κ hl) (not_lt.2 (h.le κ' h'.lt))
  · exact hl
  · exact absurd (h.before κ' hl) (not_lt.2 (h'.le κ h.lt))

/-- Adding a real to every value moves no arg-max. -/
theorem First.shift {Z Y : ℕ → EReal} {N κ : ℕ} (c : ℝ) (hY : ∀ j, j < N → Y j = Z j + c) (h : First Y N κ) : First Z N κ := by
  have hlt := h.lt
  have hc : ∀ x : EReal, x + c + ((-c : ℝ) : EReal) = x := fun x => by
    rw [add_assoc, ← EReal.coe_add, add_neg_cancel, EReal.coe_zero, add_zero]
  refine ⟨h.lt, fun j hj => ?_, fun j hj => ?_⟩
  · have := h.le j hj
    rw [hY j hj, hY κ hlt] at this
    have := add_le_add this (le_refl ((-c : ℝ) : EReal))
    rwa [hc, hc] at this
  · have := h.before j hj
    rw [hY j (hj.trans hlt), hY κ hlt] at this
    exact not_le.1 fun hle => absurd this (not_lt.2 (add_le_add hle (le_refl (c : EReal))))

/-- The best value over the first `K` columns and the first column attaining it. -/
structure Best (Z : ℕ → EReal) (K : ℕ) (b : EReal) (κ : ℕ) : Prop where
  hb : b = (Finset.range K).sup Z
  before : ∀ j, j < κ → Z j < b
  here : (κ < K ∧ Z κ = b) ∨ (κ = 0 ∧ b = ⊥)

/-- Before any column the best is −∞, at column zero. -/
theorem Best.init (Z : ℕ → EReal) : Best Z 0 ⊥ 0 := ⟨by simp, fun j hj => absurd hj (Nat.not_lt_zero j), .inr ⟨rfl, rfl⟩⟩

/-- The smallest index of a block attaining the block's maximum, found as a minimum over floats. -/
theorem first_in_block {B : ℕ} (f : Fin B → EReal) (hB : 0 < B) (K : ℕ) (big : ℝ) (hbig : ((K + B : ℕ) : ℝ) ≤ big) :
    ∃ l : Fin B, f l = Finset.univ.sup f ∧ (∀ l', l' < l → f l' < Finset.univ.sup f) ∧
      (Finset.univ.fold min ⊤ fun l : Fin B => if f l = Finset.univ.sup f then (((K + l.val : ℕ) : ℝ) : EReal) else (big : EReal)) = (((K + l.val : ℕ) : ℝ) : EReal) := by
  haveI : Nonempty (Fin B) := ⟨⟨0, hB⟩⟩
  obtain ⟨i, _, hi⟩ := Finset.exists_mem_eq_sup (Finset.univ : Finset (Fin B)) Finset.univ_nonempty f
  let T : Finset (Fin B) := Finset.univ.filter fun l => f l = Finset.univ.sup f
  have hT : T.Nonempty := ⟨i, Finset.mem_filter.2 ⟨Finset.mem_univ _, hi.symm⟩⟩
  have hl := (Finset.mem_filter.1 (T.min'_mem hT)).2
  have hmin : ∀ l', f l' = Finset.univ.sup f → T.min' hT ≤ l' := fun l' h => T.min'_le l' (Finset.mem_filter.2 ⟨Finset.mem_univ _, h⟩)
  refine ⟨T.min' hT, hl, fun l' h' => lt_of_le_of_ne (Finset.le_sup (f := f) (Finset.mem_univ l')) fun e => absurd h' (not_lt.2 (hmin l' e)), ?_⟩
  rw [fold_min_eq_inf]
  refine le_antisymm ?_ (Finset.le_inf fun l' _ => ?_)
  · refine (Finset.inf_le (Finset.mem_univ (T.min' hT))).trans ?_
    rw [if_pos hl]
  · split
    · rename_i h
      have := hmin l' h
      rw [EReal.coe_le_coe_iff]
      exact_mod_cast Nat.add_le_add_left this K
    · rw [EReal.coe_le_coe_iff]
      refine le_trans ?_ hbig
      exact_mod_cast Nat.add_le_add_left (T.min' hT).isLt.le K

/-- One block: when its maximum is strictly larger it replaces the best, at the block's first column attaining it. -/
theorem Best.step {Z : ℕ → EReal} {K B : ℕ} (hB : 0 < B) (big : ℝ) (hbig : ((K + B : ℕ) : ℝ) ≤ big) {b : EReal} {κ : ℕ} (h : Best Z K b κ)
    (M : EReal) (hM : M = Finset.univ.fold max ⊥ fun l : Fin B => Z (K + l.val)) :
    ∃ κ' : ℕ, (if b < M then Finset.univ.fold min ⊤ fun l : Fin B => if Z (K + l.val) = M then (((K + l.val : ℕ) : ℝ) : EReal) else (big : EReal)
        else ((κ : ℝ) : EReal)) = ((κ' : ℝ) : EReal) ∧ Best Z (K + B) (if b < M then M else b) κ' := by
  rw [fold_max_eq_sup] at hM
  have hsup : (Finset.range (K + B)).sup Z = max b M := by rw [sup_block, h.hb, hM]
  by_cases hlt : b < M
  · rw [if_pos hlt, if_pos hlt]
    obtain ⟨l, h1, h2, h3⟩ := first_in_block (fun l : Fin B => Z (K + l.val)) hB K big hbig
    rw [← hM] at h1 h2 h3
    refine ⟨K + l.val, h3, by rw [hsup, max_eq_right hlt.le], fun j hj => ?_, .inl ⟨Nat.add_lt_add_left l.isLt K, h1⟩⟩
    by_cases hK : j < K
    · refine lt_of_le_of_lt ?_ hlt
      rw [h.hb]
      exact Finset.le_sup (f := Z) (Finset.mem_range.2 hK)
    · have := h2 ⟨j - K, by have := l.isLt; omega⟩ (Fin.lt_def.2 (by show j - K < l.val; omega))
      simpa [Nat.add_sub_cancel' (Nat.le_of_not_lt hK)] using this
  · rw [if_neg hlt, if_neg hlt]
    refine ⟨κ, rfl, by rw [hsup, max_eq_left (not_lt.1 hlt)], h.before, ?_⟩
    rcases h.here with ⟨h1, h2⟩ | h1
    · exact .inl ⟨by omega, h2⟩
    · exact .inr h1

/-- Past the last column every value is −∞, so the best so far is the whole row's arg-max. -/
theorem Best.final {Z : ℕ → EReal} {N K : ℕ} (hN : 0 < N) (hNK : N ≤ K) (hE : ∀ j, N ≤ j → Z j = ⊥) {b : EReal} {κ : ℕ} (h : Best Z K b κ) : First Z N κ := by
  have hle : ∀ j, j < N → Z j ≤ b := fun j hj => by
    rw [h.hb]
    exact Finset.le_sup (f := Z) (Finset.mem_range.2 (by omega))
  have hκ : κ < N ∧ Z κ = b := by
    by_cases hb : b = ⊥
    · have h0 : κ = 0 := by
        by_contra hne
        exact not_lt_bot (hb ▸ h.before 0 (Nat.pos_of_ne_zero hne))
      subst h0
      exact ⟨hN, le_antisymm (hle 0 hN) (hb ▸ bot_le)⟩
    · rcases h.here with ⟨_, h2⟩ | ⟨_, h2⟩
      · refine ⟨?_, h2⟩
        by_contra hge
        exact hb (h2 ▸ hE κ (not_lt.1 hge))
      · exact absurd h2 hb
  exact ⟨hκ.1, fun j hj => hκ.2 ▸ hle j hj, fun j hj => hκ.2 ▸ h.before j hj⟩

/-- The reference's reducer on two (value, column) pairs: the larger value, and of equal values the smaller column. -/
def pick (a b : EReal × BitVec 32) : EReal × BitVec 32 :=
  if b.1 < a.1 then a else if a.1 = b.1 then (b.1, if a.2.slt b.2 then a.2 else b.2) else b

/-- Small columns compare as their patterns do. -/
theorem slt_ofNat {a b : ℕ} (ha : a < 2 ^ 31) (hb : b < 2 ^ 31) : (BitVec.ofNat 32 a).slt (BitVec.ofNat 32 b) = decide (a < b) := by
  rw [BitVec.slt_eq_decide, BitVec.toInt_eq_toNat_of_lt (by simp [BitVec.toNat_ofNat]; omega), BitVec.toInt_eq_toNat_of_lt (by simp [BitVec.toNat_ofNat]; omega)]
  simp only [BitVec.toNat_ofNat, decide_eq_decide]
  omega

/-- Folding the reducer over a list of columns that holds every column gives the first column attaining the maximum. -/
theorem fold_pick (Z : ℕ → EReal) (N : ℕ) (hN : 0 < N) (hN' : N < 2 ^ 31) (L : List ℕ) (hL : ∀ j ∈ L, j < N) (hall : ∀ j, j < N → j ∈ L) :
    ∃ κ, First Z N κ ∧ (L.foldl (fun r j => pick r (Z j, BitVec.ofNat 32 j)) (⊥, 0#32)).2 = BitVec.ofNat 32 κ := by
  have key : ∀ L : List ℕ, (∀ j ∈ L, j < N) → ∃ (v : EReal) (κ : ℕ), κ < N ∧ L.foldl (fun r j => pick r (Z j, BitVec.ofNat 32 j)) (⊥, 0#32) = (v, BitVec.ofNat 32 κ)
      ∧ (∀ j ∈ L, Z j ≤ v) ∧ (∀ j ∈ L, Z j = v → κ ≤ j) ∧ (Z κ = v ∨ (κ = 0 ∧ v = ⊥)) := by
    intro L
    induction L using List.reverseRecOn with
    | nil => intro _; exact ⟨⊥, 0, hN, rfl, by simp, by simp, .inr ⟨rfl, rfl⟩⟩
    | append_singleton L j ih =>
      intro hL
      obtain ⟨v, κ, hκ, he, h1, h2, h3⟩ := ih fun i hi => hL i (List.mem_append_left _ hi)
      have hj : j < N := hL j (by simp)
      rw [List.foldl_append, he]
      simp only [List.foldl_cons, List.foldl_nil, pick]
      by_cases hA : Z j < v
      · rw [if_pos hA]
        refine ⟨v, κ, hκ, rfl, ?_, ?_, h3⟩
        · intro i hi
          rcases List.mem_append.1 hi with hi | hi
          · exact h1 i hi
          · rw [List.mem_singleton.1 hi]; exact hA.le
        · intro i hi hiv
          rcases List.mem_append.1 hi with hi | hi
          · exact h2 i hi hiv
          · rw [List.mem_singleton.1 hi] at hiv; exact absurd hiv hA.ne
      · rw [if_neg hA]
        by_cases hB : v = Z j
        · rw [if_pos hB, slt_ofNat (by omega) (by omega)]
          by_cases hC : κ < j
          · rw [decide_eq_true hC, if_pos rfl]
            refine ⟨Z j, κ, hκ, rfl, ?_, ?_, hB ▸ h3⟩
            · intro i hi
              rcases List.mem_append.1 hi with hi | hi
              · exact hB ▸ h1 i hi
              · rw [List.mem_singleton.1 hi]
            · intro i hi hiv
              rcases List.mem_append.1 hi with hi | hi
              · exact h2 i hi (hiv.trans hB.symm)
              · rw [List.mem_singleton.1 hi]; exact hC.le
          · rw [decide_eq_false hC, if_neg (by simp)]
            refine ⟨Z j, j, hj, rfl, ?_, ?_, .inl rfl⟩
            · intro i hi
              rcases List.mem_append.1 hi with hi | hi
              · exact hB ▸ h1 i hi
              · rw [List.mem_singleton.1 hi]
            · intro i hi hiv
              rcases List.mem_append.1 hi with hi | hi
              · exact (not_lt.1 hC).trans (h2 i hi (hiv.trans hB.symm))
              · rw [List.mem_singleton.1 hi]
        · rw [if_neg hB]
          have hlt : v < Z j := lt_of_le_of_ne (not_lt.1 hA) hB
          refine ⟨Z j, j, hj, rfl, ?_, ?_, .inl rfl⟩
          · intro i hi
            rcases List.mem_append.1 hi with hi | hi
            · exact (h1 i hi).trans hlt.le
            · rw [List.mem_singleton.1 hi]
          · intro i hi hiv
            rcases List.mem_append.1 hi with hi | hi
            · exact absurd (hiv ▸ h1 i hi) (not_le.2 hlt)
            · rw [List.mem_singleton.1 hi]
  obtain ⟨v, κ, hκ, he, h1, h2, h3⟩ := key L hL
  have hZ : Z κ = v := by
    rcases h3 with h | ⟨_, h⟩
    · exact h
    · exact le_antisymm (h1 κ (hall κ hκ)) (h ▸ bot_le)
  refine ⟨κ, ⟨hκ, fun j hj => hZ ▸ h1 j (hall j hj), fun j hj => ?_⟩, by rw [he]⟩
  have hj' : j < N := hj.trans hκ
  exact hZ ▸ lt_of_le_of_ne (h1 j (hall j hj')) fun e => absurd hj (not_lt.2 (h2 j (hall j hj') e))

end Cert.Hand
end
end
-- ==== Proof.KI.PureA.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Hand

open Idealize.ShloMosaic Idealize.ShloMosaic.TcCoe Idealize.SL.Sem
open Cert.KernelIdeal Cert.KernelIdeal.Gen

/-- The running maximum after a block: the larger of the one before and the block's row maximum. -/
theorem p10 (i : grid0.Coords) (x : Vec Ideal S1024x64 .f32) (W : Vec Ideal S64x2048 .f32) (lg : Vec Ideal S1024x2048 .i32) (m : Vec Ideal S1024x1 .f32) (r : Fin 1024) :
    k0_pay10 (F := Ideal) i x W lg m (ix2 r 0) = max (m (ix2 r 0)) (Finset.univ.fold max (Ideal.ofBits .f32 0xFF800000#32) fun l : Fin 2048 => k0_pay9 i x W lg (ix2 r l)) := by
  pointwise [k0_pay10]

/-- The running sum after a block: the one before rescaled to the new maximum, and the block's exponentials. -/
theorem p11 (i : grid0.Coords) (x : Vec Ideal S1024x64 .f32) (W : Vec Ideal S64x2048 .f32) (lg : Vec Ideal S1024x2048 .i32) (m s : Vec Ideal S1024x1 .f32) (r : Fin 1024) :
    k0_pay11 (F := Ideal) i x W lg m s (ix2 r 0) = s (ix2 r 0) * Ideal.exp (m (ix2 r 0) - k0_pay10 i x W lg m (ix2 r 0))
      + ∑ l : Fin 2048, Ideal.exp (k0_pay9 i x W lg (ix2 r l) - k0_pay10 i x W lg m (ix2 r 0)) := by
  pointwise [k0_pay11]

/-- A same-shape reshape changes nothing. -/
theorem p12 (v : FVec Ideal S1024x1 .f32) (r : Fin 1024) : k0_pay12 (F := Ideal) v (ix2 r 0) = v (ix2 r 0) := by
  pointwise [k0_pay12]

theorem p13 (v : FVec Ideal S1024x1 .f32) (r : Fin 1024) : k0_pay13 (F := Ideal) v (ix2 r 0) = v (ix2 r 0) := by
  pointwise [k0_pay13]

/-- The output block of the second call: masked logit minus the row's maximum minus the row's log sum. -/
theorem q3 (x : Vec Ideal S1024x64 .f32) (W : Vec Ideal S64x2048 .f32) (lg : Vec Ideal S1024x2048 .i32) (m s : Vec Ideal S1024x1 .f32) (r : Fin 1024) (l : Fin 2048) :
    k1_pay3 x W lg m s (ix2 r l) = (Scalar.select (IntOp.cmpi .ne (lg (ix2 r l)) 0#32) (∑ k : Fin 64, x (ix2 r k) * W (ix2 k l)) (Ideal.ofBits .f32 0xCE6E6B28#32))
      - m (ix2 r 0) - s (ix2 r 0) := by
  pointwise [k1_pay3]

theorem q2 (s : Vec Ideal S1024x1 .f32) (r : Fin 1024) : k1_pay2 s (ix2 r 0) = Ideal.log (s (ix2 r 0)) := by
  pointwise [k1_pay2]

end Cert.KernelIdeal.Hand
end
end
-- ==== Proof.KI.PureB.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Hand

open Idealize.ShloMosaic Idealize.ShloMosaic.TcCoe Idealize.SL.Sem
open Cert.KernelIdeal Cert.KernelIdeal.Gen

/-- The sampler's value at a column, and −∞ where the column is past the edge. -/
theorem p14 (v : IVec S1024x2048 1) (M G : Vec Ideal S1024x2048 .f32) (r : Fin 1024) (l : Fin 2048) :
    k0_pay14 (F := Ideal) v M G (ix2 r l) = Scalar.select (v (ix2 r l)) (M (ix2 r l) * (Named.named (F := Ideal) (φ := .f32) κ "inv_temp" 0x3FB6DB6E#32 : EReal) + G (ix2 r l)) (Ideal.ofBits .f32 0xFF800000#32) := by
  pointwise [k0_pay14]

/-- The block's row maximum of the sampler's values. -/
theorem p15 (v : IVec S1024x2048 1) (M G : Vec Ideal S1024x2048 .f32) (r : Fin 1024) :
    k0_pay15 (F := Ideal) v M G (ix2 r 0) = Finset.univ.fold max (Ideal.ofBits .f32 0xFF800000#32) fun l : Fin 2048 => k0_pay14 v M G (ix2 r l) := by
  pointwise [k0_pay15]

/-- The best value so far is replaced by the block's when that is strictly larger. -/
theorem p17 (v : IVec S1024x2048 1) (M G : Vec Ideal S1024x2048 .f32) (b : Vec Ideal S1024x1 .f32) (r : Fin 1024) :
    k0_pay17 (F := Ideal) v M G b b (ix2 r 0) = if b (ix2 r 0) < k0_pay15 v M G (ix2 r 0) then k0_pay15 v M G (ix2 r 0) else b (ix2 r 0) := by
  pointwise [k0_pay17, k0_pay16]

/-- The best column so far is replaced then by the block's first column attaining its maximum. -/
theorem p18 (v : IVec S1024x2048 1) (C M G : Vec Ideal S1024x2048 .f32) (b k : Vec Ideal S1024x1 .f32) (r : Fin 1024) :
    k0_pay18 (F := Ideal) C v M G b k (ix2 r 0) = if b (ix2 r 0) < k0_pay15 v M G (ix2 r 0) then
      Finset.univ.fold min (Ideal.ofBits .f32 0x7F800000#32) fun l : Fin 2048 =>
        if k0_pay14 v M G (ix2 r l) = k0_pay15 v M G (ix2 r 0) then C (ix2 r l) else Ideal.ofBits .f32 0x4BE4E1C0#32
      else k (ix2 r 0) := by
  pointwise [k0_pay18, k0_pay16]

theorem p3 (r : Fin 1024) : k0_pay3 (F := Ideal) (ix2 r 0) = Ideal.ofBits .f32 0xFF800000#32 := by
  pointwise [k0_pay3]
theorem p4 (r : Fin 1024) : k0_pay4 (F := Ideal) (ix2 r 0) = 0 := by
  pointwise [k0_pay4]
theorem p5 (r : Fin 1024) : k0_pay5 (F := Ideal) (ix2 r 0) = Ideal.ofBits .f32 0xFF800000#32 := by
  pointwise [k0_pay5]
theorem p6 (r : Fin 1024) : k0_pay6 (F := Ideal) (ix2 r 0) = 0 := by
  pointwise [k0_pay6]

end Cert.KernelIdeal.Hand
end
end
-- ==== Proof.KI.PureC.lean ====
module

public import proofs.«01_k».proof.Proof.Gen.KernelIdeal.Skeleton
public import Idealize.ShloMosaic.Lib.Pointwise
public import Idealize.ShloMosaic.PureOps.Ideal.Laws

@[expose] public section

set_option maxRecDepth 16384

noncomputable section

/-! # The literals and the elementwise payloads, over the extended reals -/

namespace Cert.KernelIdeal.Hand

open Idealize.ShloMosaic Idealize.ShloMosaic.TcCoe Idealize.SL.Sem
open Cert.KernelIdeal Cert.KernelIdeal.Gen

/-- The pattern of −∞. -/
theorem lit_bot : Ideal.ofBits .f32 0xFF800000#32 = ⊥ := by simp [Ideal.ofBits, Ideal.ieee]
/-- The pattern of +∞. -/
theorem lit_top : Ideal.ofBits .f32 0x7F800000#32 = ⊤ := by simp [Ideal.ofBits, Ideal.ieee]
/-- The pattern of the column count. -/
theorem lit_n : Ideal.ofBits .f32 0x47C35000#32 = ((100000 : ℝ) : EReal) := by
  simp [Ideal.ofBits, Ideal.ieee]; norm_num
  rw [← EReal.coe_mul]; norm_num
/-- The pattern of the index no column reaches. -/
theorem lit_big : Ideal.ofBits .f32 0x4BE4E1C0#32 = ((30000000 : ℝ) : EReal) := by
  simp [Ideal.ofBits, Ideal.ieee]; norm_num
  rw [← EReal.coe_mul]; norm_num
/-- The pattern of the value an illegal action is given. -/
theorem lit_mask : Ideal.ofBits .f32 0xCE6E6B28#32 = ((-1000000000 : ℝ) : EReal) := by
  simp [Ideal.ofBits, Ideal.ieee]; norm_num
  rw [← EReal.coe_pow, ← EReal.coe_mul]; norm_num
/-- The pattern of the temperature. -/
theorem lit_temp : Ideal.ofBits .f32 0x3F333333#32 = ((11744051 / 16777216 : ℝ) : EReal) := by
  simp [Ideal.ofBits, Ideal.ieee]; norm_num
  rw [← EReal.coe_mul]; norm_num
/-- The named inverse temperature. -/
theorem lit_inv : (Named.named (F := Ideal) (φ := .f32) κ "inv_temp" 0x3FB6DB6E#32 : EReal) = ((16777216 / 11744051 : ℝ) : EReal) := by
  rfl

/-- A small natural number's 32-bit pattern, read signed. -/
theorem toInt_ofNat {n : ℕ} (h : n < 2 ^ 31) : (BitVec.ofNat 32 n).toInt = n := by
  rw [BitVec.toInt_eq_toNat_of_lt] <;> simp [BitVec.toNat_ofNat] <;> omega

/-- The column index as a float, read back as a 32-bit integer. -/
theorem p1 (v : Vec Ideal S1024x1 .f32) (r : Fin 1024) (k : ℕ) (hk : k < 100000) (h : v (ix2 r 0) = ((k : ℝ) : EReal)) :
    k0_pay1 (F := Ideal) v (ix2 r 0) = BitVec.ofNat 32 k := by
  have e : k0_pay1 (F := Ideal) v (ix2 r 0) = Ideal.fptosi 32 (v (ix2 r 0)) := by
    pointwise [k0_pay1]
    rfl
  rw [e, h]
  have : Ideal.toIntClamped (-(2 ^ (32 - 1) : Nat)) ((2 ^ (32 - 1) : Nat) - 1) ((k : ℝ) : EReal) = (k : ℤ) := by
    rw [Ideal.toIntClamped_coe, if_pos (Nat.cast_nonneg k), Int.floor_natCast]
    norm_num
    omega
  rw [Ideal.fptosi, this, BitVec.ofInt_natCast]

/-- The embedding rows, each weighted by whether it is the row asked for, sum to the row asked for. -/
theorem row_sum (b : BitVec 32) (p : Fin 32) (hb : b = BitVec.ofNat 32 p.val) (f : Fin 32 → EReal) :
    (∑ x : Fin 32, ((((BitVec.setWidth 32 (IntOp.cmpi .eq b (BitVec.ofNat 32 x.val))).toInt : ℝ) : EReal)) * f x) = f p := by
  rw [Finset.sum_eq_single p]
  · subst hb
    simp [IntOp.cmpi]
  · intro x _ hx
    have : ¬ (b = BitVec.ofNat 32 x.val) := by
      subst hb
      intro e
      have := congrArg BitVec.toNat e
      simp [BitVec.toNat_ofNat] at this
      exact hx (Fin.ext (by omega))
    have hf : (b == BitVec.ofNat 32 x.val) = false := by simpa using this
    simp [IntOp.cmpi, hf]
  · simp

/-- The shifted observation: the observation plus the row of the embedding its piece names. -/
theorem p2 (ids : Vec Ideal S1024x1 .i32) (pe : Vec Ideal S32x64 .f32) (obs : Vec Ideal S1024x64 .f32) (r : Fin 1024) (d : Fin 64)
    (p : Fin 32) (hp : ids (ix2 r 0) = BitVec.ofNat 32 p.val) :
    k0_pay2 ids pe obs (ix2 r d) = obs (ix2 r d) + pe (ix2 p d) := by
  have e : k0_pay2 ids pe obs (ix2 r d) = obs (ix2 r d) +
      ∑ x : Fin 32, ((((BitVec.setWidth 32 (IntOp.cmpi .eq (ids (ix2 r 0)) (BitVec.ofNat 32 x.val))).toInt : ℝ) : EReal)) * pe (ix2 x d) := by
    pointwise [k0_pay2]
    rfl
  rw [e, row_sum _ p hp]

/-- A block's column indices, as floats. -/
theorem p7 (i : grid0.Coords) (r : Fin 1024) (l : Fin 2048) :
    k0_pay7 (F := Ideal) i (ix2 r l) = (((2048 * (i 0).val + l.val : ℕ) : ℝ) : EReal) := by
  have e : k0_pay7 (F := Ideal) i (ix2 r l) = (((BitVec.ofNat 32 (i 0).val * 2048#32).toInt : ℝ) : EReal) + (((BitVec.ofNat 32 l.val).toInt : ℝ) : EReal) := by
    pointwise [k0_pay7]
    rfl
  have hi : (i 0).val < 49 := (i 0).isLt
  have hl : l.val < 2048 := l.isLt
  have e1 : BitVec.ofNat 32 (i 0).val * 2048#32 = BitVec.ofNat 32 (2048 * (i 0).val) := by
    rw [mul_comm, ← BitVec.ofNat_mul]
  rw [e, e1, toInt_ofNat (by omega), toInt_ofNat (by omega), ← EReal.coe_add]
  push_cast
  rfl

/-- Whether a block's column is a column of the problem. -/
theorem p8 (i : grid0.Coords) (r : Fin 1024) (l : Fin 2048) :
    k0_pay8 (F := Ideal) i (ix2 r l) = BitVec.ofBool (decide (2048 * (i 0).val + l.val < 100000)) := by
  have e : k0_pay8 (F := Ideal) i (ix2 r l) = BitVec.ofBool (decide (k0_pay7 (F := Ideal) i (ix2 r l) < Ideal.ofBits .f32 0x47C35000#32)) := by
    pointwise [k0_pay8]
  rw [e, p7, lit_n]
  congr 1
  rw [decide_eq_decide, EReal.coe_lt_coe_iff]
  exact_mod_cast Iff.rfl

/-- The masked logits at a block's column. -/
theorem p9 (i : grid0.Coords) (x : Vec Ideal S1024x64 .f32) (W : Vec Ideal S64x2048 .f32) (lg : Vec Ideal S1024x2048 .i32) (r : Fin 1024) (l : Fin 2048) :
    k0_pay9 (F := Ideal) i x W lg (ix2 r l) = if 2048 * (i 0).val + l.val < 100000 then
      (if lg (ix2 r l) ≠ 0#32 then ∑ k : Fin 64, x (ix2 r k) * W (ix2 k l) else ((-1000000000 : ℝ) : EReal)) else ⊥ := by
  have e : k0_pay9 (F := Ideal) i x W lg (ix2 r l) = Scalar.select (IntOp.andi (k0_pay8 (F := Ideal) i (ix2 r l)) (IntOp.cmpi .ne (lg (ix2 r l)) 0#32))
      (∑ k : Fin 64, x (ix2 r k) * W (ix2 k l))
      (Scalar.select (k0_pay8 (F := Ideal) i (ix2 r l)) (Ideal.ofBits .f32 0xCE6E6B28#32) (Ideal.ofBits .f32 0xFF800000#32)) := by
    pointwise [k0_pay9]
  rw [e, p8, lit_mask, lit_bot]
  by_cases h : 2048 * (i 0).val + l.val < 100000 <;> by_cases h' : lg (ix2 r l) = 0#32
  · simp [h, h', Scalar.select, IntOp.andi, IntOp.cmpi]
  · have hf : (lg (ix2 r l) != 0#32) = true := by simpa using h'
    simp [h, h', hf, Scalar.select, IntOp.andi, IntOp.cmpi]
  · simp [h, h', Scalar.select, IntOp.andi, IntOp.cmpi]
  · simp [h, h', Scalar.select, IntOp.andi, IntOp.cmpi]

/-- The sampler's value at a column, and −∞ where the column is past the edge. -/
theorem p14_val (v : IVec S1024x2048 1) (M G : Vec Ideal S1024x2048 .f32) (r : Fin 1024) (l : Fin 2048) :
    k0_pay14 (F := Ideal) v M G (ix2 r l) = Scalar.select (v (ix2 r l)) (M (ix2 r l) * ((16777216 / 11744051 : ℝ) : EReal) + G (ix2 r l)) ⊥ := by
  rw [← lit_inv, ← lit_bot]
  pointwise [k0_pay14]

end Cert.KernelIdeal.Hand
end
end
-- ==== Proof.KI.Left.lean ====
/-
  What the two calls leave, element by element: the first call's results are the columns of a scratch reachable after the last
  point, and each element of the second call's result is an element of a block computed from blocks of the legal mask and of the
  weights.
-/
module

public import proofs.«01_k».proof.Proof.KI.Run
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

variable {F : FTy → Type} [FloatOps F] [Named F] [∀ e, Nonempty (Elt F e)]

variable (V : (c : Dev nD) → (b : Ref sig .tc) → Buf (Elt F) ((c : Thread nD τ).loc b)) (c : Dev nD)

/-! ## The windows' blocks -/

theorem xsize0_3 : ∀ t : Fin cfg0.N, (cfg0.win 3).xsize (grid0.coords t) 0 = 1024 ∧ (cfg0.win 3).xsize (grid0.coords t) 1 = min 2048 (100000 - 2048 * t.val) := by
  decide +kernel

theorem index0_3 : ∀ t : Fin cfg0.N, (cfg0.win 3).index t 0 = 0 ∧ (cfg0.win 3).index t 1 = t.val := by
  decide +kernel

/-- Window 3 of call 0 after its fetch at point `t`, at an element inside the array. -/
theorem fill0_3 (t : Fin cfg0.N) (d : Vec F S1024x2048 .i32) (i : S1024x2048.Idx) (k : S1024x100000.Idx) (h0 : (k 0).val = (i 0).val)
    (h1 : (k 1).val = 2048 * t.val + (i 1).val) :
    (cfg0.win 3).fill (grid0.coords t) d (blk0 V c 3 t) i = V c main_v13 k := by
  have hx := xsize0_3 t
  have hi := index0_3 t
  have hk0 : (k 0).val < 1024 := (k 0).isLt
  have hk1 : (k 1).val < 100000 := (k 1).isLt
  have hi1 : (i 1).val < 2048 := (i 1).isLt
  have hm : (cfg0.win 3).moved (grid0.coords t) i = true := ((cfg0.win 3).moved_iff (grid0.coords t) i).mpr fun a => by
    match a with
    | ⟨0, _⟩ => exact lt_of_lt_of_eq (h0 ▸ hk0) hx.1.symm
    | ⟨1, _⟩ => exact lt_of_lt_of_eq (show (i 1).val < min 2048 (100000 - 2048 * t.val) by omega) hx.2.symm
  unfold Pipeline.Window.fill
  rw [dif_pos hm]
  show V c main_v13 _ = V c main_v13 k
  congr 1
  funext a
  refine Fin.ext (((cfg0.win 3).rect_emb_val_off t _ a).trans ?_)
  match a with
  | ⟨0, _⟩ =>
    show (cfg0.win 3).index t 0 * _ + (i 0).val = (k 0).val
    rw [hi.1, h0]; omega
  | ⟨1, _⟩ =>
    show (cfg0.win 3).index t 1 * 2048 + (i 1).val = (k 1).val
    rw [hi.2, h1]; omega

theorem xsize0_4 : ∀ t : Fin cfg0.N, (cfg0.win 4).xsize (grid0.coords t) 0 = 64 ∧ (cfg0.win 4).xsize (grid0.coords t) 1 = min 2048 (100000 - 2048 * t.val) := by
  decide +kernel

theorem index0_4 : ∀ t : Fin cfg0.N, (cfg0.win 4).index t 0 = 0 ∧ (cfg0.win 4).index t 1 = t.val := by
  decide +kernel

/-- Window 4 of call 0 after its fetch at point `t`, at an element inside the array. -/
theorem fill0_4 (t : Fin cfg0.N) (d : Vec F S64x2048 .f32) (i : S64x2048.Idx) (k : S64x100000.Idx) (h0 : (k 0).val = (i 0).val)
    (h1 : (k 1).val = 2048 * t.val + (i 1).val) :
    (cfg0.win 4).fill (grid0.coords t) d (blk0 V c 4 t) i = V c main_arg3 k := by
  have hx := xsize0_4 t
  have hi := index0_4 t
  have hk0 : (k 0).val < 64 := (k 0).isLt
  have hk1 : (k 1).val < 100000 := (k 1).isLt
  have hi1 : (i 1).val < 2048 := (i 1).isLt
  have hm : (cfg0.win 4).moved (grid0.coords t) i = true := ((cfg0.win 4).moved_iff (grid0.coords t) i).mpr fun a => by
    match a with
    | ⟨0, _⟩ => exact lt_of_lt_of_eq (h0 ▸ hk0) hx.1.symm
    | ⟨1, _⟩ => exact lt_of_lt_of_eq (show (i 1).val < min 2048 (100000 - 2048 * t.val) by omega) hx.2.symm
  unfold Pipeline.Window.fill
  rw [dif_pos hm]
  show V c main_arg3 _ = V c main_arg3 k
  congr 1
  funext a
  refine Fin.ext (((cfg0.win 4).rect_emb_val_off t _ a).trans ?_)
  match a with
  | ⟨0, _⟩ =>
    show (cfg0.win 4).index t 0 * _ + (i 0).val = (k 0).val
    rw [hi.1, h0]; omega
  | ⟨1, _⟩ =>
    show (cfg0.win 4).index t 1 * 2048 + (i 1).val = (k 1).val
    rw [hi.2, h1]; omega

theorem xsize0_5 : ∀ t : Fin cfg0.N, (cfg0.win 5).xsize (grid0.coords t) 0 = 1024 ∧ (cfg0.win 5).xsize (grid0.coords t) 1 = min 2048 (100000 - 2048 * t.val) := by
  decide +kernel

theorem index0_5 : ∀ t : Fin cfg0.N, (cfg0.win 5).index t 0 = 0 ∧ (cfg0.win 5).index t 1 = t.val := by
  decide +kernel

/-- Window 5 of call 0 after its fetch at point `t`, at an element inside the array. -/
theorem fill0_5 (t : Fin cfg0.N) (d : Vec F S1024x2048 .f32) (i : S1024x2048.Idx) (k : S1024x100000.Idx) (h0 : (k 0).val = (i 0).val)
    (h1 : (k 1).val = 2048 * t.val + (i 1).val) :
    (cfg0.win 5).fill (grid0.coords t) d (blk0 V c 5 t) i = V c main_v12 k := by
  have hx := xsize0_5 t
  have hi := index0_5 t
  have hk0 : (k 0).val < 1024 := (k 0).isLt
  have hk1 : (k 1).val < 100000 := (k 1).isLt
  have hi1 : (i 1).val < 2048 := (i 1).isLt
  have hm : (cfg0.win 5).moved (grid0.coords t) i = true := ((cfg0.win 5).moved_iff (grid0.coords t) i).mpr fun a => by
    match a with
    | ⟨0, _⟩ => exact lt_of_lt_of_eq (h0 ▸ hk0) hx.1.symm
    | ⟨1, _⟩ => exact lt_of_lt_of_eq (show (i 1).val < min 2048 (100000 - 2048 * t.val) by omega) hx.2.symm
  unfold Pipeline.Window.fill
  rw [dif_pos hm]
  show V c main_v12 _ = V c main_v12 k
  congr 1
  funext a
  refine Fin.ext (((cfg0.win 5).rect_emb_val_off t _ a).trans ?_)
  match a with
  | ⟨0, _⟩ =>
    show (cfg0.win 5).index t 0 * _ + (i 0).val = (k 0).val
    rw [hi.1, h0]; omega
  | ⟨1, _⟩ =>
    show (cfg0.win 5).index t 1 * 2048 + (i 1).val = (k 1).val
    rw [hi.2, h1]; omega

theorem xsize1_3 : ∀ t : Fin cfg1.N, (cfg1.win 3).xsize (grid1.coords t) 0 = 1024 ∧ (cfg1.win 3).xsize (grid1.coords t) 1 = min 2048 (100000 - 2048 * t.val) := by
  decide +kernel

theorem index1_3 : ∀ t : Fin cfg1.N, (cfg1.win 3).index t 0 = 0 ∧ (cfg1.win 3).index t 1 = t.val := by
  decide +kernel

/-- Window 3 of call 1 after its fetch at point `t`, at an element inside the array. -/
theorem fill1_3 (t : Fin cfg1.N) (d : Vec F S1024x2048 .i32) (i : S1024x2048.Idx) (k : S1024x100000.Idx) (h0 : (k 0).val = (i 0).val)
    (h1 : (k 1).val = 2048 * t.val + (i 1).val) :
    (cfg1.win 3).fill (grid1.coords t) d (blk1 V c 3 t) i = V c main_v15 k := by
  have hx := xsize1_3 t
  have hi := index1_3 t
  have hk0 : (k 0).val < 1024 := (k 0).isLt
  have hk1 : (k 1).val < 100000 := (k 1).isLt
  have hi1 : (i 1).val < 2048 := (i 1).isLt
  have hm : (cfg1.win 3).moved (grid1.coords t) i = true := ((cfg1.win 3).moved_iff (grid1.coords t) i).mpr fun a => by
    match a with
    | ⟨0, _⟩ => exact lt_of_lt_of_eq (h0 ▸ hk0) hx.1.symm
    | ⟨1, _⟩ => exact lt_of_lt_of_eq (show (i 1).val < min 2048 (100000 - 2048 * t.val) by omega) hx.2.symm
  unfold Pipeline.Window.fill
  rw [dif_pos hm]
  show V c main_v15 _ = V c main_v15 k
  congr 1
  funext a
  refine Fin.ext (((cfg1.win 3).rect_emb_val_off t _ a).trans ?_)
  match a with
  | ⟨0, _⟩ =>
    show (cfg1.win 3).index t 0 * _ + (i 0).val = (k 0).val
    rw [hi.1, h0]; omega
  | ⟨1, _⟩ =>
    show (cfg1.win 3).index t 1 * 2048 + (i 1).val = (k 1).val
    rw [hi.2, h1]; omega

theorem xsize1_4 : ∀ t : Fin cfg1.N, (cfg1.win 4).xsize (grid1.coords t) 0 = 64 ∧ (cfg1.win 4).xsize (grid1.coords t) 1 = min 2048 (100000 - 2048 * t.val) := by
  decide +kernel

theorem index1_4 : ∀ t : Fin cfg1.N, (cfg1.win 4).index t 0 = 0 ∧ (cfg1.win 4).index t 1 = t.val := by
  decide +kernel

/-- Window 4 of call 1 after its fetch at point `t`, at an element inside the array. -/
theorem fill1_4 (t : Fin cfg1.N) (d : Vec F S64x2048 .f32) (i : S64x2048.Idx) (k : S64x100000.Idx) (h0 : (k 0).val = (i 0).val)
    (h1 : (k 1).val = 2048 * t.val + (i 1).val) :
    (cfg1.win 4).fill (grid1.coords t) d (blk1 V c 4 t) i = V c main_arg3 k := by
  have hx := xsize1_4 t
  have hi := index1_4 t
  have hk0 : (k 0).val < 64 := (k 0).isLt
  have hk1 : (k 1).val < 100000 := (k 1).isLt
  have hi1 : (i 1).val < 2048 := (i 1).isLt
  have hm : (cfg1.win 4).moved (grid1.coords t) i = true := ((cfg1.win 4).moved_iff (grid1.coords t) i).mpr fun a => by
    match a with
    | ⟨0, _⟩ => exact lt_of_lt_of_eq (h0 ▸ hk0) hx.1.symm
    | ⟨1, _⟩ => exact lt_of_lt_of_eq (show (i 1).val < min 2048 (100000 - 2048 * t.val) by omega) hx.2.symm
  unfold Pipeline.Window.fill
  rw [dif_pos hm]
  show V c main_arg3 _ = V c main_arg3 k
  congr 1
  funext a
  refine Fin.ext (((cfg1.win 4).rect_emb_val_off t _ a).trans ?_)
  match a with
  | ⟨0, _⟩ =>
    show (cfg1.win 4).index t 0 * _ + (i 0).val = (k 0).val
    rw [hi.1, h0]; omega
  | ⟨1, _⟩ =>
    show (cfg1.win 4).index t 1 * 2048 + (i 1).val = (k 1).val
    rw [hi.2, h1]; omega

theorem zero0_0 : ∀ t : Fin cfg0.N, (cfg0.win 0).index t 0 = 0 ∧ (cfg0.win 0).index t 1 = 0 := by
  decide +kernel

/-- Window 0 of call 0 is its whole array. -/
theorem in0_eq (t : Fin cfg0.N) (i : S1024x64.Idx) : in0 V c t i = V c main_arg0 i := by
  have hi := zero0_0 t
  show V c main_arg0 _ = V c main_arg0 i
  congr 1
  funext a
  refine Fin.ext (((cfg0.win 0).rect_emb_val_off t _ a).trans ?_)
  match a with
  | ⟨0, _⟩ =>
    show (cfg0.win 0).index t 0 * _ + (i 0).val = (i 0).val
    rw [hi.1]; omega
  | ⟨1, _⟩ =>
    show (cfg0.win 0).index t 1 * _ + (i 1).val = (i 1).val
    rw [hi.2]; omega

theorem zero0_1 : ∀ t : Fin cfg0.N, (cfg0.win 1).index t 0 = 0 ∧ (cfg0.win 1).index t 1 = 0 := by
  decide +kernel

/-- Window 1 of call 0 is its whole array. -/
theorem in1_eq (t : Fin cfg0.N) (i : S1024x1.Idx) : in1 V c t i = V c main_v0 i := by
  have hi := zero0_1 t
  show V c main_v0 _ = V c main_v0 i
  congr 1
  funext a
  refine Fin.ext (((cfg0.win 1).rect_emb_val_off t _ a).trans ?_)
  match a with
  | ⟨0, _⟩ =>
    show (cfg0.win 1).index t 0 * _ + (i 0).val = (i 0).val
    rw [hi.1]; omega
  | ⟨1, _⟩ =>
    show (cfg0.win 1).index t 1 * _ + (i 1).val = (i 1).val
    rw [hi.2]; omega

theorem zero0_2 : ∀ t : Fin cfg0.N, (cfg0.win 2).index t 0 = 0 ∧ (cfg0.win 2).index t 1 = 0 := by
  decide +kernel

/-- Window 2 of call 0 is its whole array. -/
theorem in2_eq (t : Fin cfg0.N) (i : S32x64.Idx) : in2 V c t i = V c main_arg4 i := by
  have hi := zero0_2 t
  show V c main_arg4 _ = V c main_arg4 i
  congr 1
  funext a
  refine Fin.ext (((cfg0.win 2).rect_emb_val_off t _ a).trans ?_)
  match a with
  | ⟨0, _⟩ =>
    show (cfg0.win 2).index t 0 * _ + (i 0).val = (i 0).val
    rw [hi.1]; omega
  | ⟨1, _⟩ =>
    show (cfg0.win 2).index t 1 * _ + (i 1).val = (i 1).val
    rw [hi.2]; omega

theorem zero1_0 : ∀ t : Fin cfg1.N, (cfg1.win 0).index t 0 = 0 ∧ (cfg1.win 0).index t 1 = 0 := by
  decide +kernel

/-- Window 0 of call 1 is its whole array. -/
theorem out0_eq (i : S1024x64.Idx) : out0 V c i = V c main_arg0 i := by
  have hi := zero1_0 z1
  show V c main_arg0 _ = V c main_arg0 i
  congr 1
  funext a
  refine Fin.ext (((cfg1.win 0).rect_emb_val_off z1 _ a).trans ?_)
  match a with
  | ⟨0, _⟩ =>
    show (cfg1.win 0).index z1 0 * _ + (i 0).val = (i 0).val
    rw [hi.1]; omega
  | ⟨1, _⟩ =>
    show (cfg1.win 0).index z1 1 * _ + (i 1).val = (i 1).val
    rw [hi.2]; omega

theorem zero1_1 : ∀ t : Fin cfg1.N, (cfg1.win 1).index t 0 = 0 ∧ (cfg1.win 1).index t 1 = 0 := by
  decide +kernel

/-- Window 1 of call 1 is its whole array. -/
theorem out1_eq (i : S1024x1.Idx) : out1 V c i = V c main_v0 i := by
  have hi := zero1_1 z1
  show V c main_v0 _ = V c main_v0 i
  congr 1
  funext a
  refine Fin.ext (((cfg1.win 1).rect_emb_val_off z1 _ a).trans ?_)
  match a with
  | ⟨0, _⟩ =>
    show (cfg1.win 1).index z1 0 * _ + (i 0).val = (i 0).val
    rw [hi.1]; omega
  | ⟨1, _⟩ =>
    show (cfg1.win 1).index z1 1 * _ + (i 1).val = (i 1).val
    rw [hi.2]; omega

theorem zero1_2 : ∀ t : Fin cfg1.N, (cfg1.win 2).index t 0 = 0 ∧ (cfg1.win 2).index t 1 = 0 := by
  decide +kernel

/-- Window 2 of call 1 is its whole array. -/
theorem out2_eq (i : S32x64.Idx) : out2 V c i = V c main_arg4 i := by
  have hi := zero1_2 z1
  show V c main_arg4 _ = V c main_arg4 i
  congr 1
  funext a
  refine Fin.ext (((cfg1.win 2).rect_emb_val_off z1 _ a).trans ?_)
  match a with
  | ⟨0, _⟩ =>
    show (cfg1.win 2).index z1 0 * _ + (i 0).val = (i 0).val
    rw [hi.1]; omega
  | ⟨1, _⟩ =>
    show (cfg1.win 2).index z1 1 * _ + (i 1).val = (i 1).val
    rw [hi.2]; omega

theorem zero1_5 : ∀ t : Fin cfg1.N, (cfg1.win 5).index t 0 = 0 ∧ (cfg1.win 5).index t 1 = 0 := by
  decide +kernel

/-- Window 5 of call 1 is its whole array. -/
theorem out5_eq (i : S1024x1.Idx) : out5 V c i = V c main_v14_0 i := by
  have hi := zero1_5 z1
  show V c main_v14_0 _ = V c main_v14_0 i
  congr 1
  funext a
  refine Fin.ext (((cfg1.win 5).rect_emb_val_off z1 _ a).trans ?_)
  match a with
  | ⟨0, _⟩ =>
    show (cfg1.win 5).index z1 0 * _ + (i 0).val = (i 0).val
    rw [hi.1]; omega
  | ⟨1, _⟩ =>
    show (cfg1.win 5).index z1 1 * _ + (i 1).val = (i 1).val
    rw [hi.2]; omega

theorem zero1_6 : ∀ t : Fin cfg1.N, (cfg1.win 6).index t 0 = 0 ∧ (cfg1.win 6).index t 1 = 0 := by
  decide +kernel

/-- Window 6 of call 1 is its whole array. -/
theorem out6_eq (i : S1024x1.Idx) : out6 V c i = V c main_v14_1 i := by
  have hi := zero1_6 z1
  show V c main_v14_1 _ = V c main_v14_1 i
  congr 1
  funext a
  refine Fin.ext (((cfg1.win 6).rect_emb_val_off z1 _ a).trans ?_)
  match a with
  | ⟨0, _⟩ =>
    show (cfg1.win 6).index z1 0 * _ + (i 0).val = (i 0).val
    rw [hi.1]; omega
  | ⟨1, _⟩ =>
    show (cfg1.win 6).index z1 1 * _ + (i 1).val = (i 1).val
    rw [hi.2]; omega

/-! ## The results -/

/-- The first call's result 0, at the end. -/
theorem left0_6 (G : Vec F S1024x1 .f32) (hG : (rdat0 (U := UU) V c).ArrAt 6 cfg0.N G) :
    ∃ σ : Scr F, Reach V c 49 σ ∧ ∀ i : S1024x1.Idx, G i = (σ.m) i := by
  obtain ⟨X, hX, hv⟩ := Pipeline.RDat.ArrAt.emb_eq_of_wholeAt hG (t₀ := ⟨48, by decide⟩) (by decide +kernel)
  obtain ⟨σ, hσ, rfl⟩ := (Dat.toRRel_leaves (dat0 (U := UU) V c) rfl hX : Rl0 V c 6 _ X) rfl
  exact ⟨σ, hσ, fun i => hv i⟩

/-- The first call's result 1, at the end. -/
theorem left0_7 (G : Vec F S1024x1 .f32) (hG : (rdat0 (U := UU) V c).ArrAt 7 cfg0.N G) :
    ∃ σ : Scr F, Reach V c 49 σ ∧ ∀ i : S1024x1.Idx, G i = (σ.s) i := by
  obtain ⟨X, hX, hv⟩ := Pipeline.RDat.ArrAt.emb_eq_of_wholeAt hG (t₀ := ⟨48, by decide⟩) (by decide +kernel)
  obtain ⟨σ, hσ, rfl⟩ := (Dat.toRRel_leaves (dat0 (U := UU) V c) rfl hX : Rl0 V c 7 _ X) rfl
  exact ⟨σ, hσ, fun i => hv i⟩

/-- The first call's result 2, at the end. -/
theorem left0_8 (G : Vec F S1024x1 .i32) (hG : (rdat0 (U := UU) V c).ArrAt 8 cfg0.N G) :
    ∃ σ : Scr F, Reach V c 49 σ ∧ ∀ i : S1024x1.Idx, G i = (k0_pay1 σ.k) i := by
  obtain ⟨X, hX, hv⟩ := Pipeline.RDat.ArrAt.emb_eq_of_wholeAt hG (t₀ := ⟨48, by decide⟩) (by decide +kernel)
  obtain ⟨σ, hσ, rfl⟩ := (Dat.toRRel_leaves (dat0 (U := UU) V c) rfl hX : Rl0 V c 8 _ X) rfl
  exact ⟨σ, hσ, fun i => hv i⟩

theorem index1_7 : ∀ t : Fin cfg1.N, (cfg1.win 7).index t 0 = 0 ∧ (cfg1.win 7).index t 1 = t.val := by
  decide +kernel

/-- The second call's result, at the end: an element inside block `t`. -/
theorem left1_7 (G : Vec F S1024x100000 .f32) (hG : (rdat1 (U := UU) V c).ArrAt 7 cfg1.N G) (i : S1024x100000.Idx) :
    ∃ (t : Fin cfg1.N) (j : S1024x2048.Idx) (d3 : Vec F S1024x2048 .i32) (d4 : Vec F S64x2048 .f32),
      (i 0).val = (j 0).val ∧ (i 1).val = 2048 * t.val + (j 1).val ∧
      G i = k1_pay3 (state1 V c) ((cfg1.win 4).fill (grid1.coords t) d4 (blk1 V c 4 t)) ((cfg1.win 3).fill (grid1.coords t) d3 (blk1 V c 3 t))
        (out5 V c) (lse1 V c) j := by
  obtain ⟨X, hX, hA⟩ := Pipeline.RDat.ArrAt.exists_exact hG
  have e := hA (Function.update (fun _ _ _ => Classical.arbitrary _) 7 X) fun u _ _ => by rw [Function.update_self]
  rw [e]
  refine Dat.arrAt_forall_of_covers ((rdat1 (U := UU) V c).withAfter (Function.update (fun _ _ _ => Classical.arbitrary _) 7 X)) 7 (fun (i : S1024x100000.Idx) (v : F .f32) => ∃ (t : Fin cfg1.N) (j : S1024x2048.Idx) (d3 : Vec F S1024x2048 .i32) (d4 : Vec F S64x2048 .f32),
      (i 0).val = (j 0).val ∧ (i 1).val = 2048 * t.val + (j 1).val ∧
      v = k1_pay3 (state1 V c) ((cfg1.win 4).fill (grid1.coords t) d4 (blk1 V c 4 t)) ((cfg1.win 3).fill (grid1.coords t) d3 (blk1 V c 3 t))
        (out5 V c) (lse1 V c) j) (by decide +kernel) (fun t hf y => ?_) i
  obtain ⟨d3, d4, hv⟩ := (Dat.toRRel_leaves (dat1 (U := UU) V c) rfl (hX t t.isLt hf) : Rl1 V c 7 t (X t))
  refine ⟨t, (cfg1.win 7).xinj (grid1.coords t) y, d3, d4, ?_, ?_, ?_⟩
  · refine ((cfg1.win 7).rect_emb_val_off t y 0).trans ?_
    show (cfg1.win 7).index t 0 * _ + (y 0).val = (y 0).val
    rw [(index1_7 t).1]; omega
  · refine ((cfg1.win 7).rect_emb_val_off t y 1).trans ?_
    show (cfg1.win 7).index t 1 * 2048 + (y 1).val = 2048 * t.val + (y 1).val
    rw [(index1_7 t).2]; omega
  · rw [Pipeline.RDat.withAfter_after, Function.update_self, hv]; rfl

end Cert.KernelIdeal.Hand

end
-- ==== Proof.KI.Value.lean ====
/-
  The statistics call's scratch, row by row: after every block it holds the maximum and the sum of exponentials of the masked
  logits over the columns so far, and the best of the sampler's values with the first column attaining it.
-/
module

public import proofs.«01_k».proof.Proof.Math
public import proofs.«01_k».proof.Proof.KI.PureA
public import proofs.«01_k».proof.Proof.KI.PureB
public import proofs.«01_k».proof.Proof.KI.PureC
public import proofs.«01_k».proof.Proof.KI.Left

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- The masked logits of a row, continued by −∞ past the last column. -/
def rowA (x : Fin 64 → EReal) (W : Fin 64 → Fin 100000 → EReal) (lg : Fin 100000 → BitVec 32) (j : ℕ) : EReal :=
  if h : j < 100000 then (if lg ⟨j, h⟩ ≠ 0#32 then ∑ k : Fin 64, x k * W k ⟨j, h⟩ else ((-1000000000 : ℝ) : EReal)) else ⊥

/-- The sampler's values of a row, continued by −∞ past the last column. -/
def rowZ (A : ℕ → EReal) (g : Fin 100000 → EReal) (j : ℕ) : EReal :=
  if h : j < 100000 then A j * ((16777216 / 11744051 : ℝ) : EReal) + g ⟨j, h⟩ else ⊥

section
variable {F : FTy → Type} [FloatOps F] [Named F] (i : grid0.Coords) (σ : Scr F) (X4 : Vec F S1024x2048 .i32) (X5 : Vec F S64x2048 .f32) (X6 : Vec F S1024x2048 .f32)
theorem step_x : (σ.step i X4 X5 X6).x = σ.x := by unfold Scr.step; rfl
theorem step_m : (σ.step i X4 X5 X6).m = k0_pay13 (k0_pay10 i σ.x X5 X4 σ.m) := by unfold Scr.step; rfl
theorem step_s : (σ.step i X4 X5 X6).s = k0_pay12 (k0_pay11 i σ.x X5 X4 σ.m σ.s) := by unfold Scr.step; rfl
theorem step_b : (σ.step i X4 X5 X6).b = k0_pay17 (k0_pay8 (F := F) i) (k0_pay9 i σ.x X5 X4) X6 σ.b σ.b := by unfold Scr.step; rfl
theorem step_k : (σ.step i X4 X5 X6).k = k0_pay18 (k0_pay7 i) (k0_pay8 (F := F) i) (k0_pay9 i σ.x X5 X4) X6 σ.b σ.k := by unfold Scr.step; rfl
end

/-- What row `r` of the scratch holds after `n` blocks. -/
structure Inv (r : Fin 1024) (x : Fin 64 → EReal) (A Z : ℕ → EReal) (n : ℕ) (σ : Scr Ideal) : Prop where
  hx : ∀ d, σ.x (ix2 r d) = x d
  st : Stats A (2048 * n) (σ.m (ix2 r 0)) (σ.s (ix2 r 0))
  best : ∃ κ : ℕ, σ.k (ix2 r 0) = ((κ : ℝ) : EReal) ∧ Best Z (2048 * n) (σ.b (ix2 r 0)) κ

/-- The first point's setting of the scratch. -/
theorem inv_init (r : Fin 1024) (X1 : Vec Ideal S1024x64 .f32) (X2 : Vec Ideal S1024x1 .i32) (X3 : Vec Ideal S32x64 .f32)
    (p : Fin 32) (hp : X2 (ix2 r 0) = BitVec.ofNat 32 p.val) (A Z : ℕ → EReal) :
    Inv r (fun d => X1 (ix2 r d) + X3 (ix2 p d)) A Z 0 (Scr.init X1 X2 X3) where
  hx d := p2 X2 X3 X1 r d p hp
  st := by
    show Stats A 0 (k0_pay3 (F := Ideal) (ix2 r 0)) (k0_pay4 (F := Ideal) (ix2 r 0))
    rw [p3, p4, lit_bot]
    exact Stats.init A
  best := by
    refine ⟨0, ?_, ?_⟩
    · show k0_pay6 (F := Ideal) (ix2 r 0) = _
      rw [p6]
      simp
    · show Best Z 0 (k0_pay5 (F := Ideal) (ix2 r 0)) 0
      rw [p5, lit_bot]
      exact Best.init Z

/-- One block. -/
theorem inv_step (r : Fin 1024) (x : Fin 64 → EReal) (W : Fin 64 → Fin 100000 → EReal) (lg : Fin 100000 → BitVec 32) (g : Fin 100000 → EReal)
    (hT : ∀ j, rowA x W lg j ≠ ⊤) (h0 : rowA x W lg 0 ≠ ⊥)
    (n : ℕ) (hn : n < 49) (i : grid0.Coords) (hi : (i 0).val = n) (σ : Scr Ideal)
    (X4 : Vec Ideal S1024x2048 .i32) (X5 : Vec Ideal S64x2048 .f32) (X6 : Vec Ideal S1024x2048 .f32)
    (h4 : ∀ (l : Fin 2048) (h : 2048 * n + l.val < 100000), X4 (ix2 r l) = lg ⟨2048 * n + l.val, h⟩)
    (h5 : ∀ (k : Fin 64) (l : Fin 2048) (h : 2048 * n + l.val < 100000), X5 (ix2 k l) = W k ⟨2048 * n + l.val, h⟩)
    (h6 : ∀ (l : Fin 2048) (h : 2048 * n + l.val < 100000), X6 (ix2 r l) = g ⟨2048 * n + l.val, h⟩)
    (hσ : Inv r x (rowA x W lg) (rowZ (rowA x W lg) g) n σ) :
    Inv r x (rowA x W lg) (rowZ (rowA x W lg) g) (n + 1) (σ.step i X4 X5 X6) := by
  have h9 : ∀ l : Fin 2048, k0_pay9 (F := Ideal) i σ.x X5 X4 (ix2 r l) = rowA x W lg (2048 * n + l.val) := fun l => by
    rw [p9, hi, rowA]
    by_cases h : 2048 * n + l.val < 100000
    · rw [if_pos h, dif_pos h, h4 l h]
      refine if_congr Iff.rfl (Finset.sum_congr rfl fun k _ => ?_) rfl
      rw [hσ.hx, h5 k l h]
    · rw [if_neg h, dif_neg h]
  have h14 : ∀ l : Fin 2048, k0_pay14 (F := Ideal) (k0_pay8 (F := Ideal) i) (k0_pay9 (F := Ideal) i σ.x X5 X4) X6 (ix2 r l)
      = rowZ (rowA x W lg) g (2048 * n + l.val) := fun l => by
    rw [p14_val, p8, hi, h9, rowZ]
    by_cases h : 2048 * n + l.val < 100000
    · rw [dif_pos h, h6 l h, decide_eq_true h]
      rfl
    · rw [dif_neg h, decide_eq_false h]
      rfl
  have e : 2048 * (n + 1) = 2048 * n + 2048 := Nat.mul_succ 2048 n
  have h10 : k0_pay10 (F := Ideal) i σ.x X5 X4 σ.m (ix2 r 0) = max (σ.m (ix2 r 0)) (Finset.univ.fold max ⊥ fun l : Fin 2048 => rowA x W lg (2048 * n + l.val)) := by
    rw [p10, lit_bot]
    simp only [h9]
  have h15 : k0_pay15 (F := Ideal) (k0_pay8 (F := Ideal) i) (k0_pay9 (F := Ideal) i σ.x X5 X4) X6 (ix2 r 0)
      = Finset.univ.fold max ⊥ fun l : Fin 2048 => rowZ (rowA x W lg) g (2048 * n + l.val) := by
    rw [p15, lit_bot]
    simp only [h14]
  refine ⟨hσ.hx, ?_, ?_⟩
  · rw [step_m, step_s, p13, p12, p11, h10, e]
    simp only [h9]
    exact hσ.st.step hT h0 (by norm_num)
  · obtain ⟨κ, hk, hb⟩ := hσ.best
    obtain ⟨κ', h1, h2⟩ := hb.step (B := 2048) (by norm_num) 30000000 (by
      have : 2048 * n + 2048 ≤ 30000000 := by omega
      exact_mod_cast this) _ rfl
    refine ⟨κ', ?_, ?_⟩
    · rw [step_k, p18, h15, lit_top, lit_big, hk, ← h1]
      simp only [h14, p7, hi]
    · rw [step_b, p17, h15, e]
      exact h2

theorem coords0 : ∀ t : Fin cfg0.N, (grid0.coords t 0).val = t.val := by decide +kernel
theorem first_iff : ∀ n : Fin 49, first n.val ↔ n.val = 0 := by decide +kernel

variable (V : (c : Dev nD) → (b : Ref sig .tc) → Buf (Elt Ideal) ((c : Thread nD τ).loc b)) (c : Dev nD)

/-- Row `r`'s state: the observation plus row `p` of the embedding. -/
def xOf (obs : Vec Ideal S1024x64 .f32) (pe : Vec Ideal S32x64 .f32) (r : Fin 1024) (p : Fin 32) (d : Fin 64) : EReal :=
  obs (ix2 r d) + pe (ix2 p d)
/-- The weights, by feature and column. -/
def wOf (W : Vec Ideal S64x100000 .f32) (k : Fin 64) (j : Fin 100000) : EReal := W (ix2 k j)
/-- Row `r` of the legal mask. -/
def lgOf (L : Vec Ideal S1024x100000 .i32) (r : Fin 1024) (j : Fin 100000) : BitVec 32 := L (ix2 r j)
/-- Row `r` of the noise. -/
def gOf (G : Vec Ideal S1024x100000 .f32) (r : Fin 1024) (j : Fin 100000) : EReal := G (ix2 r j)
/-- Row `r`'s masked logits. -/
abbrev aOf (r : Fin 1024) (p : Fin 32) : ℕ → EReal := rowA (xOf (V c main_arg0) (V c main_arg4) r p) (wOf (V c main_arg3)) (lgOf (V c main_v13) r)
/-- Row `r`'s sampler values. -/
abbrev zOf (r : Fin 1024) (p : Fin 32) : ℕ → EReal := rowZ (aOf V c r p) (gOf (V c main_v12) r)

/-- Every scratch reachable after `n` blocks holds the row's running values. -/
theorem inv_reach (r : Fin 1024) (p : Fin 32) (hp : (V c main_v0 : Vec Ideal S1024x1 .i32) (ix2 r 0) = BitVec.ofNat 32 p.val)
    (hT : ∀ j, aOf V c r p j ≠ ⊤) (h0 : aOf V c r p 0 ≠ ⊥) :
    ∀ (n : ℕ) (σ : Scr Ideal), Reach V c n σ → n = 0 ∨ Inv r (xOf (V c main_arg0) (V c main_arg4) r p) (aOf V c r p) (zOf V c r p) n σ := by
  intro n
  induction n with
  | zero => intro _ _; exact .inl rfl
  | succ n ih =>
    rintro σ' ⟨σ, hσ, hn, d3, d4, d5, rfl⟩
    right
    have hn' : n < 49 := hn
    have hc : (grid0.coords ⟨n, hn⟩ 0).val = n := coords0 ⟨n, hn⟩
    have hentry : Inv r (xOf (V c main_arg0) (V c main_arg4) r p) (aOf V c r p) (zOf V c r p) n
        (Scr.entry (grid0.coords ⟨n, hn⟩) (in0 V c ⟨n, hn⟩) (in1 V c ⟨n, hn⟩) (in2 V c ⟨n, hn⟩) σ) := by
      have hf := first_iff ⟨n, hn'⟩
      unfold Scr.entry
      rw [hc]
      by_cases h : n = 0
      · rw [if_pos (hf.2 h)]
        subst h
        have := inv_init r (in0 V c ⟨0, hn⟩) (in1 V c ⟨0, hn⟩) (in2 V c ⟨0, hn⟩) p ((in1_eq V c ⟨0, hn⟩ (ix2 r 0)).trans hp) (aOf V c r p) (zOf V c r p)
        have e : (fun d : Fin 64 => in0 V c ⟨0, hn⟩ (ix2 r d) + in2 V c ⟨0, hn⟩ (ix2 p d)) = xOf (V c main_arg0) (V c main_arg4) r p := funext fun d => by
          rw [in0_eq, in2_eq]
          rfl
        rw [e] at this
        exact this
      · rw [if_neg fun h' => h (hf.1 h')]
        exact (ih σ hσ).resolve_left h
    refine inv_step r (xOf (V c main_arg0) (V c main_arg4) r p) (wOf (V c main_arg3)) (lgOf (V c main_v13) r) (gOf (V c main_v12) r) hT h0 n hn' _ hc _ _ _ _ ?_ ?_ ?_ hentry
    · intro l h
      exact fill0_3 V c ⟨n, hn⟩ d3 (ix2 r l) (ix2 r ⟨2048 * n + l.val, h⟩) rfl rfl
    · intro k l h
      exact fill0_4 V c ⟨n, hn⟩ d4 (ix2 k l) (ix2 k ⟨2048 * n + l.val, h⟩) rfl rfl
    · intro l h
      exact fill0_5 V c ⟨n, hn⟩ d5 (ix2 r l) (ix2 r ⟨2048 * n + l.val, h⟩) rfl rfl

/-- After the last block: the row's maximum, its sum of exponentials, and its arg-max as a 32-bit integer. -/
theorem reach_last (r : Fin 1024) (p : Fin 32) (hp : (V c main_v0 : Vec Ideal S1024x1 .i32) (ix2 r 0) = BitVec.ofNat 32 p.val)
    (hT : ∀ j, aOf V c r p j ≠ ⊤) (h0 : aOf V c r p 0 ≠ ⊥) (σ : Scr Ideal) (hσ : Reach V c 49 σ) :
    σ.m (ix2 r 0) = (Finset.univ.fold max ⊥ fun j : Fin 100000 => aOf V c r p j.val)
      ∧ σ.s (ix2 r 0) = (∑ j : Fin 100000, Ideal.exp (aOf V c r p j.val - Finset.univ.fold max ⊥ fun j : Fin 100000 => aOf V c r p j.val))
      ∧ ∃ κ, First (zOf V c r p) 100000 κ ∧ k0_pay1 (F := Ideal) σ.k (ix2 r 0) = BitVec.ofNat 32 κ := by
  have h := (inv_reach V c r p hp hT h0 49 σ hσ).resolve_left (by norm_num)
  have hs : Stats (aOf V c r p) (100000 + 352) (σ.m (ix2 r 0)) (σ.s (ix2 r 0)) := h.st
  obtain ⟨h1, h2⟩ := hs.final (by norm_num) hT h0 fun j hj => by rw [aOf, rowA, dif_neg (not_lt.2 hj)]
  obtain ⟨κ, hk, hb⟩ := h.best
  have hf := hb.final (N := 100000) (by norm_num) (by norm_num) fun j hj => by rw [zOf, rowZ, dif_neg (not_lt.2 hj)]
  exact ⟨h1, by rw [h2, h1], κ, hf, p1 σ.k r κ hf.lt hk⟩

end Cert.KernelIdeal.Hand
end
end
-- ==== Proof.KI.Final.lean ====
/-
  The kernel program's two results, element by element, from its arguments' contents: the log-probabilities, and the first column
  attaining the row's best sampler value.
-/
module

public import proofs.«01_k».proof.Proof.KI.Value
public import Idealize.ShloMosaic.Lib.StableHlo.RunRead

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (c : Dev nD)

/-- The calls' operands that no host line writes are the arguments. -/
theorem v3_arg0 : Vr (V3 m) c main_arg0 = m ((c : Thread nD τ).loc main_arg0) :=
  (V3_of m c main_arg0 (by decide)).trans ((V2_of m c main_arg0 (by decide)).trans (V1_of m c main_arg0 (by decide)))
theorem v3_arg3 : Vr (V3 m) c main_arg3 = m ((c : Thread nD τ).loc main_arg3) :=
  (V3_of m c main_arg3 (by decide)).trans ((V2_of m c main_arg3 (by decide)).trans (V1_of m c main_arg3 (by decide)))
theorem v3_arg4 : Vr (V3 m) c main_arg4 = m ((c : Thread nD τ).loc main_arg4) :=
  (V3_of m c main_arg4 (by decide)).trans ((V2_of m c main_arg4 (by decide)).trans (V1_of m c main_arg4 (by decide)))
theorem v3_arg2 : Vr (V3 m) c main_arg2 = m ((c : Thread nD τ).loc main_arg2) :=
  (V3_of m c main_arg2 (by decide)).trans ((V2_of m c main_arg2 (by decide)).trans (V1_of m c main_arg2 (by decide)))
theorem v2_arg2 : V2 m c (Proc.devRef .tc main_arg2) = m ((c : Thread nD τ).loc main_arg2) :=
  (V2_of m c main_arg2 (by decide)).trans (V1_of m c main_arg2 (by decide))

/-- The legal mask, widened. -/
theorem v3_v13 : (Vr (V3 m) c main_v13 : Vec Ideal S1024x100000 .i32) = extui 32 (m ((c : Thread nD τ).loc main_arg2) : IVec S1024x100000 1) natLt_1_32 := by
  have h : ∀ W : Valuation τ sig (Elt Ideal), (StableHlo.after hostOps0_2 W (Proc.devRef .tc main_v13) : Vec Ideal S1024x100000 .i32)
      = extui 32 (W (Proc.devRef .tc main_arg2) : IVec S1024x100000 1) natLt_1_32 := fun W => by
    after_reads_simp
  rw [← v2_arg2 m c]
  exact h (V2 m c)

/-- The identifiers, as a column. -/
theorem v3_v0 : (Vr (V3 m) c main_v0 : Vec Ideal S1024x1 .i32) = shapeCast S1024x1 (m ((c : Thread nD τ).loc main_arg1) : IVec S1024 32) shapeCasts_S1024_S1024x1 := by
  have h : ∀ W : Valuation τ sig (Elt Ideal), (StableHlo.after hostOps0 W (Proc.devRef .tc main_v0) : Vec Ideal S1024x1 .i32)
      = shapeCast S1024x1 (W (Proc.devRef .tc main_arg1) : IVec S1024 32) shapeCasts_S1024_S1024x1 := fun W => by
    after_reads_simp
    rfl
  exact ((V3_of m c main_v0 (by decide)).trans (V2_of m c main_v0 (by decide))).trans (h (V0 m c))

/-- The column's element. -/
theorem v3_v0_at (r : Fin 1024) : (Vr (V3 m) c main_v0 : Vec Ideal S1024x1 .i32) (ix2 r 0) = (m ((c : Thread nD τ).loc main_arg1) : IVec S1024 32) (ix1 r) := by
  rw [v3_v0]
  generalize (m ((c : Thread nD τ).loc main_arg1) : IVec S1024 32) = x
  pointwise

section
variable {m c}
variable (γ : Left1 m c)

/-- The column of the row's arg-max, in the last result. -/
theorem v17_at (r : Fin 1024) : (StableHlo.after hostOps2 γ.1 (Proc.devRef .tc main_v17) : IVec S1024 32) (ix1 r)
    = (γ.1 (Proc.devRef .tc main_v14_2) : IVec S1024x1 32) (ix2 r 0) := by
  have h : ∀ W : Valuation τ sig (Elt Ideal), (StableHlo.after hostOps2 W (Proc.devRef .tc main_v17) : IVec S1024 32)
      = shapeCast S1024 (W (Proc.devRef .tc main_v14_2) : IVec S1024x1 32) shapeCasts_S1024x1_S1024 := fun W => by
    after_reads_simp
    rfl
  rw [h]
  generalize (γ.1 (Proc.devRef .tc main_v14_2) : IVec S1024x1 32) = x
  pointwise

variable (r : Fin 1024) (p : Fin 32) (hp : (m ((c : Thread nD τ).loc main_arg1) : IVec S1024 32) (ix1 r) = BitVec.ofNat 32 p.val)
  (hT : ∀ j, aOf (Vr (V3 m)) c r p j ≠ ⊤) (h0 : aOf (Vr (V3 m)) c r p 0 ≠ ⊥)
include hp hT h0

/-- The second result: the first column attaining the row's best sampler value. -/
theorem result1 : ∃ κ, First (zOf (Vr (V3 m)) c r p) 100000 κ
    ∧ (StableHlo.after hostOps2 γ.1 (Proc.devRef .tc main_v17) : IVec S1024 32) (ix1 r) = BitVec.ofNat 32 κ := by
  obtain ⟨W, W0, hW0, hW⟩ := γ
  have e : W (Proc.devRef .tc main_v14_2) = W0 (Proc.devRef .tc main_v14_2) :=
    (hW.off main_v14_2 (by decide)).trans (StableHlo.after_of_writes_sub hostOps1 _ hostOps1_writes (by decide))
  obtain ⟨σ, hσ, hv⟩ := left0_8 (Vr (V3 m)) c _ (hW0.arr 8)
  obtain ⟨_, _, κ, hκ, hk⟩ := reach_last (Vr (V3 m)) c r p ((v3_v0_at m c r).trans hp) hT h0 σ hσ
  refine ⟨κ, hκ, (v17_at _ r).trans ?_⟩
  show (W (Proc.devRef .tc main_v14_2) : IVec S1024x1 32) (ix2 r 0) = _
  rw [e]
  exact (hv (ix2 r 0)).trans hk

/-- The first result: the masked logit less the row's maximum, less the logarithm of the row's sum. -/
theorem result0 (j : Fin 100000) : (StableHlo.after hostOps2 γ.1 (Proc.devRef .tc main_v16) : FVec Ideal S1024x100000 .f32) (ix2 r j)
    = aOf (Vr (V3 m)) c r p j.val - (Finset.univ.fold max ⊥ fun j : Fin 100000 => aOf (Vr (V3 m)) c r p j.val)
      - Ideal.log (∑ j : Fin 100000, Ideal.exp (aOf (Vr (V3 m)) c r p j.val - Finset.univ.fold max ⊥ fun j : Fin 100000 => aOf (Vr (V3 m)) c r p j.val)) := by
  obtain ⟨W, W0, hW0, hW⟩ := γ
  have e : StableHlo.after hostOps2 W (Proc.devRef .tc main_v16) = W (Proc.devRef .tc main_v16) :=
    StableHlo.after_of_writes_sub hostOps2 _ hostOps2_writes (by decide)
  show (StableHlo.after hostOps2 W (Proc.devRef .tc main_v16) : FVec Ideal S1024x100000 .f32) (ix2 r j) = _
  rw [e]
  have off : ∀ b : Ref sig .tc, b ≠ main_v14_0 → b ≠ main_v14_1 → b ≠ main_v14_2 → b ∉ hostOps1_W →
      Vr (fun _ => StableHlo.after hostOps1 W0) c b = Vr (V3 m) c b := fun b h1 h2 h3 h4 =>
    (StableHlo.after_of_writes_sub hostOps1 _ hostOps1_writes h4).trans (hW0.off b h1 h2 h3)
  have kept : ∀ b : Ref sig .tc, b ∉ hostOps1_W → Vr (fun _ => StableHlo.after hostOps1 W0) c b = W0 (Proc.devRef .tc b) := fun b h4 =>
    StableHlo.after_of_writes_sub hostOps1 _ hostOps1_writes h4
  have h15 : (Vr (fun _ => StableHlo.after hostOps1 W0) c main_v15 : Vec Ideal S1024x100000 .i32) = Vr (V3 m) c main_v13 := by
    have h : (StableHlo.after hostOps1 W0 (Proc.devRef .tc main_v15) : Vec Ideal S1024x100000 .i32)
        = extui 32 (W0 (Proc.devRef .tc main_arg2) : IVec S1024x100000 1) natLt_1_32 := by
      after_reads_simp
    refine h.trans ?_
    rw [v3_v13, hW0.off main_arg2 (by decide) (by decide) (by decide), ← v3_arg2 m c]
  obtain ⟨t, i, d3, d4, hi0, hi1, hv⟩ := left1_7 (Vr fun _ => StableHlo.after hostOps1 W0) c _ (hW.arr 7) (ix2 r j)
  obtain ⟨l, hi, hl'⟩ : ∃ l : Fin 2048, i = ix2 r l ∧ j.val = 2048 * t.val + l.val :=
    ⟨(i 1 : Fin 2048), funext fun a => by
      match a with
      | ⟨0, _⟩ => exact Fin.ext hi0.symm
      | ⟨1, _⟩ => rfl, hi1⟩
  refine hv.trans ?_
  have hq2 : lse1 (Vr fun _ => StableHlo.after hostOps1 W0) c (ix2 r 0) = Ideal.log (out6 (Vr fun _ => StableHlo.after hostOps1 W0) c (ix2 r 0)) := q2 _ r
  rw [hi, q3, hq2]
  obtain ⟨σ6, hσ6, hv6⟩ := left0_6 (Vr (V3 m)) c _ (hW0.arr 6)
  obtain ⟨σ7, hσ7, hv7⟩ := left0_7 (Vr (V3 m)) c _ (hW0.arr 7)
  have e6 := (reach_last (Vr (V3 m)) c r p ((v3_v0_at m c r).trans hp) hT h0 σ6 hσ6).1
  have e7 := (reach_last (Vr (V3 m)) c r p ((v3_v0_at m c r).trans hp) hT h0 σ7 hσ7).2.1
  have f5 : out5 (Vr fun _ => StableHlo.after hostOps1 W0) c (ix2 r 0) = Finset.univ.fold max ⊥ fun j : Fin 100000 => aOf (Vr (V3 m)) c r p j.val := by
    rw [out5_eq, kept main_v14_0 (by decide)]
    exact (hv6 (ix2 r 0)).trans e6
  have f6 : out6 (Vr fun _ => StableHlo.after hostOps1 W0) c (ix2 r 0) = ∑ j : Fin 100000, Ideal.exp (aOf (Vr (V3 m)) c r p j.val - Finset.univ.fold max ⊥ fun j : Fin 100000 => aOf (Vr (V3 m)) c r p j.val) := by
    rw [out6_eq, kept main_v14_1 (by decide)]
    exact (hv7 (ix2 r 0)).trans e7
  rw [f5, f6]
  refine congrArg₂ (· - ·) (congrArg₂ (· - ·) ?_ rfl) rfl
  have f3 := fill1_3 (Vr fun _ => StableHlo.after hostOps1 W0) c t d3 (ix2 r l) (ix2 r j) rfl hl'
  rw [h15] at f3
  have f4 : ∀ k : Fin 64, (cfg1.win 4).fill (grid1.coords t) d4 (blk1 (Vr fun _ => StableHlo.after hostOps1 W0) c 4 t) (ix2 k l) = wOf (Vr (V3 m) c main_arg3) k j := fun k => by
    have := fill1_4 (Vr fun _ => StableHlo.after hostOps1 W0) c t d4 (ix2 k l) (ix2 k j) rfl hl'
    rw [off main_arg3 (by decide) (by decide) (by decide) (by decide)] at this
    exact this
  have fx : ∀ k : Fin 64, state1 (Vr fun _ => StableHlo.after hostOps1 W0) c (ix2 r k) = xOf (Vr (V3 m) c main_arg0) (Vr (V3 m) c main_arg4) r p k := fun k => by
    have h1 : out1 (Vr fun _ => StableHlo.after hostOps1 W0) c (ix2 r 0) = BitVec.ofNat 32 p.val := by
      rw [out1_eq, off main_v0 (by decide) (by decide) (by decide) (by decide)]
      exact (v3_v0_at m c r).trans hp
    have := p2 (out1 (Vr fun _ => StableHlo.after hostOps1 W0) c) (out2 (Vr fun _ => StableHlo.after hostOps1 W0) c) (out0 (Vr fun _ => StableHlo.after hostOps1 W0) c) r k p h1
    rw [out0_eq, out2_eq, off main_arg0 (by decide) (by decide) (by decide) (by decide), off main_arg4 (by decide) (by decide) (by decide) (by decide)] at this
    exact this
  rw [f3, aOf, rowA, dif_pos j.isLt, lit_mask]
  simp only [f4, fx]
  show Scalar.select (IntOp.cmpi .ne (lgOf (Vr (V3 m) c main_v13) r j) 0#32) _ _ = _
  by_cases h : lgOf (Vr (V3 m) c main_v13) r j = 0#32
  · rw [if_neg (not_not.2 h), h]
    rfl
  · rw [if_pos h]
    have hf : (lgOf (Vr (V3 m) c main_v13) r j != 0#32) = true := by simpa using h
    simp [Scalar.select, IntOp.cmpi, hf]
end

end Cert.KernelIdeal.Hand
end
end
-- ==== Proof.Ref.ValueA.lean ====
module

public import proofs.«01_k».proof.Proof.Ref.Ops
public import proofs.«01_k».proof.Proof.KI.PureC
public import proofs.«01_k».proof.Proof.Math
public import Idealize.ShloMosaic.Lib.Pointwise
public import Idealize.ShloMosaic.Lib.Routing.Ops
public import Idealize.ShloMosaic.PureOps.Ideal.Laws

@[expose] public section

set_option maxRecDepth 16384

noncomputable section

/-! # What the reference's stretches compute, over the extended reals -/

namespace Cert.ReferenceIdeal.Hand

open Idealize.ShloMosaic Idealize.ShloMosaic.TcCoe Idealize.SL.Sem
open Cert.ReferenceIdeal Cert.ReferenceIdeal.Gen Cert.Hand
open Cert.KernelIdeal.Hand (lit_bot lit_top lit_mask lit_temp toInt_ofNat)

variable {F : FTy → Type} [FloatOps F]

/-! ## The embedding rows -/

/-- The row numbers as the lookup reads them: a negative one counts from the end. -/
def wrapped (ids : IVec S1024 32) : IVec S1024x1 32 :=
  broadcastInDim S1024x1 ![0] bcast_S1024_S1024x1_0 (select (cmpi .slt ids (broadcastInDim S1024 ![] bcast_S_S1024 (constantI S_ 32 0#32)))
    (addi ids (broadcastInDim S1024 ![] bcast_S_S1024 (constantI S_ 32 32#32))) ids)

/-- Whether a row number names a row of the table. -/
def inside (ids : IVec S1024 32) : IVec S1024x1 1 :=
  andi (cmpi .sge (wrapped ids) (broadcastInDim S1024x1 ![] bcast_S_S1024x1 (constantI S_ 32 0#32)))
    (cmpi .sle (wrapped ids) (broadcastInDim S1024x1 ![0, 1] bcast_S1x1_S1024x1_0_1 (broadcastInDim S1x1 ![1] bcast_S1_S1x1_1 (constantI S1 32 31#32))))

/-- Whether every row number on the line names a row. -/
def ok (ids : IVec S1024 32) : IVec S1024 1 :=
  Host.reduce IntOp.andi (inside ids) (constantI S_ 1 1#1) reducesTo_S1024x1_S1024_d1 h_S_

/-- The looked-up rows before the fill. -/
def rows (pe : FVec F S32x64 .f32) (ids : IVec S1024 32) : FVec F S1024x64 .f32 :=
  Host.gather gather_S32x64_S1024x1_S1024x64_1_0_n_n_0_1_164 pe (wrapped ids)

/-- The lookup's result. -/
def taken (pe : FVec F S32x64 .f32) (ids : IVec S1024 32) : FVec F S1024x64 .f32 :=
  select (broadcastInDim S1024x64 ![0] bcast_S1024_S1024x64_0 (ok ids)) (rows pe ids)
    (broadcastInDim S1024x64 ![] bcast_S_S1024x64 (constant (F := F) S_ .f32 0x7FC00000#32))

/-- The first stretch leaves the lookup's result. -/
theorem opsA_v0 (W : Valuation τ sig (Elt F)) : (StableHlo.after opsA W (Proc.devRef .tc main_v0) : FVec F S1024x64 .f32)
    = taken (W (Proc.devRef .tc main_arg4) : FVec F S32x64 .f32) (W (Proc.devRef .tc main_arg1) : IVec S1024 32) := by
  after_reads_simp
  chain_rfl

/-- A row number in range is read as it is. -/
theorem wrap32 : ∀ p : Fin 32, Scalar.select (IntOp.cmpi .slt (BitVec.ofNat 32 p.val) 0#32) (IntOp.addi (BitVec.ofNat 32 p.val) 32#32) (BitVec.ofNat 32 p.val) = BitVec.ofNat 32 p.val := by
  decide
/-- A row number in range passes both bounds. -/
theorem in32 : ∀ p : Fin 32, IntOp.andi (IntOp.cmpi .sge (BitVec.ofNat 32 p.val) 0#32) (IntOp.cmpi .sle (BitVec.ofNat 32 p.val) 31#32) = 1#1 := by
  decide

variable (ids : IVec S1024 32) (r : Fin 1024) (p : Fin 32) (hp : ids (ix1 r) = BitVec.ofNat 32 p.val)
include hp

/-- The wrapped row number is the row number. -/
theorem wrapped_at : wrapped ids (ix2 r 0) = BitVec.ofNat 32 p.val := by
  have e : wrapped ids (ix2 r 0) = Scalar.select (IntOp.cmpi .slt (ids (ix1 r)) 0#32) (IntOp.addi (ids (ix1 r)) 32#32) (ids (ix1 r)) := by
    pointwise [wrapped]
  rw [e, hp, wrap32]

/-- It names a row. -/
theorem inside_at : inside ids (ix2 r 0) = 1#1 := by
  have e : inside ids (ix2 r 0) = IntOp.andi (IntOp.cmpi .sge (wrapped ids (ix2 r 0)) 0#32) (IntOp.cmpi .sle (wrapped ids (ix2 r 0)) 31#32) := by
    pointwise [inside]
  rw [e, wrapped_at ids r p hp, in32]

/-- So does every row number on the line. -/
theorem ok_at : ok ids (ix1 r) = 1#1 := by
  have h : S1024x1.Reduces [1] S1024 := by decide
  rw [ok, Host.reduce_eq_fold_single _ _ _ _ h]
  have e : ∀ k : Fin 1, (inside ids ∘ h.lift (ix1 r)) k = 1#1 := fun k => by
    have : h.lift (ix1 r) k = ix2 r 0 := funext fun a => by
      match a with
      | ⟨0, _⟩ => rfl
      | ⟨1, _⟩ => exact Fin.ext (by have := k.isLt; show k.val = 0; omega)
    show inside ids (h.lift (ix1 r) k) = 1#1
    rw [this]
    exact inside_at ids r p hp
  rw [show (inside ids ∘ h.lift (ix1 r)) = fun _ => 1#1 from funext e]
  rfl

/-- The looked-up row is the named row of the table. -/
theorem taken_at (pe : FVec Ideal S32x64 .f32) (d : Fin 64) : taken pe ids (ix2 r d) = pe (ix2 p d) := by
  have e : ∀ (k : IVec S1024 1) (x : FVec Ideal S1024x64 .f32), select (broadcastInDim S1024x64 ![0] bcast_S1024_S1024x64_0 k) x
      (broadcastInDim S1024x64 ![] bcast_S_S1024x64 (constant (F := Ideal) S_ .f32 0x7FC00000#32)) (ix2 r d)
      = Scalar.select (k (ix1 r)) (x (ix2 r d)) (Ideal.ofBits .f32 0x7FC00000#32) := fun k x => by
    pointwise
  have g : rows pe ids (ix2 r d) = pe (ix2 p d) :=
    Routing.gather_row gather_S32x64_S1024x1_S1024x64_1_0_n_n_0_1_164 rfl rfl rfl rfl rfl pe (wrapped ids) r d p (wrapped_at ids r p hp) (by norm_num)
  rw [taken, e, ok_at ids r p hp, g]
  rfl
omit hp

/-! ## The masked logits -/

/-- The logits with the illegal actions' replaced. -/
def masked (obs E : FVec F S1024x64 .f32) (W : FVec F S64x100000 .f32) (lg : IVec S1024x100000 1) : FVec F S1024x100000 .f32 :=
  select lg (Host.dotGeneral (F := F) (φ₁ := .f32) (φ₂ := .f32) dot_S1024x64_S64x100000_S1024x100000_1_0_0_1_n_n none (addf obs E) W)
    (broadcastInDim S1024x100000 ![] bcast_S_S1024x100000 (constant (F := F) S_ .f32 0xCE6E6B28#32))

/-- A masked logit: the row's product with the column where the action is legal, −10⁹ elsewhere. -/
theorem masked_at (obs E : FVec Ideal S1024x64 .f32) (W : FVec Ideal S64x100000 .f32) (lg : IVec S1024x100000 1) (r : Fin 1024) (j : Fin 100000) :
    masked obs E W lg (ix2 r j) = Scalar.select (lg (ix2 r j)) (∑ k : Fin 64, (obs (ix2 r k) + E (ix2 r k)) * W (ix2 k j)) ((-1000000000 : ℝ) : EReal) := by
  rw [← lit_mask]
  pointwise [masked]

end Cert.ReferenceIdeal.Hand
end
end
-- ==== Proof.Ref.ValueB.lean ====
module

public import proofs.«01_k».proof.Proof.Ref.ValueA
public import proofs.«01_k».proof.Proof.KI.PureC
public import proofs.«01_k».proof.Proof.Math
public import Idealize.ShloMosaic.Lib.Pointwise
public import Idealize.ShloMosaic.Lib.Routing.Ops
public import Idealize.ShloMosaic.PureOps.Ideal.Laws

@[expose] public section

set_option maxRecDepth 16384

noncomputable section

/-! # What the reference's stretches compute, over the extended reals -/

namespace Cert.ReferenceIdeal.Hand

open Idealize.ShloMosaic Idealize.ShloMosaic.TcCoe Idealize.SL.Sem
open Cert.ReferenceIdeal Cert.ReferenceIdeal.Gen Cert.Hand
open Cert.KernelIdeal.Hand (lit_bot lit_top lit_mask lit_temp toInt_ofNat)

variable {F : FTy → Type} [FloatOps F]

/-! ## The log-softmax -/

/-- The rows' maxima. -/
def rowMax (x : FVec F S1024x100000 .f32) : FVec F S1024 .f32 :=
  Host.reduce FloatOps.maximumf x (constant (F := F) S_ .f32 0xFF800000#32) reducesTo_S1024x100000_S1024_d1 h_S_

/-- The values less a number of their row's. -/
def lessRow (x : FVec F S1024x100000 .f32) (M : FVec F S1024 .f32) : FVec F S1024x100000 .f32 :=
  subf x (broadcastInDim S1024x100000 ![0, 1] bcast_S1024x1_S1024x100000_0_1 (broadcastInDim S1024x1 ![0] bcast_S1024_S1024x1_0
    (maximumf (broadcastInDim S1024 ![] bcast_S_S1024 (constant (F := F) S_ .f32 0xFF800000#32)) M)))

/-- The values less their row's maximum. -/
def shifted (x : FVec F S1024x100000 .f32) : FVec F S1024x100000 .f32 := lessRow x (rowMax x)

/-- The rows' sums of exponentials. -/
def rowSum (x : FVec F S1024x100000 .f32) : FVec F S1024 .f32 :=
  Host.reduceAdd (Host.exp (shifted x)) (constant (F := F) S_ .f32 0x00000000#32) reducesTo_S1024x100000_S1024_d1 h_S_

/-- The values less the logarithm of a number of their row's. -/
def lessLog (x : FVec F S1024x100000 .f32) (S : FVec F S1024 .f32) : FVec F S1024x100000 .f32 :=
  subf x (broadcastInDim S1024x100000 ![0, 1] bcast_S1024x1_S1024x100000_0_1 (Host.log (broadcastInDim S1024x1 ![0] bcast_S1024_S1024x1_0 S)))

/-- The log-softmax. -/
def logSoftmax (x : FVec F S1024x100000 .f32) : FVec F S1024x100000 .f32 := lessLog (shifted x) (rowSum x)

/-- A row with a column put in. -/
theorem lift_ix2 (h : S1024x100000.Reduces [1] S1024) (r : Fin 1024) (k : Fin 100000) : h.lift (ix1 r) k = ix2 r k := funext fun a => by
  match a with
  | ⟨0, _⟩ => rfl
  | ⟨1, _⟩ => rfl

/-- Reducing the columns drops them. -/
theorem reduces : S1024x100000.Reduces [1] S1024 := by decide

variable (x : FVec Ideal S1024x100000 .f32)

/-- A row's maximum. -/
theorem rowMax_at (r : Fin 1024) : rowMax x (ix1 r) = Finset.univ.fold max ⊥ fun j : Fin 100000 => x (ix2 r j) := by
  rw [rowMax, Host.reduce_eq_fold_single _ _ _ _ reduces]
  show Finset.univ.fold max (Ideal.ofBits .f32 0xFF800000#32) (fun k : Fin 100000 => x (reduces.lift (ix1 r) k)) = _
  rw [lit_bot]
  simp only [lift_ix2]

/-- A value less its row's maximum. -/
theorem shifted_at (r : Fin 1024) (j : Fin 100000) : shifted x (ix2 r j) = x (ix2 r j) - Finset.univ.fold max ⊥ fun j : Fin 100000 => x (ix2 r j) := by
  have e : ∀ M : FVec Ideal S1024 .f32, lessRow x M (ix2 r j) = x (ix2 r j) - max (Ideal.ofBits .f32 0xFF800000#32) (M (ix1 r)) := fun M => by
    pointwise [lessRow]
  rw [shifted, e, lit_bot, rowMax_at, max_eq_right bot_le]

/-- A row's sum of exponentials. -/
theorem rowSum_at (r : Fin 1024) : rowSum x (ix1 r) = ∑ j : Fin 100000, Ideal.exp (x (ix2 r j) - Finset.univ.fold max ⊥ fun j : Fin 100000 => x (ix2 r j)) := by
  have e : rowSum x (ix1 r) = Ideal.ofBits .f32 0x00000000#32 + ∑ k : Fin 100000, Ideal.exp (shifted x (reduces.lift (ix1 r) k)) :=
    Ideal.hostReduceAdd_single reducesTo_S1024x100000_S1024_d1 reduces (Host.exp (shifted x)) _ (ix1 r)
  rw [e, Ideal.ofBits_zero_f32, zero_add]
  simp only [lift_ix2, shifted_at]

/-- An element of the log-softmax. -/
theorem logSoftmax_at (r : Fin 1024) (j : Fin 100000) : logSoftmax x (ix2 r j) = x (ix2 r j) - (Finset.univ.fold max ⊥ fun j : Fin 100000 => x (ix2 r j))
    - Ideal.log (∑ j : Fin 100000, Ideal.exp (x (ix2 r j) - Finset.univ.fold max ⊥ fun j : Fin 100000 => x (ix2 r j))) := by
  have e : ∀ (y : FVec Ideal S1024x100000 .f32) (S : FVec Ideal S1024 .f32), lessLog y S (ix2 r j) = y (ix2 r j) - Ideal.log (S (ix1 r)) := fun y S => by
    pointwise [lessLog]
  rw [logSoftmax, e, shifted_at, rowSum_at]

end Cert.ReferenceIdeal.Hand
end
end
-- ==== Proof.Ref.ValueC.lean ====
module

public import proofs.«01_k».proof.Proof.Ref.ValueB
public import proofs.«01_k».proof.Proof.KI.PureC
public import proofs.«01_k».proof.Proof.Math
public import Idealize.ShloMosaic.Lib.Pointwise
public import Idealize.ShloMosaic.Lib.Routing.Ops
public import Idealize.ShloMosaic.PureOps.Ideal.Laws

@[expose] public section

set_option maxRecDepth 16384

noncomputable section

/-! # What the reference's stretches compute, over the extended reals -/

namespace Cert.ReferenceIdeal.Hand

open Idealize.ShloMosaic Idealize.ShloMosaic.TcCoe Idealize.SL.Sem
open Cert.ReferenceIdeal Cert.ReferenceIdeal.Gen Cert.Hand
open Cert.KernelIdeal.Hand (lit_bot lit_top lit_mask lit_temp toInt_ofNat)

variable {F : FTy → Type} [FloatOps F]

/-! ## The temperature, the noise and the arg-max -/

/-- The third stretch leaves the log-probabilities over the temperature. -/
theorem opsC_v6 (W : Valuation τ sig (Elt Ideal)) (r : Fin 1024) (j : Fin 100000) : (StableHlo.after opsC W (Proc.devRef .tc main_v6) : FVec Ideal S1024x100000 .f32) (ix2 r j)
    = (show EReal from (W (Proc.devRef .tc main_v4) : FVec Ideal S1024x100000 .f32) (ix2 r j)) * ((16777216 / 11744051 : ℝ) : EReal) := by
  have h : (StableHlo.after opsC W (Proc.devRef .tc main_v6) : FVec Ideal S1024x100000 .f32)
      = Host.divf (W (Proc.devRef .tc main_v4) : FVec Ideal S1024x100000 .f32) (broadcastInDim S1024x100000 ![] bcast_S_S1024x100000 (constant (F := Ideal) S_ .f32 0x3F333333#32)) := by
    after_reads_simp
  rw [h]
  generalize (W (Proc.devRef .tc main_v4) : FVec Ideal S1024x100000 .f32) = x
  have e : Host.divf x (broadcastInDim S1024x100000 ![] bcast_S_S1024x100000 (constant (F := Ideal) S_ .f32 0x3F333333#32)) (ix2 r j)
      = Ideal.div (x (ix2 r j)) (Ideal.ofBits .f32 0x3F333333#32) := by
    pointwise
  rw [e, lit_temp, Ideal.div_coe (by norm_num)]
  norm_num

/-- The columns' numbers. -/
def cols : IVec S1024x100000 32 := iotaInDim S1024x100000 32 1

/-- The arg-max's value and column. -/
def best (x : FVec F S1024x100000 .f32) : S1024.Idx → F .f32 × BitVec 32 :=
  Host.argReduce (reducer_argmax_f32_i32 (F := F)) x cols (constant (F := F) S_ .f32 0xFF800000#32) (constantI S_ 32 0#32)
    reducesTo_S1024x100000_S1024_d1 h_S_

/-- The noise, as the samples give it. -/
def noise (u : FVec F S1024x100000 .f32) : FVec F S1024x100000 .f32 := Host.negf (Host.log (Host.negf (Host.log u)))

/-- The reducer keeps the larger value, and of two equal values the smaller column. -/
theorem reducer_eq (a b : EReal × BitVec 32) : reducer_argmax_f32_i32 (F := Ideal) a b = pick a b := by
  obtain ⟨a1, a2⟩ := a
  obtain ⟨b1, b2⟩ := b
  show (Scalar.select (IntOp.ori (Ideal.cmp .ogt a1 b1) (Ideal.cmp .une a1 a1)) a1 b1,
    Scalar.select (IntOp.ori (IntOp.ori (Ideal.cmp .ogt a1 b1) (Ideal.cmp .une a1 a1)) (IntOp.andi (Ideal.cmp .oeq a1 b1) (IntOp.cmpi .slt a2 b2))) a2 b2) = _
  rcases lt_trichotomy b1 a1 with h | h | h
  · have e : ∀ w : BitVec 1, 1#1 ||| w = 1#1 := by decide
    simp [pick, Ideal.cmp, h, Scalar.select, IntOp.ori, IntOp.andi, e]
  · subst h
    by_cases h' : a2.slt b2 <;> simp [pick, Ideal.cmp, Scalar.select, IntOp.ori, IntOp.andi, IntOp.cmpi, h']
  · simp [pick, Ideal.cmp, h.not_gt, h.ne, Scalar.select, IntOp.ori, IntOp.andi, IntOp.cmpi]

/-- The column left is the first attaining the row's largest value. -/
theorem argmax_at (x : FVec Ideal S1024x100000 .f32) (r : Fin 1024) : ∃ κ, First (fun j => if h : j < 100000 then x (ix2 r ⟨j, h⟩) else ⊥) 100000 κ ∧ (best x (ix1 r)).2 = BitVec.ofNat 32 κ := by
  set Z : ℕ → EReal := fun j => if h : j < 100000 then x (ix2 r ⟨j, h⟩) else ⊥ with hZ
  set S := (List.finRange S1024x100000.numel).filter fun n => reducesTo_S1024x100000_S1024_d1.drop (S1024x100000.rowMajor.symm n) = ix1 r with hS
  have hdrop : reducesTo_S1024x100000_S1024_d1.drop = reduces.drop := Shape.ReducesTo.drop_eq_drop _ _
  have hi : ∀ n ∈ S, ∃ l : Fin 100000, S1024x100000.rowMajor.symm n = ix2 r l := fun n hn => by
    have h1 := of_decide_eq_true (List.mem_filter.1 hn).2
    rw [hdrop] at h1
    refine ⟨S1024x100000.rowMajor.symm n 1, ?_⟩
    have h2 := reduces.lift_drop (S1024x100000.rowMajor.symm n)
    rw [h1] at h2
    exact h2.symm.trans (lift_ix2 reduces r _)
  obtain ⟨κ, hκ, hf⟩ := fold_pick Z 100000 (by norm_num) (by norm_num) (S.map fun n => (S1024x100000.rowMajor.symm n 1).val)
    (fun j hj => by
      obtain ⟨n, hn, rfl⟩ := List.mem_map.1 hj
      exact (S1024x100000.rowMajor.symm n 1).isLt)
    (fun j hj => by
      refine List.mem_map.2 ⟨S1024x100000.rowMajor (ix2 r ⟨j, hj⟩), List.mem_filter.2 ⟨List.mem_finRange _, decide_eq_true ?_⟩, ?_⟩
      · rw [Equiv.symm_apply_apply, hdrop, ← lift_ix2 reduces]
        exact reduces.drop_lift (ix1 r) (⟨j, hj⟩ : Fin 100000)
      · rw [Equiv.symm_apply_apply]
        rfl)
  refine ⟨κ, hκ, ?_⟩
  rw [best, Ideal.argReduce_eq_reduce2, ← hf, List.foldl_map]
  show (S.foldl (fun a n => reducer_argmax_f32_i32 (F := Ideal) a (x (S1024x100000.rowMajor.symm n), cols (S1024x100000.rowMajor.symm n))) (Ideal.ofBits .f32 0xFF800000#32, 0#32)).2 = _
  rw [lit_bot]
  refine congrArg Prod.snd (List.foldl_ext _ _ _ fun a n hn => ?_)
  obtain ⟨l, hl⟩ := hi n hn
  rw [reducer_eq, hl]
  refine congrArg (pick a) (Prod.ext ?_ rfl)
  show x (ix2 r l) = Z l.val
  rw [hZ]
  simp only [dif_pos l.isLt]

end Cert.ReferenceIdeal.Hand
end
end
-- ==== Proof.Noise.lean ====
module

public import proofs.«01_k».proof.Proof.Gumbel
public import proofs.«01_k».proof.Proof.KI.Final
public import proofs.«01_k».proof.Proof.Ref.Run
public import proofs.«01_k».proof.Proof.Ref.ValueC

@[expose] public section

set_option maxRecDepth 16384

noncomputable section

/-! # The two programs' noise is one array -/

namespace Cert.Hand

open Idealize.ShloMosaic Idealize.ShloMosaic.TcCoe Idealize.SL.Sem
open Cert.KernelIdeal.Gen (V1 V2 V3 hostOps0 hostOps0_2)
open Cert.KernelIdeal.Hand (Vr)
open Cert.ReferenceIdeal.Hand (WB WC WU noise opsC)

section
variable {F : FTy → Type} [FloatOps F] (VK : Valuation Cert.KernelIdeal.τ Cert.KernelIdeal.sig (Elt F)) (VR : Valuation Cert.ReferenceIdeal.τ Cert.ReferenceIdeal.sig (Elt F))

/-- The two programs seed their samples with one key. -/
theorem key_eq : (StableHlo.after hostOps0 VK (Proc.devRef .tc Cert.KernelIdeal.main_v7) : (⟨Cert.KernelIdeal.S2, .i32⟩ : BufTy).Contents (Elt F))
    = StableHlo.after opsC VR (Proc.devRef .tc Cert.ReferenceIdeal.main_v13) := by
  after_reads_simp
  chain_rfl
/-- They take one lower bound. -/
theorem low_eq : (StableHlo.after hostOps0 VK (Proc.devRef .tc Cert.KernelIdeal.main_cst) : (⟨Cert.KernelIdeal.S_, .f32⟩ : BufTy).Contents (Elt F))
    = StableHlo.after opsC VR (Proc.devRef .tc Cert.ReferenceIdeal.main_cst_3) := by
  after_reads_simp
/-- They take one upper bound. -/
theorem high_eq : (StableHlo.after hostOps0 VK (Proc.devRef .tc Cert.KernelIdeal.main_cst_2) : (⟨Cert.KernelIdeal.S_, .f32⟩ : BufTy).Contents (Elt F))
    = StableHlo.after opsC VR (Proc.devRef .tc Cert.ReferenceIdeal.main_cst_4) := by
  after_reads_simp
/-- The kernel program makes its noise of its samples as the reference does. -/
theorem noise_of : (StableHlo.after hostOps0_2 VK (Proc.devRef .tc Cert.KernelIdeal.main_v12) : FVec F Cert.ReferenceIdeal.S1024x100000 .f32)
    = noise (VK (Proc.devRef .tc Cert.KernelIdeal.main_v8) : FVec F Cert.ReferenceIdeal.S1024x100000 .f32) := by
  after_reads_simp
  rfl
end

/-- The noise the kernel reads is the noise the reference adds. -/
theorem noise_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ) :
    @Eq (FVec Ideal Cert.ReferenceIdeal.S1024x100000 .f32) (Vr (V3 m) c Cert.KernelIdeal.main_v12)
      (noise (F := Ideal) (WU m' c (Proc.devRef .tc Cert.ReferenceIdeal.main_v14))) := by
  have h := noise_of (F := Ideal) (V2 m c)
  have hu := uniform_eq (F := Ideal) (V1 m c) (WC m' c) (key_eq _ _) (low_eq _ _) (high_eq _ _)
  exact h.trans (congrArg (noise (F := Ideal)) hu)

end Cert.Hand
end
end
-- ==== Proof.Ref.ReadB.lean ====
module

public import proofs.«01_k».proof.Proof.Ref.ValueB
public import proofs.«01_k».proof.Proof.KI.PureC
public import proofs.«01_k».proof.Proof.Math
public import Idealize.ShloMosaic.Lib.Pointwise
public import Idealize.ShloMosaic.Lib.Routing.Ops
public import Idealize.ShloMosaic.PureOps.Ideal.Laws

@[expose] public section

set_option maxRecDepth 16384

noncomputable section

/-! # What the reference's stretches compute, over the extended reals -/

namespace Cert.ReferenceIdeal.Hand

open Idealize.ShloMosaic Idealize.ShloMosaic.TcCoe Idealize.SL.Sem
open Cert.ReferenceIdeal Cert.ReferenceIdeal.Gen Cert.Hand
open Cert.KernelIdeal.Hand (lit_bot lit_top lit_mask lit_temp toInt_ofNat)

variable {F : FTy → Type} [FloatOps F]

/-- The second stretch leaves the log-softmax of the masked logits. -/
theorem opsB_v4 (W : Valuation τ sig (Elt F)) : (StableHlo.after opsB W (Proc.devRef .tc main_v4) : FVec F S1024x100000 .f32)
    = logSoftmax (masked (W (Proc.devRef .tc main_arg0) : FVec F S1024x64 .f32) (W (Proc.devRef .tc main_v0) : FVec F S1024x64 .f32)
        (W (Proc.devRef .tc main_arg3) : FVec F S64x100000 .f32) (W (Proc.devRef .tc main_arg2) : IVec S1024x100000 1)) := by
  simp only [logSoftmax, lessLog, rowSum, shifted, lessRow, rowMax, masked]
  after_reads_simp
  simp -implicitDefEqProofs only [StableHlo.TRef.toBuf, StableHlo.TRef.ofBuf, cast_cast, cast_eq]

end Cert.ReferenceIdeal.Hand
end
end
-- ==== Proof.Ref.ReadT.lean ====
module

public import proofs.«01_k».proof.Proof.Ref.ValueC
public import proofs.«01_k».proof.Proof.KI.PureC
public import proofs.«01_k».proof.Proof.Math
public import Idealize.ShloMosaic.Lib.Pointwise
public import Idealize.ShloMosaic.Lib.Routing.Ops
public import Idealize.ShloMosaic.PureOps.Ideal.Laws

@[expose] public section

set_option maxRecDepth 16384

noncomputable section

/-! # What the reference's stretches compute, over the extended reals -/

namespace Cert.ReferenceIdeal.Hand

open Idealize.ShloMosaic Idealize.ShloMosaic.TcCoe Idealize.SL.Sem
open Cert.ReferenceIdeal Cert.ReferenceIdeal.Gen Cert.Hand
open Cert.KernelIdeal.Hand (lit_bot lit_top lit_mask lit_temp toInt_ofNat)

variable {F : FTy → Type} [FloatOps F]

/-- The last stretch leaves the arg-max of the scaled values and the noise. -/
theorem opsT_v20 (W : Valuation τ sig (Elt F)) : (StableHlo.after opsT W (Proc.devRef .tc main_v20) : IVec S1024 32)
    = fun j => (best (addf (W (Proc.devRef .tc main_v6) : FVec F S1024x100000 .f32) (noise (W (Proc.devRef .tc main_v14) : FVec F S1024x100000 .f32))) j).2 := by
  simp only [best, noise, cols]
  after_reads_simp
  simp -implicitDefEqProofs only [StableHlo.TRef.toBuf, StableHlo.TRef.ofBuf, cast_cast, cast_eq]

end Cert.ReferenceIdeal.Hand
end
end
-- ==== Proof.Ref.Final.lean ====
module

public import proofs.«01_k».proof.Proof.Ref.Run
public import proofs.«01_k».proof.Proof.Ref.ReadB
public import proofs.«01_k».proof.Proof.Ref.ReadT

@[expose] public section

set_option maxRecDepth 16384

noncomputable section

/-! # The reference's two results -/

namespace Cert.ReferenceIdeal.Hand

open Idealize.ShloMosaic Idealize.ShloMosaic.TcCoe Idealize.SL.Sem
open Cert.ReferenceIdeal Cert.ReferenceIdeal.Gen Cert.Hand

variable (m : (ℓ : Loc nD τ sig) → Buf (Elt Ideal) ℓ) (c : Dev nD)

/-- The masked logits of the arguments. -/
def maskedOf : FVec Ideal S1024x100000 .f32 :=
  masked (m ((c : Thread nD τ).loc main_arg0) : FVec Ideal S1024x64 .f32)
    (taken (F := Ideal) (m ((c : Thread nD τ).loc main_arg4) : FVec Ideal S32x64 .f32) (m ((c : Thread nD τ).loc main_arg1) : IVec S1024 32))
    (m ((c : Thread nD τ).loc main_arg3) : FVec Ideal S64x100000 .f32) (m ((c : Thread nD τ).loc main_arg2) : IVec S1024x100000 1)

/-- After the second stretch the log-probabilities are the log-softmax of the masked logits. -/
theorem wb_v4 : (WB m c (Proc.devRef .tc main_v4) : FVec Ideal S1024x100000 .f32) = logSoftmax (maskedOf m c) := by
  have h0 : WA m c (Proc.devRef .tc main_arg0) = m ((c : Thread nD τ).loc main_arg0) := afterA_of (by decide +kernel) _
  have h2 : WA m c (Proc.devRef .tc main_arg2) = m ((c : Thread nD τ).loc main_arg2) := afterA_of (by decide +kernel) _
  have h3 : WA m c (Proc.devRef .tc main_arg3) = m ((c : Thread nD τ).loc main_arg3) := afterA_of (by decide +kernel) _
  have hv : (WA m c (Proc.devRef .tc main_v0) : FVec Ideal S1024x64 .f32)
      = taken (F := Ideal) (m ((c : Thread nD τ).loc main_arg4) : FVec Ideal S32x64 .f32) (m ((c : Thread nD τ).loc main_arg1) : IVec S1024 32) := opsA_v0 (W0 m c)
  rw [WB, opsB_v4, h0, h2, h3, hv]
  rfl

/-- At the end too. -/
theorem wt_v4 : (WT m c (Proc.devRef .tc main_v4) : FVec Ideal S1024x100000 .f32) = logSoftmax (maskedOf m c) :=
  (afterT_of (by decide +kernel) _).trans ((afterU_of (by decide +kernel) _).trans ((afterC_of (by decide +kernel) _).trans (wb_v4 m c)))

/-- The sampled action of a row: the first column attaining the largest of the scaled log-probability plus the noise. -/
theorem wt_v20 (r : Fin 1024) : ∃ κ, First (fun j => if h : j < 100000 then
      logSoftmax (maskedOf m c) (ix2 r ⟨j, h⟩) * ((16777216 / 11744051 : ℝ) : EReal) + noise (F := Ideal) (WU m c (Proc.devRef .tc main_v14)) (ix2 r ⟨j, h⟩) else ⊥) 100000 κ
    ∧ (WT m c (Proc.devRef .tc main_v20) : IVec S1024 32) (ix1 r) = BitVec.ofNat 32 κ := by
  have h6 : (WU m c (Proc.devRef .tc main_v6) : FVec Ideal S1024x100000 .f32) = WC m c (Proc.devRef .tc main_v6) := afterU_of (by decide +kernel) _
  obtain ⟨κ, hκ, hv⟩ := argmax_at (addf (WU m c (Proc.devRef .tc main_v6) : FVec Ideal S1024x100000 .f32) (noise (F := Ideal) (WU m c (Proc.devRef .tc main_v14) : FVec Ideal S1024x100000 .f32))) r
  refine ⟨κ, ?_, ?_⟩
  · convert hκ using 2 with j
    refine dite_congr rfl (fun h => ?_) (fun _ => rfl)
    have e := opsC_v6 (WB m c) r ⟨j, h⟩
    rw [wb_v4] at e
    have e' : @Eq EReal (logSoftmax (maskedOf m c) (ix2 r ⟨j, h⟩) * ((16777216 / 11744051 : ℝ) : EReal)) ((WU m c (Proc.devRef .tc main_v6) : FVec Ideal S1024x100000 .f32) (ix2 r ⟨j, h⟩)) := by
      rw [h6]
      exact e.symm
    exact congrArg (fun z : EReal => z + noise (F := Ideal) (WU m c (Proc.devRef .tc main_v14)) (ix2 r ⟨j, h⟩)) e'
  · rw [← hv]
    exact congrFun (opsT_v20 (WU m c)) (ix1 r)

end Cert.ReferenceIdeal.Hand
end
end
-- ==== Proof.Pre.lean ====
module

public import proofs.«01_k».proof.Pre_finite_in_range
public import proofs.«01_k».proof.Proof.KI.PureC

@[expose] public section

set_option maxRecDepth 16384

noncomputable section

/-! # What the precondition says of the arguments' elements -/

namespace Cert.Hand

open Idealize.ShloMosaic Idealize.ShloMosaic.TcCoe Idealize.SL.Sem

/-- An extended real whose absolute value is below +∞ is a real. -/
theorem real_of {x : EReal} (h : Ideal.cmp .olt (max x (-x)) (Ideal.ofBits .f32 0x7F800000#32) = 1#1) : ∃ a : ℝ, x = a := by
  rw [Cert.KernelIdeal.Hand.lit_top] at h
  have h' : max x (-x) < ⊤ := by
    by_contra hn
    simp [Ideal.cmp, hn] at h
  induction x using EReal.rec with
  | bot => simp at h'
  | coe a => exact ⟨a, rfl⟩
  | top => simp at h'

/-- A 32-bit word from 0 to 31 is one of the 32 row numbers. -/
theorem row_of {b : BitVec 32} (h : IntOp.andi (IntOp.cmpi .sge b 0#32) (IntOp.cmpi .slt b 32#32) = 1#1) : ∃ p : Fin 32, b = BitVec.ofNat 32 p.val := by
  have h1 : (0#32).sle b = true := by
    by_contra hn
    simp only [Bool.not_eq_true] at hn
    simp [IntOp.andi, IntOp.cmpi, hn] at h
  have h2 : b.slt 32#32 = true := by
    by_contra hn
    simp only [Bool.not_eq_true] at hn
    simp [IntOp.andi, IntOp.cmpi, hn] at h
  rw [BitVec.sle_iff_toInt_le] at h1
  rw [BitVec.slt_iff_toInt_lt] at h2
  have e0 : (0#32).toInt = 0 := by decide
  have e1 : (32#32).toInt = 32 := by decide
  rw [e0, BitVec.toInt_eq_toNat_cond] at h1
  rw [e1, BitVec.toInt_eq_toNat_cond] at h2
  have hb : b.toNat < 32 := by
    have := b.isLt
    split at h1 <;> rename_i hc <;> simp only [hc, if_true, if_false] at h2 <;> omega
  exact ⟨⟨b.toNat, hb⟩, by simp⟩

section
open Cert.Pre_finite_in_range
variable [Cert.Pre_finite_in_range.Facts] (a0 : FVec Ideal S1024x64 .f32) (a1 : IVec S1024 32) (a2 : IVec S1024x100000 1) (a3 : FVec Ideal S64x100000 .f32) (a4 : FVec Ideal S32x64 .f32)

/-- The observations are reals. -/
theorem pre_obs (h : (Cert.Pre_finite_in_range.fn a0 a1 a2 a3 a4).1 = fun _ => 1#1) (i : S1024x64.Idx) : ∃ a : ℝ, a0 i = (a : EReal) :=
  real_of (congrFun h i)
/-- The identifiers name rows. -/
theorem pre_ids (h : (Cert.Pre_finite_in_range.fn a0 a1 a2 a3 a4).2.1 = fun _ => 1#1) (i : S1024.Idx) : ∃ p : Fin 32, a1 i = BitVec.ofNat 32 p.val :=
  row_of (congrFun h i)
/-- The weights are reals. -/
theorem pre_wts (h : (Cert.Pre_finite_in_range.fn a0 a1 a2 a3 a4).2.2.1 = fun _ => 1#1) (i : S64x100000.Idx) : ∃ a : ℝ, a3 i = (a : EReal) :=
  real_of (congrFun h i)
/-- The embedding table's elements are reals. -/
theorem pre_emb (h : (Cert.Pre_finite_in_range.fn a0 a1 a2 a3 a4).2.2.2 = fun _ => 1#1) (i : S32x64.Idx) : ∃ a : ℝ, a4 i = (a : EReal) :=
  real_of (congrFun h i)
end

end Cert.Hand
end
end
-- ==== Proof.Result.lean ====
module

public import proofs.«01_k».proof.Proof.Noise
public import proofs.«01_k».proof.Proof.Ref.Final
public import proofs.«01_k».proof.Proof.Pre

@[expose] public section

set_option maxRecDepth 16384

noncomputable section

/-! # The two programs' results are one -/

namespace Cert.Hand

open Idealize.ShloMosaic Idealize.ShloMosaic.TcCoe Idealize.SL.Sem
open Cert.KernelIdeal.Gen (V3)
open Cert.KernelIdeal.Hand (Vr aOf zOf rowA rowZ xOf wOf lgOf gOf Left1)
open Cert.ReferenceIdeal.Hand (WT WU noise logSoftmax maskedOf)

/-- A row of log-probabilities over the temperature, with the noise added, is the kernel's sampler row moved by one real. -/
theorem shift_real (x M S t : ℝ) (g : EReal) : ((x : EReal) - M - S) * ((t : ℝ) : EReal) + g = ((x : EReal) * ((t : ℝ) : EReal) + g) + ((-(M + S) * t : ℝ) : EReal) := by
  rw [add_right_comm, ← EReal.coe_sub, ← EReal.coe_sub, ← EReal.coe_mul, ← EReal.coe_mul, ← EReal.coe_add]
  congr 2
  ring

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (r : Fin 1024) (p : Fin 32) (hp : (m ((c.tc : Thread Cert.KernelIdeal.nD Cert.KernelIdeal.τ).loc Cert.KernelIdeal.main_arg1) : IVec Cert.KernelIdeal.S1024 32) (ix1 r) = BitVec.ofNat 32 p.val)

include e0 e1 e2 e3 e4 hp in
/-- The kernel's masked logits are the reference's. -/
theorem logit_eq (j : Fin 100000) : aOf (Vr (V3 m)) c r p j.val = maskedOf m' c (ix2 r j) := by
  have hp' : (m' ((c.tc : Thread Cert.ReferenceIdeal.nD Cert.ReferenceIdeal.τ).loc Cert.ReferenceIdeal.main_arg1) : IVec Cert.ReferenceIdeal.S1024 32) (ix1 r) = BitVec.ofNat 32 p.val := by
    rw [e1]
    exact hp
  rw [maskedOf, Cert.ReferenceIdeal.Hand.masked_at]
  simp only [Cert.ReferenceIdeal.Hand.taken_at _ r p hp']
  rw [e0, e2, e3, e4, aOf, rowA, dif_pos j.isLt, Cert.KernelIdeal.Hand.v3_v13, Cert.KernelIdeal.Hand.v3_arg0, Cert.KernelIdeal.Hand.v3_arg3, Cert.KernelIdeal.Hand.v3_arg4]
  show (if BitVec.setWidth 32 ((m ((c.tc : Thread Cert.KernelIdeal.nD Cert.KernelIdeal.τ).loc Cert.KernelIdeal.main_arg2) : IVec Cert.KernelIdeal.S1024x100000 1) (ix2 r j)) ≠ 0#32 then _ else _)
    = Scalar.select ((m ((c.tc : Thread Cert.KernelIdeal.nD Cert.KernelIdeal.τ).loc Cert.KernelIdeal.main_arg2) : IVec Cert.KernelIdeal.S1024x100000 1) (ix2 r j)) _ _
  generalize (m ((c.tc : Thread Cert.KernelIdeal.nD Cert.KernelIdeal.τ).loc Cert.KernelIdeal.main_arg2) : IVec Cert.KernelIdeal.S1024x100000 1) (ix2 r j) = b
  have hb : ∀ b : BitVec 1, b = 0#1 ∨ b = 1#1 := by decide
  rcases hb b with rfl | rfl
  · rfl
  · rfl

variable (ho : ∀ i, ∃ a : ℝ, (m ((c.tc : Thread Cert.KernelIdeal.nD Cert.KernelIdeal.τ).loc Cert.KernelIdeal.main_arg0) : FVec Ideal Cert.KernelIdeal.S1024x64 .f32) i = (a : EReal))
  (hw : ∀ i, ∃ a : ℝ, (m ((c.tc : Thread Cert.KernelIdeal.nD Cert.KernelIdeal.τ).loc Cert.KernelIdeal.main_arg3) : FVec Ideal Cert.KernelIdeal.S64x100000 .f32) i = (a : EReal))
  (he : ∀ i, ∃ a : ℝ, (m ((c.tc : Thread Cert.KernelIdeal.nD Cert.KernelIdeal.τ).loc Cert.KernelIdeal.main_arg4) : FVec Ideal Cert.KernelIdeal.S32x64 .f32) i = (a : EReal))

include ho hw he in
/-- Of finite arguments every masked logit is a real. -/
theorem logit_real (j : Fin 100000) : ∃ a : ℝ, aOf (Vr (V3 m)) c r p j.val = (a : EReal) := by
  choose o ho using ho
  choose w hw using hw
  choose e he using he
  rw [aOf, rowA, dif_pos j.isLt]
  split
  · refine ⟨∑ k : Fin 64, (o (ix2 r k) + e (ix2 p k)) * w (ix2 k j), ?_⟩
    rw [← coe_sum]
    refine Finset.sum_congr rfl fun k _ => ?_
    rw [Cert.KernelIdeal.Hand.v3_arg0, Cert.KernelIdeal.Hand.v3_arg3, Cert.KernelIdeal.Hand.v3_arg4, EReal.coe_mul, EReal.coe_add, ← ho, ← hw, ← he]
    rfl
  · exact ⟨_, rfl⟩

include ho hw he in
/-- No masked logit of finite arguments is +∞. -/
theorem logit_ne_top (j : ℕ) : aOf (Vr (V3 m)) c r p j ≠ ⊤ := by
  by_cases hj : j < 100000
  · obtain ⟨a, ha⟩ := logit_real m c r p ho hw he ⟨j, hj⟩
    rw [show aOf (Vr (V3 m)) c r p j = (a : EReal) from ha]
    exact EReal.coe_ne_top a
  · rw [aOf, rowA, dif_neg hj]
    exact bot_ne_top

include ho hw he in
/-- The first masked logit of finite arguments is not −∞. -/
theorem logit_ne_bot : aOf (Vr (V3 m)) c r p 0 ≠ ⊥ := by
  obtain ⟨a, ha⟩ := logit_real m c r p ho hw he ⟨0, by norm_num⟩
  rw [show aOf (Vr (V3 m)) c r p 0 = (a : EReal) from ha]
  exact EReal.coe_ne_bot a

variable (γ : Left1 m c)

include e0 e1 e2 e3 e4 hp ho hw he in
/-- The log-probabilities, element by element. -/
theorem first_eq (j : Fin 100000) : @Eq EReal ((StableHlo.after Cert.KernelIdeal.Gen.hostOps2 γ.1 (Proc.devRef .tc Cert.KernelIdeal.main_v16) : FVec Ideal Cert.KernelIdeal.S1024x100000 .f32) (ix2 r j))
    ((WT m' c (Proc.devRef .tc Cert.ReferenceIdeal.main_v4) : FVec Ideal Cert.ReferenceIdeal.S1024x100000 .f32) (ix2 r j)) := by
  rw [Cert.ReferenceIdeal.Hand.wt_v4, Cert.ReferenceIdeal.Hand.logSoftmax_at]
  refine (Cert.KernelIdeal.Hand.result0 γ r p hp (logit_ne_top m c r p ho hw he) (logit_ne_bot m c r p ho hw he) j).trans ?_
  simp only [logit_eq m c m' e0 e1 e2 e3 e4 r p hp]

include e0 e1 e2 e3 e4 hp ho hw he in
/-- The sampled actions, row by row. -/
theorem second_eq : @Eq (BitVec 32) ((StableHlo.after Cert.KernelIdeal.Gen.hostOps2 γ.1 (Proc.devRef .tc Cert.KernelIdeal.main_v17) : IVec Cert.KernelIdeal.S1024 32) (ix1 r))
    ((WT m' c (Proc.devRef .tc Cert.ReferenceIdeal.main_v20) : IVec Cert.ReferenceIdeal.S1024 32) (ix1 r)) := by
  obtain ⟨κ, hκ, hv⟩ := Cert.KernelIdeal.Hand.result1 γ r p hp (logit_ne_top m c r p ho hw he) (logit_ne_bot m c r p ho hw he)
  obtain ⟨κ', hκ', hv'⟩ := Cert.ReferenceIdeal.Hand.wt_v20 m' c r
  have hr := logit_real m c r p ho hw he
  choose a ha using hr
  obtain ⟨M, S, hM, hS⟩ := row_real (N := 100000) (by norm_num) a
  have hs : First (zOf (Vr (V3 m)) c r p) 100000 κ' := by
    refine First.shift (-(M + S) * (16777216 / 11744051)) (fun j hj => ?_) hκ'
    have hx : ∀ i : Fin 100000, maskedOf m' c (ix2 r i) = ((a i : ℝ) : EReal) := fun i =>
      (logit_eq m c m' e0 e1 e2 e3 e4 r p hp i).symm.trans (ha i)
    rw [zOf, rowZ, dif_pos hj, show aOf (Vr (V3 m)) c r p j = ((a ⟨j, hj⟩ : ℝ) : EReal) from ha ⟨j, hj⟩]
    simp only [dif_pos hj]
    rw [Cert.ReferenceIdeal.Hand.logSoftmax_at]
    simp only [hx]
    rw [hM, hS, shift_real]
    have hn := congrFun (noise_eq m c m') (ix2 r ⟨j, hj⟩)
    exact congrArg (fun g : EReal => ((a ⟨j, hj⟩ : ℝ) : EReal) * ((16777216 / 11744051 : ℝ) : EReal) + g + _) hn.symm
  rw [hκ.unique hs] at hv
  exact hv.trans hv'.symm

end Cert.Hand
end
end
-- ==== Proof.Algebraic.lean ====
module

public import proofs.«01_k».proof.Defs
public import proofs.«01_k».proof.Proof.KI.Frame
public import proofs.«01_k».proof.Proof.Result

@[expose] public section

set_option maxRecDepth 16384

noncomputable section

/-! # The value claim -/

namespace Cert.Hand

open Idealize.ShloMosaic Idealize.ShloMosaic.TcCoe Idealize.SL.Sem
open Cert.KernelIdeal.Hand (Left1 last_of)
open Cert.ReferenceIdeal.Hand (WT kept)

variable [Cert.Pre_finite_in_range.Facts] (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)
  (hpre : Cert.Pre_KernelIdeal_finite_in_range m)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (γ : Left1 m c)
include hpre e0 e1 e2 e3 e4

/-- The first results are one array. -/
theorem first_arr : @Eq (FVec Ideal Cert.KernelIdeal.S1024x100000 .f32) (StableHlo.after Cert.KernelIdeal.Gen.hostOps2 γ.1 (Proc.devRef .tc Cert.KernelIdeal.main_v16))
    (WT m' c (Proc.devRef .tc Cert.ReferenceIdeal.main_v4)) := by
  obtain ⟨h0, h1, h3, h4⟩ := hpre c
  funext i
  obtain ⟨r, j, rfl⟩ : ∃ (r : Fin 1024) (j : Fin 100000), i = ix2 r j := ⟨i 0, i 1, funext fun a => by
    match a with
    | ⟨0, _⟩ => rfl
    | ⟨1, _⟩ => rfl⟩
  obtain ⟨p, hp⟩ := pre_ids _ _ _ _ _ h1 (ix1 r)
  exact first_eq m c m' e0 e1 e2 e3 e4 r p hp (pre_obs _ _ _ _ _ h0) (pre_wts _ _ _ _ _ h3) (pre_emb _ _ _ _ _ h4) γ j

/-- The second results are one array. -/
theorem second_arr : @Eq (IVec Cert.KernelIdeal.S1024 32) (StableHlo.after Cert.KernelIdeal.Gen.hostOps2 γ.1 (Proc.devRef .tc Cert.KernelIdeal.main_v17))
    (WT m' c (Proc.devRef .tc Cert.ReferenceIdeal.main_v20)) := by
  obtain ⟨h0, h1, h3, h4⟩ := hpre c
  funext i
  obtain ⟨r, rfl⟩ : ∃ r : Fin 1024, i = ix1 r := ⟨i 0, funext fun a => by
    match a with
    | ⟨0, _⟩ => rfl⟩
  obtain ⟨p, hp⟩ := pre_ids _ _ _ _ _ h1 (ix1 r)
  exact second_eq m c m' e0 e1 e2 e3 e4 r p hp (pre_obs _ _ _ _ _ h0) (pre_wts _ _ _ _ _ h3) (pre_emb _ _ _ _ _ h4) γ
omit hpre e0 e1 e2 e3 e4

/-- On finite arguments whose identifiers name rows, the kernel and the reference leave the same two results. -/
theorem algebraic : Cert.algebraic_KernelIdeal_ReferenceIdeal_pre_finite_in_range := by
  intro m g m' g' hpre hargs
  refine ⟨fun c => WT m' c (Proc.devRef .tc Cert.ReferenceIdeal.main_v4), fun c => WT m' c (Proc.devRef .tc Cert.ReferenceIdeal.main_v20), ?_, ?_⟩
  · refine (θ_run _ _ _).mono (fun _ ⟨h, _⟩ c => ?_) (Cert.KernelIdeal.Hand.run m g)
    obtain ⟨γ, h⟩ := h c
    obtain ⟨e0, e1, e2, e3, e4⟩ := hargs c
    exact ⟨(h Cert.KernelIdeal.main_v16 (by decide)).trans (first_arr m c m' hpre e0 e1 e2 e3 e4 γ),
      (h Cert.KernelIdeal.main_v17 (by decide)).trans (second_arr m c m' hpre e0 e1 e2 e3 e4 γ),
      (h Cert.KernelIdeal.main_arg0 (by decide)).trans (last_of m c γ Cert.KernelIdeal.main_arg0 (by decide) (by decide) (by decide) (by decide) (by decide) (by decide) (by decide)),
      (h Cert.KernelIdeal.main_arg1 (by decide)).trans (last_of m c γ Cert.KernelIdeal.main_arg1 (by decide) (by decide) (by decide) (by decide) (by decide) (by decide) (by decide)),
      (h Cert.KernelIdeal.main_arg2 (by decide)).trans (last_of m c γ Cert.KernelIdeal.main_arg2 (by decide) (by decide) (by decide) (by decide) (by decide) (by decide) (by decide)),
      (h Cert.KernelIdeal.main_arg3 (by decide)).trans (last_of m c γ Cert.KernelIdeal.main_arg3 (by decide) (by decide) (by decide) (by decide) (by decide) (by decide) (by decide)),
      (h Cert.KernelIdeal.main_arg4 (by decide)).trans (last_of m c γ Cert.KernelIdeal.main_arg4 (by decide) (by decide) (by decide) (by decide) (by decide) (by decide) (by decide))⟩
  · exact (θ_run _ _ _).mono (fun _ h c => ⟨h.1 c _, h.1 c _,
      (h.1 c Cert.ReferenceIdeal.main_arg0).trans (kept m' c (by decide +kernel) (by decide +kernel) (by decide +kernel) (by decide +kernel) (by decide +kernel)),
      (h.1 c Cert.ReferenceIdeal.main_arg1).trans (kept m' c (by decide +kernel) (by decide +kernel) (by decide +kernel) (by decide +kernel) (by decide +kernel)),
      (h.1 c Cert.ReferenceIdeal.main_arg2).trans (kept m' c (by decide +kernel) (by decide +kernel) (by decide +kernel) (by decide +kernel) (by decide +kernel)),
      (h.1 c Cert.ReferenceIdeal.main_arg3).trans (kept m' c (by decide +kernel) (by decide +kernel) (by decide +kernel) (by decide +kernel) (by decide +kernel)),
      (h.1 c Cert.ReferenceIdeal.main_arg4).trans (kept m' c (by decide +kernel) (by decide +kernel) (by decide +kernel) (by decide +kernel) (by decide +kernel))⟩) (Cert.ReferenceIdeal.Hand.run m' g')

end Cert.Hand
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Frame
public import proofs.«01_k».proof.Proof.KI.Frame
public import proofs.«01_k».proof.Proof.Ref.Run
public import proofs.«01_k».proof.Proof.Algebraic

@[expose] public section

noncomputable section

namespace Cert.Proof

open Idealize.ShloMosaic Idealize.SL.Sem

/-- The shapes the precondition broadcasts are broadcast as it states. -/
theorem preFacts : Cert.Pre_finite_in_range.Facts := ⟨by decide, by decide, by decide, by decide⟩

/-- The claims, each by its theorem: the frames from the runs, the named constant from the table, the two results by the
    value claim. A frame under the precondition is the frame without it. -/
theorem claim : Cert.Claim :=
  ⟨Cert.Kernel.Gen.facts, Cert.KernelIdeal.Gen.facts, Cert.ReferenceIdeal.Gen.facts, preFacts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    IdealRules.named_const.statement _ _ _ _ _ rfl,
    haveI := preFacts
    Cert.Hand.algebraic⟩

end Cert.Proof

end
